-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x3914F209#32 ((1 / 7040 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x7040 : Shape := ⟨3, ![4, 3072, 7040]⟩
abbrev S7040 : Shape := ⟨1, ![7040]⟩
abbrev S1920x7040 : Shape := ⟨2, ![1920, 7040]⟩
abbrev S1920 : Shape := ⟨1, ![1920]⟩
abbrev S_ : Shape := ⟨0, ![]⟩
abbrev S12288x7040 : Shape := ⟨2, ![12288, 7040]⟩
abbrev S1x7040 : Shape := ⟨2, ![1, 7040]⟩
abbrev S1x1920 : Shape := ⟨2, ![1, 1920]⟩
abbrev S1x1 : Shape := ⟨2, ![1, 1]⟩
abbrev S12288x1920 : Shape := ⟨2, ![12288, 1920]⟩
abbrev S256x7040 : Shape := ⟨2, ![256, 7040]⟩
abbrev S256x1920 : Shape := ⟨2, ![256, 1920]⟩
abbrev S2x256x7040 : Shape := ⟨3, ![2, 256, 7040]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S1x32x128 : Shape := ⟨3, ![1, 32, 128]⟩
abbrev S1x256x7040 : Shape := ⟨3, ![1, 256, 7040]⟩
abbrev S512x7040 : Shape := ⟨2, ![512, 7040]⟩
abbrev S256x512 : Shape := ⟨2, ![256, 512]⟩
abbrev S1x512 : Shape := ⟨2, ![1, 512]⟩
abbrev S384x7040 : Shape := ⟨2, ![384, 7040]⟩
abbrev S256x384 : Shape := ⟨2, ![256, 384]⟩
abbrev S1x384 : Shape := ⟨2, ![1, 384]⟩
abbrev S4x3072x1920 : Shape := ⟨3, ![4, 3072, 1920]⟩

abbrev nBuf : Space → Nat
  | .hbm => 19
  | .vmem => 15
  | .smem => 1
  | _ => 0

abbrev bufTy : (tb : Table) → Fin (tcTables nBuf tb) → BufTy
  | .hbm, ⟨0, _⟩ => ⟨S4x3072x7040, .bf16⟩
  | .hbm, ⟨1, _⟩ => ⟨S4x3072x7040, .bf16⟩
  | .hbm, ⟨2, _⟩ => ⟨S7040, .bf16⟩
  | .hbm, ⟨3, _⟩ => ⟨S1920x7040, .fp8e4m3⟩
  | .hbm, ⟨4, _⟩ => ⟨S1920, .f32⟩
  | .hbm, ⟨5, _⟩ => ⟨S_, .f32⟩
  | .hbm, ⟨6, _⟩ => ⟨S1920, .bf16⟩
  | .hbm, ⟨7, _⟩ => ⟨S12288x7040, .bf16⟩
  | .hbm, ⟨8, _⟩ => ⟨S12288x7040, .bf16⟩
  | .hbm, ⟨9, _⟩ => ⟨S1x7040, .bf16⟩
  | .hbm, ⟨10, _⟩ => ⟨S1x1920, .f32⟩
  | .hbm, ⟨11, _⟩ => ⟨S1x1, .f32⟩
  | .hbm, ⟨12, _⟩ => ⟨S1x1920, .bf16⟩
  | .hbm, ⟨13, _⟩ => ⟨S12288x1920, .bf16⟩
  | .hbm, ⟨14, _⟩ => ⟨S12288x7040, .bf16⟩
  | .hbm, ⟨15, _⟩ => ⟨S12288x7040, .fp8e4m3⟩
  | .hbm, ⟨16, _⟩ => ⟨S4x3072x1920, .bf16⟩
  | .hbm, ⟨17, _⟩ => ⟨S4x3072x7040, .bf16⟩
  | .hbm, ⟨18, _⟩ => ⟨S4x3072x7040, .fp8e4m3⟩
  | .local _ .vmem, ⟨0, _⟩ => ⟨S256x7040, .bf16⟩
  | .local _ .vmem, ⟨1, _⟩ => ⟨S256x7040, .bf16⟩
  | .local _ .vmem, ⟨2, _⟩ => ⟨S256x7040, .bf16⟩
  | .local _ .vmem, ⟨3, _⟩ => ⟨S256x7040, .bf16⟩
  | .local _ .vmem, ⟨4, _⟩ => ⟨S1x7040, .bf16⟩
  | .local _ .vmem, ⟨5, _⟩ => ⟨S1x1920, .f32⟩
  | .local _ .vmem, ⟨6, _⟩ => ⟨S1x1920, .bf16⟩
  | .local _ .vmem, ⟨7, _⟩ => ⟨S256x1920, .bf16⟩
  | .local _ .vmem, ⟨8, _⟩ => ⟨S256x1920, .bf16⟩
  | .local _ .vmem, ⟨9, _⟩ => ⟨S256x7040, .bf16⟩
  | .local _ .vmem, ⟨10, _⟩ => ⟨S256x7040, .bf16⟩
  | .local _ .vmem, ⟨11, _⟩ => ⟨S256x7040, .fp8e4m3⟩
  | .local _ .vmem, ⟨12, _⟩ => ⟨S256x7040, .fp8e4m3⟩
  | .local _ .vmem, ⟨13, _⟩ => ⟨S1920x7040, .fp8e4m3⟩
  | .local _ .vmem, ⟨14, _⟩ => ⟨S2x256x7040, .fp8e4m3⟩
  | .local _ .smem, ⟨0, _⟩ => ⟨S1x1, .f32⟩
  | _, _ => ⟨S4x3072x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

@[reducible] def k0_t1_loop : Scf.Loop 32 :=
  let c0_i32_7 : BitVec 32 := 0#32
  let c55_i32 : BitVec 32 := 55#32
  let v17 : BitVec 32 := Scalar.addi c0_i32_7 c55_i32
  let c1_i32_8 : BitVec 32 := 1#32
  ⟨c0_i32_7, v17, c1_i32_8⟩
def k0_mult1 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c128_i32 : BitVec 32 := 128#32
  let v111 : BitVec 32 := Scalar.muli arg14 c128_i32
  v111
def k0_off1 (k0_t1 : Fin k0_t1_loop.trips) : Fin 2 → Nat :=
  let c0_108 : Index := 0#32
  let c0_i32_7 : BitVec 32 := 0#32
  let c1_i32_8 : BitVec 32 := 1#32
  let arg14 : BitVec 32 := Scf.iv c0_i32_7 c1_i32_8 k0_t1
  let c128_i32 : BitVec 32 := 128#32
  let v111 : BitVec 32 := Scalar.muli arg14 c128_i32
  let v112 : BitVec 32 := v111
  let v113 : Index := Scalar.indexCast v112
  ![0, v113.toNat]
@[reducible] def k0_t2_loop : Scf.Loop 32 :=
  let c0_i32_13 : BitVec 32 := 0#32
  let c55_i32_14 : BitVec 32 := 55#32
  let v26 : BitVec 32 := Scalar.addi c0_i32_13 c55_i32_14
  let c1_i32_15 : BitVec 32 := 1#32
  ⟨c0_i32_13, v26, c1_i32_15⟩
def k0_mult2 (k0_t2 : Fin k0_t2_loop.trips) : BitVec 32 :=
  let c0_i32_13 : BitVec 32 := 0#32
  let c1_i32_15 : BitVec 32 := 1#32
  let arg14 : BitVec 32 := Scf.iv c0_i32_13 c1_i32_15 k0_t2
  let c128_i32 : BitVec 32 := 128#32
  let v111 : BitVec 32 := Scalar.muli arg14 c128_i32
  v111
def k0_off2 (k0_t2 : Fin k0_t2_loop.trips) : Fin 2 → Nat :=
  let c0_108 : Index := 0#32
  let c0_i32_13 : BitVec 32 := 0#32
  let c1_i32_15 : BitVec 32 := 1#32
  let arg14 : BitVec 32 := Scf.iv c0_i32_13 c1_i32_15 k0_t2
  let c128_i32 : BitVec 32 := 128#32
  let v111 : BitVec 32 := Scalar.muli arg14 c128_i32
  let v112 : BitVec 32 := v111
  let v113 : Index := Scalar.indexCast v112
  ![0, v113.toNat]
def k0_off3 (k0_t2 : Fin k0_t2_loop.trips) : Fin 2 → Nat :=
  let c0_110 : Index := 0#32
  let c0_i32_13 : BitVec 32 := 0#32
  let c1_i32_15 : BitVec 32 := 1#32
  let arg14 : BitVec 32 := Scf.iv c0_i32_13 c1_i32_15 k0_t2
  let c128_i32 : BitVec 32 := 128#32
  let v111 : BitVec 32 := Scalar.muli arg14 c128_i32
  let v112 : BitVec 32 := v111
  let v124 : Index := Scalar.indexCast v112
  ![0, v124.toNat]
def k0_off4 (i : grid0.Coords) (k0_t2 : Fin k0_t2_loop.trips) : Fin 3 → Nat :=
  let arg0 : BitVec 32 := BitVec.ofNat 32 (i 0).val
  let c2_i32 : BitVec 32 := 2#32
  let v15 : BitVec 32 := Scalar.remsi arg0 c2_i32
  let v139 : Index := Scalar.indexCast v15
  let c0_114 : Index := 0#32
  let c0_i32_13 : BitVec 32 := 0#32
  let c1_i32_15 : BitVec 32 := 1#32
  let arg14 : BitVec 32 := Scf.iv c0_i32_13 c1_i32_15 k0_t2
  let c128_i32 : BitVec 32 := 128#32
  let v111 : BitVec 32 := Scalar.muli arg14 c128_i32
  let v112 : BitVec 32 := v111
  let v140 : Index := Scalar.indexCast v112
  ![v139.toNat, 0, v140.toNat]
@[reducible] def k0_t3_loop : Scf.Loop 32 :=
  let c0_i32_19 : BitVec 32 := 0#32
  let c55_i32_20 : BitVec 32 := 55#32
  let v29 : BitVec 32 := Scalar.addi c0_i32_19 c55_i32_20
  let c1_i32_21 : BitVec 32 := 1#32
  ⟨c0_i32_19, v29, c1_i32_21⟩
def k0_mult3 (k0_t3 : Fin k0_t3_loop.trips) : BitVec 32 :=
  let c0_i32_19 : BitVec 32 := 0#32
  let c1_i32_21 : BitVec 32 := 1#32
  let arg14 : BitVec 32 := Scf.iv c0_i32_19 c1_i32_21 k0_t3
  let c128_i32 : BitVec 32 := 128#32
  let v111 : BitVec 32 := Scalar.muli arg14 c128_i32
  v111
def k0_off5 (k0_t3 : Fin k0_t3_loop.trips) : Fin 2 → Nat :=
  let c32 : Index := 32#32
  let c0_i32_19 : BitVec 32 := 0#32
  let c1_i32_21 : BitVec 32 := 1#32
  let arg14 : BitVec 32 := Scf.iv c0_i32_19 c1_i32_21 k0_t3
  let c128_i32 : BitVec 32 := 128#32
  let v111 : BitVec 32 := Scalar.muli arg14 c128_i32
  let v112 : BitVec 32 := v111
  let v113 : Index := Scalar.indexCast v112
  ![32, v113.toNat]
@[reducible] def k0_t4_loop : Scf.Loop 32 :=
  let c0_i32_26 : BitVec 32 := 0#32
  let c55_i32_27 : BitVec 32 := 55#32
  let v38 : BitVec 32 := Scalar.addi c0_i32_26 c55_i32_27
  let c1_i32_28 : BitVec 32 := 1#32
  ⟨c0_i32_26, v38, c1_i32_28⟩
def k0_mult4 (k0_t4 : Fin k0_t4_loop.trips) : BitVec 32 :=
  let c0_i32_26 : BitVec 32 := 0#32
  let c1_i32_28 : BitVec 32 := 1#32
  let arg14 : BitVec 32 := Scf.iv c0_i32_26 c1_i32_28 k0_t4
  let c128_i32 : BitVec 32 := 128#32
  let v111 : BitVec 32 := Scalar.muli arg14 c128_i32
  v111
def k0_off6 (k0_t4 : Fin k0_t4_loop.trips) : Fin 2 → Nat :=
  let c32 : Index := 32#32
  let c0_i32_26 : BitVec 32 := 0#32
  let c1_i32_28 : BitVec 32 := 1#32
  let arg14 : BitVec 32 := Scf.iv c0_i32_26 c1_i32_28 k0_t4
  let c128_i32 : BitVec 32 := 128#32
  let v111 : BitVec 32 := Scalar.muli arg14 c128_i32
  let v112 : BitVec 32 := v111
  let v113 : Index := Scalar.indexCast v112
  ![32, v113.toNat]
def k0_off7 (k0_t4 : Fin k0_t4_loop.trips) : Fin 2 → Nat :=
  let c0_109 : Index := 0#32
  let c0_i32_26 : BitVec 32 := 0#32
  let c1_i32_28 : BitVec 32 := 1#32
  let arg14 : BitVec 32 := Scf.iv c0_i32_26 c1_i32_28 k0_t4
  let c128_i32 : BitVec 32 := 128#32
  let v111 : BitVec 32 := Scalar.muli arg14 c128_i32
  let v112 : BitVec 32 := v111
  let v124 : Index := Scalar.indexCast v112
  ![0, v124.toNat]
def k0_off8 (i : grid0.Coords) (k0_t4 : Fin k0_t4_loop.trips) : Fin 3 → Nat :=
  let arg0 : BitVec 32 := BitVec.ofNat 32 (i 0).val
  let c2_i32_17 : BitVec 32 := 2#32
  let v27 : BitVec 32 := Scalar.remsi arg0 c2_i32_17
  let v139 : Index := Scalar.indexCast v27
  let c32_113 : Index := 32#32
  let c0_i32_26 : BitVec 32 := 0#32
  let c1_i32_28 : BitVec 32 := 1#32
  let arg14 : BitVec 32 := Scf.iv c0_i32_26 c1_i32_28 k0_t4
  let c128_i32 : BitVec 32 := 128#32
  let v111 : BitVec 32 := Scalar.muli arg14 c128_i32
  let v112 : BitVec 32 := v111
  let v140 : Index := Scalar.indexCast v112
  ![v139.toNat, 32, v140.toNat]
@[reducible] def k0_t5_loop : Scf.Loop 32 :=
  let c0_i32_32 : BitVec 32 := 0#32
  let c55_i32_33 : BitVec 32 := 55#32
  let v41 : BitVec 32 := Scalar.addi c0_i32_32 c55_i32_33
  let c1_i32_34 : BitVec 32 := 1#32
  ⟨c0_i32_32, v41, c1_i32_34⟩
def k0_mult5 (k0_t5 : Fin k0_t5_loop.trips) : BitVec 32 :=
  let c0_i32_32 : BitVec 32 := 0#32
  let c1_i32_34 : BitVec 32 := 1#32
  let arg14 : BitVec 32 := Scf.iv c0_i32_32 c1_i32_34 k0_t5
  let c128_i32 : BitVec 32 := 128#32
  let v111 : BitVec 32 := Scalar.muli arg14 c128_i32
  v111
def k0_off9 (k0_t5 : Fin k0_t5_loop.trips) : Fin 2 → Nat :=
  let c64 : Index := 64#32
  let c0_i32_32 : BitVec 32 := 0#32
  let c1_i32_34 : BitVec 32 := 1#32
  let arg14 : BitVec 32 := Scf.iv c0_i32_32 c1_i32_34 k0_t5
  let c128_i32 : BitVec 32 := 128#32
  let v111 : BitVec 32 := Scalar.muli arg14 c128_i32
  let v112 : BitVec 32 := v111
  let v113 : Index := Scalar.indexCast v112
  ![64, v113.toNat]
@[reducible] def k0_t6_loop : Scf.Loop 32 :=
  let c0_i32_39 : BitVec 32 := 0#32
  let c55_i32_40 : BitVec 32 := 55#32
  let v50 : BitVec 32 := Scalar.addi c0_i32_39 c55_i32_40
  let c1_i32_41 : BitVec 32 := 1#32
  ⟨c0_i32_39, v50, c1_i32_41⟩
def k0_mult6 (k0_t6 : Fin k0_t6_loop.trips) : BitVec 32 :=
  let c0_i32_39 : BitVec 32 := 0#32
  let c1_i32_41 : BitVec 32 := 1#32
  let arg14 : BitVec 32 := Scf.iv c0_i32_39 c1_i32_41 k0_t6
  let c128_i32 : BitVec 32 := 128#32
  let v111 : BitVec 32 := Scalar.muli arg14 c128_i32
  v111
def k0_off10 (k0_t6 : Fin k0_t6_loop.trips) : Fin 2 → Nat :=
  let c64 : Index := 64#32
  let c0_i32_39 : BitVec 32 := 0#32
  let c1_i32_41 : BitVec 32 := 1#32
  let arg14 : BitVec 32 := Scf.iv c0_i32_39 c1_i32_41 k0_t6
  let c128_i32 : BitVec 32 := 128#32
  let v111 : BitVec 32 := Scalar.muli arg14 c128_i32
  let v112 : BitVec 32 := v111
  let v113 : Index := Scalar.indexCast v112
  ![64, v113.toNat]
def k0_off11 (k0_t6 : Fin k0_t6_loop.trips) : Fin 2 → Nat :=
  let c0_109 : Index := 0#32
  let c0_i32_39 : BitVec 32 := 0#32
  let c1_i32_41 : BitVec 32 := 1#32
  let arg14 : BitVec 32 := Scf.iv c0_i32_39 c1_i32_41 k0_t6
  let c128_i32 : BitVec 32 := 128#32
  let v111 : BitVec 32 := Scalar.muli arg14 c128_i32
  let v112 : BitVec 32 := v111
  let v124 : Index := Scalar.indexCast v112
  ![0, v124.toNat]
def k0_off12 (i : grid0.Coords) (k0_t6 : Fin k0_t6_loop.trips) : Fin 3 → Nat :=
  let arg0 : BitVec 32 := BitVec.ofNat 32 (i 0).val
  let c2_i32_30 : BitVec 32 := 2#32
  let v39 : BitVec 32 := Scalar.remsi arg0 c2_i32_30
  let v139 : Index := Scalar.indexCast v39
  let c64_113 : Index := 64#32
  let c0_i32_39 : BitVec 32 := 0#32
  let c1_i32_41 : BitVec 32 := 1#32
  let arg14 : BitVec 32 := Scf.iv c0_i32_39 c1_i32_41 k0_t6
  let c128_i32 : BitVec 32 := 128#32
  let v111 : BitVec 32 := Scalar.muli arg14 c128_i32
  let v112 : BitVec 32 := v111
  let v140 : Index := Scalar.indexCast v112
  ![v139.toNat, 64, v140.toNat]
@[reducible] def k0_t7_loop : Scf.Loop 32 :=
  let c0_i32_45 : BitVec 32 := 0#32
  let c55_i32_46 : BitVec 32 := 55#32
  let v53 : BitVec 32 := Scalar.addi c0_i32_45 c55_i32_46
  let c1_i32_47 : BitVec 32 := 1#32
  ⟨c0_i32_45, v53, c1_i32_47⟩
def k0_mult7 (k0_t7 : Fin k0_t7_loop.trips) : BitVec 32 :=
  let c0_i32_45 : BitVec 32 := 0#32
  let c1_i32_47 : BitVec 32 := 1#32
  let arg14 : BitVec 32 := Scf.iv c0_i32_45 c1_i32_47 k0_t7
  let c128_i32 : BitVec 32 := 128#32
  let v111 : BitVec 32 := Scalar.muli arg14 c128_i32
  v111
def k0_off13 (k0_t7 : Fin k0_t7_loop.trips) : Fin 2 → Nat :=
  let c96 : Index := 96#32
  let c0_i32_45 : BitVec 32 := 0#32
  let c1_i32_47 : BitVec 32 := 1#32
  let arg14 : BitVec 32 := Scf.iv c0_i32_45 c1_i32_47 k0_t7
  let c128_i32 : BitVec 32 := 128#32
  let v111 : BitVec 32 := Scalar.muli arg14 c128_i32
  let v112 : BitVec 32 := v111
  let v113 : Index := Scalar.indexCast v112
  ![96, v113.toNat]
@[reducible] def k0_t8_loop : Scf.Loop 32 :=
  let c0_i32_52 : BitVec 32 := 0#32
  let c55_i32_53 : BitVec 32 := 55#32
  let v62 : BitVec 32 := Scalar.addi c0_i32_52 c55_i32_53
  let c1_i32_54 : BitVec 32 := 1#32
  ⟨c0_i32_52, v62, c1_i32_54⟩
def k0_mult8 (k0_t8 : Fin k0_t8_loop.trips) : BitVec 32 :=
  let c0_i32_52 : BitVec 32 := 0#32
  let c1_i32_54 : BitVec 32 := 1#32
  let arg14 : BitVec 32 := Scf.iv c0_i32_52 c1_i32_54 k0_t8
  let c128_i32 : BitVec 32 := 128#32
  let v111 : BitVec 32 := Scalar.muli arg14 c128_i32
  v111
def k0_off14 (k0_t8 : Fin k0_t8_loop.trips) : Fin 2 → Nat :=
  let c96 : Index := 96#32
  let c0_i32_52 : BitVec 32 := 0#32
  let c1_i32_54 : BitVec 32 := 1#32
  let arg14 : BitVec 32 := Scf.iv c0_i32_52 c1_i32_54 k0_t8
  let c128_i32 : BitVec 32 := 128#32
  let v111 : BitVec 32 := Scalar.muli arg14 c128_i32
  let v112 : BitVec 32 := v111
  let v113 : Index := Scalar.indexCast v112
  ![96, v113.toNat]
def k0_off15 (k0_t8 : Fin k0_t8_loop.trips) : Fin 2 → Nat :=
  let c0_109 : Index := 0#32
  let c0_i32_52 : BitVec 32 := 0#32
  let c1_i32_54 : BitVec 32 := 1#32
  let arg14 : BitVec 32 := Scf.iv c0_i32_52 c1_i32_54 k0_t8
  let c128_i32 : BitVec 32 := 128#32
  let v111 : BitVec 32 := Scalar.muli arg14 c128_i32
  let v112 : BitVec 32 := v111
  let v124 : Index := Scalar.indexCast v112
  ![0, v124.toNat]
def k0_off16 (i : grid0.Coords) (k0_t8 : Fin k0_t8_loop.trips) : Fin 3 → Nat :=
  let arg0 : BitVec 32 := BitVec.ofNat 32 (i 0).val
  let c2_i32_43 : BitVec 32 := 2#32
  let v51 : BitVec 32 := Scalar.remsi arg0 c2_i32_43
  let v139 : Index := Scalar.indexCast v51
  let c96_113 : Index := 96#32
  let c0_i32_52 : BitVec 32 := 0#32
  let c1_i32_54 : BitVec 32 := 1#32
  let arg14 : BitVec 32 := Scf.iv c0_i32_52 c1_i32_54 k0_t8
  let c128_i32 : BitVec 32 := 128#32
  let v111 : BitVec 32 := Scalar.muli arg14 c128_i32
  let v112 : BitVec 32 := v111
  let v140 : Index := Scalar.indexCast v112
  ![v139.toNat, 96, v140.toNat]
@[reducible] def k0_t9_loop : Scf.Loop 32 :=
  let c0_i32_58 : BitVec 32 := 0#32
  let c55_i32_59 : BitVec 32 := 55#32
  let v65 : BitVec 32 := Scalar.addi c0_i32_58 c55_i32_59
  let c1_i32_60 : BitVec 32 := 1#32
  ⟨c0_i32_58, v65, c1_i32_60⟩
def k0_mult9 (k0_t9 : Fin k0_t9_loop.trips) : BitVec 32 :=
  let c0_i32_58 : BitVec 32 := 0#32
  let c1_i32_60 : BitVec 32 := 1#32
  let arg14 : BitVec 32 := Scf.iv c0_i32_58 c1_i32_60 k0_t9
  let c128_i32 : BitVec 32 := 128#32
  let v111 : BitVec 32 := Scalar.muli arg14 c128_i32
  v111
def k0_off17 (k0_t9 : Fin k0_t9_loop.trips) : Fin 2 → Nat :=
  let c128 : Index := 128#32
  let c0_i32_58 : BitVec 32 := 0#32
  let c1_i32_60 : BitVec 32 := 1#32
  let arg14 : BitVec 32 := Scf.iv c0_i32_58 c1_i32_60 k0_t9
  let c128_i32 : BitVec 32 := 128#32
  let v111 : BitVec 32 := Scalar.muli arg14 c128_i32
  let v112 : BitVec 32 := v111
  let v113 : Index := Scalar.indexCast v112
  ![128, v113.toNat]
@[reducible] def k0_t10_loop : Scf.Loop 32 :=
  let c0_i32_65 : BitVec 32 := 0#32
  let c55_i32_66 : BitVec 32 := 55#32
  let v74 : BitVec 32 := Scalar.addi c0_i32_65 c55_i32_66
  let c1_i32_67 : BitVec 32 := 1#32
  ⟨c0_i32_65, v74, c1_i32_67⟩
def k0_mult10 (k0_t10 : Fin k0_t10_loop.trips) : BitVec 32 :=
  let c0_i32_65 : BitVec 32 := 0#32
  let c1_i32_67 : BitVec 32 := 1#32
  let arg14 : BitVec 32 := Scf.iv c0_i32_65 c1_i32_67 k0_t10
  let c128_i32 : BitVec 32 := 128#32
  let v111 : BitVec 32 := Scalar.muli arg14 c128_i32
  v111
def k0_off18 (k0_t10 : Fin k0_t10_loop.trips) : Fin 2 → Nat :=
  let c128 : Index := 128#32
  let c0_i32_65 : BitVec 32 := 0#32
  let c1_i32_67 : BitVec 32 := 1#32
  let arg14 : BitVec 32 := Scf.iv c0_i32_65 c1_i32_67 k0_t10
  let c128_i32 : BitVec 32 := 128#32
  let v111 : BitVec 32 := Scalar.muli arg14 c128_i32
  let v112 : BitVec 32 := v111
  let v113 : Index := Scalar.indexCast v112
  ![128, v113.toNat]
def k0_off19 (k0_t10 : Fin k0_t10_loop.trips) : Fin 2 → Nat :=
  let c0_109 : Index := 0#32
  let c0_i32_65 : BitVec 32 := 0#32
  let c1_i32_67 : BitVec 32 := 1#32
  let arg14 : BitVec 32 := Scf.iv c0_i32_65 c1_i32_67 k0_t10
  let c128_i32 : BitVec 32 := 128#32
  let v111 : BitVec 32 := Scalar.muli arg14 c128_i32
  let v112 : BitVec 32 := v111
  let v124 : Index := Scalar.indexCast v112
  ![0, v124.toNat]
def k0_off20 (i : grid0.Coords) (k0_t10 : Fin k0_t10_loop.trips) : Fin 3 → Nat :=
  let arg0 : BitVec 32 := BitVec.ofNat 32 (i 0).val
  let c2_i32_56 : BitVec 32 := 2#32
  let v63 : BitVec 32 := Scalar.remsi arg0 c2_i32_56
  let v139 : Index := Scalar.indexCast v63
  let c128_113 : Index := 128#32
  let c0_i32_65 : BitVec 32 := 0#32
  let c1_i32_67 : BitVec 32 := 1#32
  let arg14 : BitVec 32 := Scf.iv c0_i32_65 c1_i32_67 k0_t10
  let c128_i32 : BitVec 32 := 128#32
  let v111 : BitVec 32 := Scalar.muli arg14 c128_i32
  let v112 : BitVec 32 := v111
  let v140 : Index := Scalar.indexCast v112
  ![v139.toNat, 128, v140.toNat]
@[reducible] def k0_t11_loop : Scf.Loop 32 :=
  let c0_i32_71 : BitVec 32 := 0#32
  let c55_i32_72 : BitVec 32 := 55#32
  let v77 : BitVec 32 := Scalar.addi c0_i32_71 c55_i32_72
  let c1_i32_73 : BitVec 32 := 1#32
  ⟨c0_i32_71, v77, c1_i32_73⟩
def k0_mult11 (k0_t11 : Fin k0_t11_loop.trips) : BitVec 32 :=
  let c0_i32_71 : BitVec 32 := 0#32
  let c1_i32_73 : BitVec 32 := 1#32
  let arg14 : BitVec 32 := Scf.iv c0_i32_71 c1_i32_73 k0_t11
  let c128_i32 : BitVec 32 := 128#32
  let v111 : BitVec 32 := Scalar.muli arg14 c128_i32
  v111
def k0_off21 (k0_t11 : Fin k0_t11_loop.trips) : Fin 2 → Nat :=
  let c160 : Index := 160#32
  let c0_i32_71 : BitVec 32 := 0#32
  let c1_i32_73 : BitVec 32 := 1#32
  let arg14 : BitVec 32 := Scf.iv c0_i32_71 c1_i32_73 k0_t11
  let c128_i32 : BitVec 32 := 128#32
  let v111 : BitVec 32 := Scalar.muli arg14 c128_i32
  let v112 : BitVec 32 := v111
  let v113 : Index := Scalar.indexCast v112
  ![160, v113.toNat]
@[reducible] def k0_t12_loop : Scf.Loop 32 :=
  let c0_i32_78 : BitVec 32 := 0#32
  let c55_i32_79 : BitVec 32 := 55#32
  let v86 : BitVec 32 := Scalar.addi c0_i32_78 c55_i32_79
  let c1_i32_80 : BitVec 32 := 1#32
  ⟨c0_i32_78, v86, c1_i32_80⟩
def k0_mult12 (k0_t12 : Fin k0_t12_loop.trips) : BitVec 32 :=
  let c0_i32_78 : BitVec 32 := 0#32
  let c1_i32_80 : BitVec 32 := 1#32
  let arg14 : BitVec 32 := Scf.iv c0_i32_78 c1_i32_80 k0_t12
  let c128_i32 : BitVec 32 := 128#32
  let v111 : BitVec 32 := Scalar.muli arg14 c128_i32
  v111
def k0_off22 (k0_t12 : Fin k0_t12_loop.trips) : Fin 2 → Nat :=
  let c160 : Index := 160#32
  let c0_i32_78 : BitVec 32 := 0#32
  let c1_i32_80 : BitVec 32 := 1#32
  let arg14 : BitVec 32 := Scf.iv c0_i32_78 c1_i32_80 k0_t12
  let c128_i32 : BitVec 32 := 128#32
  let v111 : BitVec 32 := Scalar.muli arg14 c128_i32
  let v112 : BitVec 32 := v111
  let v113 : Index := Scalar.indexCast v112
  ![160, v113.toNat]
def k0_off23 (k0_t12 : Fin k0_t12_loop.trips) : Fin 2 → Nat :=
  let c0_109 : Index := 0#32
  let c0_i32_78 : BitVec 32 := 0#32
  let c1_i32_80 : BitVec 32 := 1#32
  let arg14 : BitVec 32 := Scf.iv c0_i32_78 c1_i32_80 k0_t12
  let c128_i32 : BitVec 32 := 128#32
  let v111 : BitVec 32 := Scalar.muli arg14 c128_i32
  let v112 : BitVec 32 := v111
  let v124 : Index := Scalar.indexCast v112
  ![0, v124.toNat]
def k0_off24 (i : grid0.Coords) (k0_t12 : Fin k0_t12_loop.trips) : Fin 3 → Nat :=
  let arg0 : BitVec 32 := BitVec.ofNat 32 (i 0).val
  let c2_i32_69 : BitVec 32 := 2#32
  let v75 : BitVec 32 := Scalar.remsi arg0 c2_i32_69
  let v139 : Index := Scalar.indexCast v75
  let c160_113 : Index := 160#32
  let c0_i32_78 : BitVec 32 := 0#32
  let c1_i32_80 : BitVec 32 := 1#32
  let arg14 : BitVec 32 := Scf.iv c0_i32_78 c1_i32_80 k0_t12
  let c128_i32 : BitVec 32 := 128#32
  let v111 : BitVec 32 := Scalar.muli arg14 c128_i32
  let v112 : BitVec 32 := v111
  let v140 : Index := Scalar.indexCast v112
  ![v139.toNat, 160, v140.toNat]
@[reducible] def k0_t13_loop : Scf.Loop 32 :=
  let c0_i32_84 : BitVec 32 := 0#32
  let c55_i32_85 : BitVec 32 := 55#32
  let v89 : BitVec 32 := Scalar.addi c0_i32_84 c55_i32_85
  let c1_i32_86 : BitVec 32 := 1#32
  ⟨c0_i32_84, v89, c1_i32_86⟩
def k0_mult13 (k0_t13 : Fin k0_t13_loop.trips) : BitVec 32 :=
  let c0_i32_84 : BitVec 32 := 0#32
  let c1_i32_86 : BitVec 32 := 1#32
  let arg14 : BitVec 32 := Scf.iv c0_i32_84 c1_i32_86 k0_t13
  let c128_i32 : BitVec 32 := 128#32
  let v111 : BitVec 32 := Scalar.muli arg14 c128_i32
  v111
def k0_off25 (k0_t13 : Fin k0_t13_loop.trips) : Fin 2 → Nat :=
  let c192 : Index := 192#32
  let c0_i32_84 : BitVec 32 := 0#32
  let c1_i32_86 : BitVec 32 := 1#32
  let arg14 : BitVec 32 := Scf.iv c0_i32_84 c1_i32_86 k0_t13
  let c128_i32 : BitVec 32 := 128#32
  let v111 : BitVec 32 := Scalar.muli arg14 c128_i32
  let v112 : BitVec 32 := v111
  let v113 : Index := Scalar.indexCast v112
  ![192, v113.toNat]
@[reducible] def k0_t14_loop : Scf.Loop 32 :=
  let c0_i32_91 : BitVec 32 := 0#32
  let c55_i32_92 : BitVec 32 := 55#32
  let v98 : BitVec 32 := Scalar.addi c0_i32_91 c55_i32_92
  let c1_i32_93 : BitVec 32 := 1#32
  ⟨c0_i32_91, v98, c1_i32_93⟩
def k0_mult14 (k0_t14 : Fin k0_t14_loop.trips) : BitVec 32 :=
  let c0_i32_91 : BitVec 32 := 0#32
  let c1_i32_93 : BitVec 32 := 1#32
  let arg14 : BitVec 32 := Scf.iv c0_i32_91 c1_i32_93 k0_t14
  let c128_i32 : BitVec 32 := 128#32
  let v111 : BitVec 32 := Scalar.muli arg14 c128_i32
  v111
def k0_off26 (k0_t14 : Fin k0_t14_loop.trips) : Fin 2 → Nat :=
  let c192 : Index := 192#32
  let c0_i32_91 : BitVec 32 := 0#32
  let c1_i32_93 : BitVec 32 := 1#32
  let arg14 : BitVec 32 := Scf.iv c0_i32_91 c1_i32_93 k0_t14
  let c128_i32 : BitVec 32 := 128#32
  let v111 : BitVec 32 := Scalar.muli arg14 c128_i32
  let v112 : BitVec 32 := v111
  let v113 : Index := Scalar.indexCast v112
  ![192, v113.toNat]
def k0_off27 (k0_t14 : Fin k0_t14_loop.trips) : Fin 2 → Nat :=
  let c0_109 : Index := 0#32
  let c0_i32_91 : BitVec 32 := 0#32
  let c1_i32_93 : BitVec 32 := 1#32
  let arg14 : BitVec 32 := Scf.iv c0_i32_91 c1_i32_93 k0_t14
  let c128_i32 : BitVec 32 := 128#32
  let v111 : BitVec 32 := Scalar.muli arg14 c128_i32
  let v112 : BitVec 32 := v111
  let v124 : Index := Scalar.indexCast v112
  ![0, v124.toNat]
def k0_off28 (i : grid0.Coords) (k0_t14 : Fin k0_t14_loop.trips) : Fin 3 → Nat :=
  let arg0 : BitVec 32 := BitVec.ofNat 32 (i 0).val
  let c2_i32_82 : BitVec 32 := 2#32
  let v87 : BitVec 32 := Scalar.remsi arg0 c2_i32_82
  let v139 : Index := Scalar.indexCast v87
  let c192_113 : Index := 192#32
  let c0_i32_91 : BitVec 32 := 0#32
  let c1_i32_93 : BitVec 32 := 1#32
  let arg14 : BitVec 32 := Scf.iv c0_i32_91 c1_i32_93 k0_t14
  let c128_i32 : BitVec 32 := 128#32
  let v111 : BitVec 32 := Scalar.muli arg14 c128_i32
  let v112 : BitVec 32 := v111
  let v140 : Index := Scalar.indexCast v112
  ![v139.toNat, 192, v140.toNat]
@[reducible] def k0_t15_loop : Scf.Loop 32 :=
  let c0_i32_97 : BitVec 32 := 0#32
  let c55_i32_98 : BitVec 32 := 55#32
  let v101 : BitVec 32 := Scalar.addi c0_i32_97 c55_i32_98
  let c1_i32_99 : BitVec 32 := 1#32
  ⟨c0_i32_97, v101, c1_i32_99⟩
def k0_mult15 (k0_t15 : Fin k0_t15_loop.trips) : BitVec 32 :=
  let c0_i32_97 : BitVec 32 := 0#32
  let c1_i32_99 : BitVec 32 := 1#32
  let arg14 : BitVec 32 := Scf.iv c0_i32_97 c1_i32_99 k0_t15
  let c128_i32 : BitVec 32 := 128#32
  let v111 : BitVec 32 := Scalar.muli arg14 c128_i32
  v111
def k0_off29 (k0_t15 : Fin k0_t15_loop.trips) : Fin 2 → Nat :=
  let c224 : Index := 224#32
  let c0_i32_97 : BitVec 32 := 0#32
  let c1_i32_99 : BitVec 32 := 1#32
  let arg14 : BitVec 32 := Scf.iv c0_i32_97 c1_i32_99 k0_t15
  let c128_i32 : BitVec 32 := 128#32
  let v111 : BitVec 32 := Scalar.muli arg14 c128_i32
  let v112 : BitVec 32 := v111
  let v113 : Index := Scalar.indexCast v112
  ![224, v113.toNat]
@[reducible] def k0_t16_loop : Scf.Loop 32 :=
  let c0_i32_104 : BitVec 32 := 0#32
  let c55_i32_105 : BitVec 32 := 55#32
  let v110 : BitVec 32 := Scalar.addi c0_i32_104 c55_i32_105
  let c1_i32_106 : BitVec 32 := 1#32
  ⟨c0_i32_104, v110, c1_i32_106⟩
def k0_mult16 (k0_t16 : Fin k0_t16_loop.trips) : BitVec 32 :=
  let c0_i32_104 : BitVec 32 := 0#32
  let c1_i32_106 : BitVec 32 := 1#32
  let arg14 : BitVec 32 := Scf.iv c0_i32_104 c1_i32_106 k0_t16
  let c128_i32 : BitVec 32 := 128#32
  let v111 : BitVec 32 := Scalar.muli arg14 c128_i32
  v111
def k0_off30 (k0_t16 : Fin k0_t16_loop.trips) : Fin 2 → Nat :=
  let c224 : Index := 224#32
  let c0_i32_104 : BitVec 32 := 0#32
  let c1_i32_106 : BitVec 32 := 1#32
  let arg14 : BitVec 32 := Scf.iv c0_i32_104 c1_i32_106 k0_t16
  let c128_i32 : BitVec 32 := 128#32
  let v111 : BitVec 32 := Scalar.muli arg14 c128_i32
  let v112 : BitVec 32 := v111
  let v113 : Index := Scalar.indexCast v112
  ![224, v113.toNat]
def k0_off31 (k0_t16 : Fin k0_t16_loop.trips) : Fin 2 → Nat :=
  let c0_109 : Index := 0#32
  let c0_i32_104 : BitVec 32 := 0#32
  let c1_i32_106 : BitVec 32 := 1#32
  let arg14 : BitVec 32 := Scf.iv c0_i32_104 c1_i32_106 k0_t16
  let c128_i32 : BitVec 32 := 128#32
  let v111 : BitVec 32 := Scalar.muli arg14 c128_i32
  let v112 : BitVec 32 := v111
  let v124 : Index := Scalar.indexCast v112
  ![0, v124.toNat]
def k0_off32 (i : grid0.Coords) (k0_t16 : Fin k0_t16_loop.trips) : Fin 3 → Nat :=
  let arg0 : BitVec 32 := BitVec.ofNat 32 (i 0).val
  let c2_i32_95 : BitVec 32 := 2#32
  let v99 : BitVec 32 := Scalar.remsi arg0 c2_i32_95
  let v139 : Index := Scalar.indexCast v99
  let c224_113 : Index := 224#32
  let c0_i32_104 : BitVec 32 := 0#32
  let c1_i32_106 : BitVec 32 := 1#32
  let arg14 : BitVec 32 := Scf.iv c0_i32_104 c1_i32_106 k0_t16
  let c128_i32 : BitVec 32 := 128#32
  let v111 : BitVec 32 := Scalar.muli arg14 c128_i32
  let v112 : BitVec 32 := v111
  let v140 : Index := Scalar.indexCast v112
  ![v139.toNat, 224, v140.toNat]
def k0_cond3 (i : grid0.Coords) : BitVec 1 :=
  let arg0 : BitVec 32 := BitVec.ofNat 32 (i 0).val
  let c0_i32_3 : BitVec 32 := 0#32
  let v7 : BitVec 1 := Scalar.cmpi .sgt arg0 c0_i32_3
  let c48_i32 : BitVec 32 := 48#32
  let v8 : BitVec 1 := Scalar.cmpi .slt arg0 c48_i32
  let v9 : BitVec 1 := Scalar.andi v7 v8
  let v10 : BitVec 32 := Scalar.extui v9
  let c0_i32_4 : BitVec 32 := 0#32
  let v11 : BitVec 1 := Scalar.cmpi .ne v10 c0_i32_4
  v11

def k0_off33 (i : grid0.Coords) : Fin 3 → Nat :=
  let arg0 : BitVec 32 := BitVec.ofNat 32 (i 0).val
  let c1_i32_7 : BitVec 32 := 1#32
  let v15 : BitVec 32 := Scalar.addi arg0 c1_i32_7
  let c2_i32 : BitVec 32 := 2#32
  let v16 : BitVec 32 := Scalar.remsi v15 c2_i32
  let v17 : Index := Scalar.indexCast v16
  let c0_8 : Index := 0#32
  let c0_9 : Index := 0#32
  ![v17.toNat, 0, 0]
@[reducible] def k0_t17_loop : Scf.Loop 32 :=
  let c0_i32_20 : BitVec 32 := 0#32
  let c55_i32 : BitVec 32 := 55#32
  let v37 : BitVec 32 := Scalar.addi c0_i32_20 c55_i32
  let c1_i32_21 : BitVec 32 := 1#32
  ⟨c0_i32_20, v37, c1_i32_21⟩
def k0_mult17 (k0_t17 : Fin k0_t17_loop.trips) : BitVec 32 :=
  let c0_i32_20 : BitVec 32 := 0#32
  let c1_i32_21 : BitVec 32 := 1#32
  let arg14 : BitVec 32 := Scf.iv c0_i32_20 c1_i32_21 k0_t17
  let c128_i32 : BitVec 32 := 128#32
  let v191 : BitVec 32 := Scalar.muli arg14 c128_i32
  v191
def k0_off34 (k0_t17 : Fin k0_t17_loop.trips) : Fin 2 → Nat :=
  let c0_157 : Index := 0#32
  let c0_i32_20 : BitVec 32 := 0#32
  let c1_i32_21 : BitVec 32 := 1#32
  let arg14 : BitVec 32 := Scf.iv c0_i32_20 c1_i32_21 k0_t17
  let c128_i32 : BitVec 32 := 128#32
  let v191 : BitVec 32 := Scalar.muli arg14 c128_i32
  let v192 : BitVec 32 := v191
  let v193 : Index := Scalar.indexCast v192
  ![0, v193.toNat]
@[reducible] def k0_t18_loop : Scf.Loop 32 :=
  let c0_i32_26 : BitVec 32 := 0#32
  let c55_i32_27 : BitVec 32 := 55#32
  let v46 : BitVec 32 := Scalar.addi c0_i32_26 c55_i32_27
  let c1_i32_28 : BitVec 32 := 1#32
  ⟨c0_i32_26, v46, c1_i32_28⟩
def k0_mult18 (k0_t18 : Fin k0_t18_loop.trips) : BitVec 32 :=
  let c0_i32_26 : BitVec 32 := 0#32
  let c1_i32_28 : BitVec 32 := 1#32
  let arg14 : BitVec 32 := Scf.iv c0_i32_26 c1_i32_28 k0_t18
  let c128_i32 : BitVec 32 := 128#32
  let v191 : BitVec 32 := Scalar.muli arg14 c128_i32
  v191
def k0_off35 (k0_t18 : Fin k0_t18_loop.trips) : Fin 2 → Nat :=
  let c0_157 : Index := 0#32
  let c0_i32_26 : BitVec 32 := 0#32
  let c1_i32_28 : BitVec 32 := 1#32
  let arg14 : BitVec 32 := Scf.iv c0_i32_26 c1_i32_28 k0_t18
  let c128_i32 : BitVec 32 := 128#32
  let v191 : BitVec 32 := Scalar.muli arg14 c128_i32
  let v192 : BitVec 32 := v191
  let v193 : Index := Scalar.indexCast v192
  ![0, v193.toNat]
def k0_off36 (k0_t18 : Fin k0_t18_loop.trips) : Fin 2 → Nat :=
  let c0_159 : Index := 0#32
  let c0_i32_26 : BitVec 32 := 0#32
  let c1_i32_28 : BitVec 32 := 1#32
  let arg14 : BitVec 32 := Scf.iv c0_i32_26 c1_i32_28 k0_t18
  let c128_i32 : BitVec 32 := 128#32
  let v191 : BitVec 32 := Scalar.muli arg14 c128_i32
  let v192 : BitVec 32 := v191
  let v204 : Index := Scalar.indexCast v192
  ![0, v204.toNat]
def k0_off37 (i : grid0.Coords) (k0_t18 : Fin k0_t18_loop.trips) : Fin 3 → Nat :=
  let arg0 : BitVec 32 := BitVec.ofNat 32 (i 0).val
  let c2_i32_18 : BitVec 32 := 2#32
  let v35 : BitVec 32 := Scalar.remsi arg0 c2_i32_18
  let v219 : Index := Scalar.indexCast v35
  let c0_163 : Index := 0#32
  let c0_i32_26 : BitVec 32 := 0#32
  let c1_i32_28 : BitVec 32 := 1#32
  let arg14 : BitVec 32 := Scf.iv c0_i32_26 c1_i32_28 k0_t18
  let c128_i32 : BitVec 32 := 128#32
  let v191 : BitVec 32 := Scalar.muli arg14 c128_i32
  let v192 : BitVec 32 := v191
  let v220 : Index := Scalar.indexCast v192
  ![v219.toNat, 0, v220.toNat]
@[reducible] def k0_t19_loop : Scf.Loop 32 :=
  let c0_i32_32 : BitVec 32 := 0#32
  let c55_i32_33 : BitVec 32 := 55#32
  let v49 : BitVec 32 := Scalar.addi c0_i32_32 c55_i32_33
  let c1_i32_34 : BitVec 32 := 1#32
  ⟨c0_i32_32, v49, c1_i32_34⟩
def k0_mult19 (k0_t19 : Fin k0_t19_loop.trips) : BitVec 32 :=
  let c0_i32_32 : BitVec 32 := 0#32
  let c1_i32_34 : BitVec 32 := 1#32
  let arg14 : BitVec 32 := Scf.iv c0_i32_32 c1_i32_34 k0_t19
  let c128_i32 : BitVec 32 := 128#32
  let v191 : BitVec 32 := Scalar.muli arg14 c128_i32
  v191
def k0_off38 (k0_t19 : Fin k0_t19_loop.trips) : Fin 2 → Nat :=
  let c32 : Index := 32#32
  let c0_i32_32 : BitVec 32 := 0#32
  let c1_i32_34 : BitVec 32 := 1#32
  let arg14 : BitVec 32 := Scf.iv c0_i32_32 c1_i32_34 k0_t19
  let c128_i32 : BitVec 32 := 128#32
  let v191 : BitVec 32 := Scalar.muli arg14 c128_i32
  let v192 : BitVec 32 := v191
  let v193 : Index := Scalar.indexCast v192
  ![32, v193.toNat]
@[reducible] def k0_t20_loop : Scf.Loop 32 :=
  let c0_i32_39 : BitVec 32 := 0#32
  let c55_i32_40 : BitVec 32 := 55#32
  let v58 : BitVec 32 := Scalar.addi c0_i32_39 c55_i32_40
  let c1_i32_41 : BitVec 32 := 1#32
  ⟨c0_i32_39, v58, c1_i32_41⟩
def k0_mult20 (k0_t20 : Fin k0_t20_loop.trips) : BitVec 32 :=
  let c0_i32_39 : BitVec 32 := 0#32
  let c1_i32_41 : BitVec 32 := 1#32
  let arg14 : BitVec 32 := Scf.iv c0_i32_39 c1_i32_41 k0_t20
  let c128_i32 : BitVec 32 := 128#32
  let v191 : BitVec 32 := Scalar.muli arg14 c128_i32
  v191
def k0_off39 (k0_t20 : Fin k0_t20_loop.trips) : Fin 2 → Nat :=
  let c32 : Index := 32#32
  let c0_i32_39 : BitVec 32 := 0#32
  let c1_i32_41 : BitVec 32 := 1#32
  let arg14 : BitVec 32 := Scf.iv c0_i32_39 c1_i32_41 k0_t20
  let c128_i32 : BitVec 32 := 128#32
  let v191 : BitVec 32 := Scalar.muli arg14 c128_i32
  let v192 : BitVec 32 := v191
  let v193 : Index := Scalar.indexCast v192
  ![32, v193.toNat]
def k0_off40 (k0_t20 : Fin k0_t20_loop.trips) : Fin 2 → Nat :=
  let c0_158 : Index := 0#32
  let c0_i32_39 : BitVec 32 := 0#32
  let c1_i32_41 : BitVec 32 := 1#32
  let arg14 : BitVec 32 := Scf.iv c0_i32_39 c1_i32_41 k0_t20
  let c128_i32 : BitVec 32 := 128#32
  let v191 : BitVec 32 := Scalar.muli arg14 c128_i32
  let v192 : BitVec 32 := v191
  let v204 : Index := Scalar.indexCast v192
  ![0, v204.toNat]
def k0_off41 (i : grid0.Coords) (k0_t20 : Fin k0_t20_loop.trips) : Fin 3 → Nat :=
  let arg0 : BitVec 32 := BitVec.ofNat 32 (i 0).val
  let c2_i32_30 : BitVec 32 := 2#32
  let v47 : BitVec 32 := Scalar.remsi arg0 c2_i32_30
  let v219 : Index := Scalar.indexCast v47
  let c32_162 : Index := 32#32
  let c0_i32_39 : BitVec 32 := 0#32
  let c1_i32_41 : BitVec 32 := 1#32
  let arg14 : BitVec 32 := Scf.iv c0_i32_39 c1_i32_41 k0_t20
  let c128_i32 : BitVec 32 := 128#32
  let v191 : BitVec 32 := Scalar.muli arg14 c128_i32
  let v192 : BitVec 32 := v191
  let v220 : Index := Scalar.indexCast v192
  ![v219.toNat, 32, v220.toNat]
@[reducible] def k0_t21_loop : Scf.Loop 32 :=
  let c0_i32_57 : BitVec 32 := 0#32
  let c55_i32_58 : BitVec 32 := 55#32
  let v81 : BitVec 32 := Scalar.addi c0_i32_57 c55_i32_58
  let c1_i32_59 : BitVec 32 := 1#32
  ⟨c0_i32_57, v81, c1_i32_59⟩
def k0_mult21 (k0_t21 : Fin k0_t21_loop.trips) : BitVec 32 :=
  let c0_i32_57 : BitVec 32 := 0#32
  let c1_i32_59 : BitVec 32 := 1#32
  let arg14 : BitVec 32 := Scf.iv c0_i32_57 c1_i32_59 k0_t21
  let c128_i32 : BitVec 32 := 128#32
  let v191 : BitVec 32 := Scalar.muli arg14 c128_i32
  v191
def k0_off42 (k0_t21 : Fin k0_t21_loop.trips) : Fin 2 → Nat :=
  let c64 : Index := 64#32
  let c0_i32_57 : BitVec 32 := 0#32
  let c1_i32_59 : BitVec 32 := 1#32
  let arg14 : BitVec 32 := Scf.iv c0_i32_57 c1_i32_59 k0_t21
  let c128_i32 : BitVec 32 := 128#32
  let v191 : BitVec 32 := Scalar.muli arg14 c128_i32
  let v192 : BitVec 32 := v191
  let v193 : Index := Scalar.indexCast v192
  ![64, v193.toNat]
@[reducible] def k0_t22_loop : Scf.Loop 32 :=
  let c0_i32_64 : BitVec 32 := 0#32
  let c55_i32_65 : BitVec 32 := 55#32
  let v90 : BitVec 32 := Scalar.addi c0_i32_64 c55_i32_65
  let c1_i32_66 : BitVec 32 := 1#32
  ⟨c0_i32_64, v90, c1_i32_66⟩
def k0_mult22 (k0_t22 : Fin k0_t22_loop.trips) : BitVec 32 :=
  let c0_i32_64 : BitVec 32 := 0#32
  let c1_i32_66 : BitVec 32 := 1#32
  let arg14 : BitVec 32 := Scf.iv c0_i32_64 c1_i32_66 k0_t22
  let c128_i32 : BitVec 32 := 128#32
  let v191 : BitVec 32 := Scalar.muli arg14 c128_i32
  v191
def k0_off43 (k0_t22 : Fin k0_t22_loop.trips) : Fin 2 → Nat :=
  let c64 : Index := 64#32
  let c0_i32_64 : BitVec 32 := 0#32
  let c1_i32_66 : BitVec 32 := 1#32
  let arg14 : BitVec 32 := Scf.iv c0_i32_64 c1_i32_66 k0_t22
  let c128_i32 : BitVec 32 := 128#32
  let v191 : BitVec 32 := Scalar.muli arg14 c128_i32
  let v192 : BitVec 32 := v191
  let v193 : Index := Scalar.indexCast v192
  ![64, v193.toNat]
def k0_off44 (k0_t22 : Fin k0_t22_loop.trips) : Fin 2 → Nat :=
  let c0_158 : Index := 0#32
  let c0_i32_64 : BitVec 32 := 0#32
  let c1_i32_66 : BitVec 32 := 1#32
  let arg14 : BitVec 32 := Scf.iv c0_i32_64 c1_i32_66 k0_t22
  let c128_i32 : BitVec 32 := 128#32
  let v191 : BitVec 32 := Scalar.muli arg14 c128_i32
  let v192 : BitVec 32 := v191
  let v204 : Index := Scalar.indexCast v192
  ![0, v204.toNat]
def k0_off45 (i : grid0.Coords) (k0_t22 : Fin k0_t22_loop.trips) : Fin 3 → Nat :=
  let arg0 : BitVec 32 := BitVec.ofNat 32 (i 0).val
  let c2_i32_55 : BitVec 32 := 2#32
  let v79 : BitVec 32 := Scalar.remsi arg0 c2_i32_55
  let v219 : Index := Scalar.indexCast v79
  let c64_162 : Index := 64#32
  let c0_i32_64 : BitVec 32 := 0#32
  let c1_i32_66 : BitVec 32 := 1#32
  let arg14 : BitVec 32 := Scf.iv c0_i32_64 c1_i32_66 k0_t22
  let c128_i32 : BitVec 32 := 128#32
  let v191 : BitVec 32 := Scalar.muli arg14 c128_i32
  let v192 : BitVec 32 := v191
  let v220 : Index := Scalar.indexCast v192
  ![v219.toNat, 64, v220.toNat]
@[reducible] def k0_t23_loop : Scf.Loop 32 :=
  let c0_i32_70 : BitVec 32 := 0#32
  let c55_i32_71 : BitVec 32 := 55#32
  let v93 : BitVec 32 := Scalar.addi c0_i32_70 c55_i32_71
  let c1_i32_72 : BitVec 32 := 1#32
  ⟨c0_i32_70, v93, c1_i32_72⟩
def k0_mult23 (k0_t23 : Fin k0_t23_loop.trips) : BitVec 32 :=
  let c0_i32_70 : BitVec 32 := 0#32
  let c1_i32_72 : BitVec 32 := 1#32
  let arg14 : BitVec 32 := Scf.iv c0_i32_70 c1_i32_72 k0_t23
  let c128_i32 : BitVec 32 := 128#32
  let v191 : BitVec 32 := Scalar.muli arg14 c128_i32
  v191
def k0_off46 (k0_t23 : Fin k0_t23_loop.trips) : Fin 2 → Nat :=
  let c96 : Index := 96#32
  let c0_i32_70 : BitVec 32 := 0#32
  let c1_i32_72 : BitVec 32 := 1#32
  let arg14 : BitVec 32 := Scf.iv c0_i32_70 c1_i32_72 k0_t23
  let c128_i32 : BitVec 32 := 128#32
  let v191 : BitVec 32 := Scalar.muli arg14 c128_i32
  let v192 : BitVec 32 := v191
  let v193 : Index := Scalar.indexCast v192
  ![96, v193.toNat]
@[reducible] def k0_t24_loop : Scf.Loop 32 :=
  let c0_i32_77 : BitVec 32 := 0#32
  let c55_i32_78 : BitVec 32 := 55#32
  let v102 : BitVec 32 := Scalar.addi c0_i32_77 c55_i32_78
  let c1_i32_79 : BitVec 32 := 1#32
  ⟨c0_i32_77, v102, c1_i32_79⟩
def k0_mult24 (k0_t24 : Fin k0_t24_loop.trips) : BitVec 32 :=
  let c0_i32_77 : BitVec 32 := 0#32
  let c1_i32_79 : BitVec 32 := 1#32
  let arg14 : BitVec 32 := Scf.iv c0_i32_77 c1_i32_79 k0_t24
  let c128_i32 : BitVec 32 := 128#32
  let v191 : BitVec 32 := Scalar.muli arg14 c128_i32
  v191
def k0_off47 (k0_t24 : Fin k0_t24_loop.trips) : Fin 2 → Nat :=
  let c96 : Index := 96#32
  let c0_i32_77 : BitVec 32 := 0#32
  let c1_i32_79 : BitVec 32 := 1#32
  let arg14 : BitVec 32 := Scf.iv c0_i32_77 c1_i32_79 k0_t24
  let c128_i32 : BitVec 32 := 128#32
  let v191 : BitVec 32 := Scalar.muli arg14 c128_i32
  let v192 : BitVec 32 := v191
  let v193 : Index := Scalar.indexCast v192
  ![96, v193.toNat]
def k0_off48 (k0_t24 : Fin k0_t24_loop.trips) : Fin 2 → Nat :=
  let c0_158 : Index := 0#32
  let c0_i32_77 : BitVec 32 := 0#32
  let c1_i32_79 : BitVec 32 := 1#32
  let arg14 : BitVec 32 := Scf.iv c0_i32_77 c1_i32_79 k0_t24
  let c128_i32 : BitVec 32 := 128#32
  let v191 : BitVec 32 := Scalar.muli arg14 c128_i32
  let v192 : BitVec 32 := v191
  let v204 : Index := Scalar.indexCast v192
  ![0, v204.toNat]
def k0_off49 (i : grid0.Coords) (k0_t24 : Fin k0_t24_loop.trips) : Fin 3 → Nat :=
  let arg0 : BitVec 32 := BitVec.ofNat 32 (i 0).val
  let c2_i32_68 : BitVec 32 := 2#32
  let v91 : BitVec 32 := Scalar.remsi arg0 c2_i32_68
  let v219 : Index := Scalar.indexCast v91
  let c96_162 : Index := 96#32
  let c0_i32_77 : BitVec 32 := 0#32
  let c1_i32_79 : BitVec 32 := 1#32
  let arg14 : BitVec 32 := Scf.iv c0_i32_77 c1_i32_79 k0_t24
  let c128_i32 : BitVec 32 := 128#32
  let v191 : BitVec 32 := Scalar.muli arg14 c128_i32
  let v192 : BitVec 32 := v191
  let v220 : Index := Scalar.indexCast v192
  ![v219.toNat, 96, v220.toNat]
@[reducible] def k0_t25_loop : Scf.Loop 32 :=
  let c0_i32_95 : BitVec 32 := 0#32
  let c55_i32_96 : BitVec 32 := 55#32
  let v125 : BitVec 32 := Scalar.addi c0_i32_95 c55_i32_96
  let c1_i32_97 : BitVec 32 := 1#32
  ⟨c0_i32_95, v125, c1_i32_97⟩
def k0_mult25 (k0_t25 : Fin k0_t25_loop.trips) : BitVec 32 :=
  let c0_i32_95 : BitVec 32 := 0#32
  let c1_i32_97 : BitVec 32 := 1#32
  let arg14 : BitVec 32 := Scf.iv c0_i32_95 c1_i32_97 k0_t25
  let c128_i32 : BitVec 32 := 128#32
  let v191 : BitVec 32 := Scalar.muli arg14 c128_i32
  v191
def k0_off50 (k0_t25 : Fin k0_t25_loop.trips) : Fin 2 → Nat :=
  let c128 : Index := 128#32
  let c0_i32_95 : BitVec 32 := 0#32
  let c1_i32_97 : BitVec 32 := 1#32
  let arg14 : BitVec 32 := Scf.iv c0_i32_95 c1_i32_97 k0_t25
  let c128_i32 : BitVec 32 := 128#32
  let v191 : BitVec 32 := Scalar.muli arg14 c128_i32
  let v192 : BitVec 32 := v191
  let v193 : Index := Scalar.indexCast v192
  ![128, v193.toNat]
@[reducible] def k0_t26_loop : Scf.Loop 32 :=
  let c0_i32_102 : BitVec 32 := 0#32
  let c55_i32_103 : BitVec 32 := 55#32
  let v134 : BitVec 32 := Scalar.addi c0_i32_102 c55_i32_103
  let c1_i32_104 : BitVec 32 := 1#32
  ⟨c0_i32_102, v134, c1_i32_104⟩
def k0_mult26 (k0_t26 : Fin k0_t26_loop.trips) : BitVec 32 :=
  let c0_i32_102 : BitVec 32 := 0#32
  let c1_i32_104 : BitVec 32 := 1#32
  let arg14 : BitVec 32 := Scf.iv c0_i32_102 c1_i32_104 k0_t26
  let c128_i32 : BitVec 32 := 128#32
  let v191 : BitVec 32 := Scalar.muli arg14 c128_i32
  v191
def k0_off51 (k0_t26 : Fin k0_t26_loop.trips) : Fin 2 → Nat :=
  let c128 : Index := 128#32
  let c0_i32_102 : BitVec 32 := 0#32
  let c1_i32_104 : BitVec 32 := 1#32
  let arg14 : BitVec 32 := Scf.iv c0_i32_102 c1_i32_104 k0_t26
  let c128_i32 : BitVec 32 := 128#32
  let v191 : BitVec 32 := Scalar.muli arg14 c128_i32
  let v192 : BitVec 32 := v191
  let v193 : Index := Scalar.indexCast v192
  ![128, v193.toNat]
def k0_off52 (k0_t26 : Fin k0_t26_loop.trips) : Fin 2 → Nat :=
  let c0_158 : Index := 0#32
  let c0_i32_102 : BitVec 32 := 0#32
  let c1_i32_104 : BitVec 32 := 1#32
  let arg14 : BitVec 32 := Scf.iv c0_i32_102 c1_i32_104 k0_t26
  let c128_i32 : BitVec 32 := 128#32
  let v191 : BitVec 32 := Scalar.muli arg14 c128_i32
  let v192 : BitVec 32 := v191
  let v204 : Index := Scalar.indexCast v192
  ![0, v204.toNat]
def k0_off53 (i : grid0.Coords) (k0_t26 : Fin k0_t26_loop.trips) : Fin 3 → Nat :=
  let arg0 : BitVec 32 := BitVec.ofNat 32 (i 0).val
  let c2_i32_93 : BitVec 32 := 2#32
  let v123 : BitVec 32 := Scalar.remsi arg0 c2_i32_93
  let v219 : Index := Scalar.indexCast v123
  let c128_162 : Index := 128#32
  let c0_i32_102 : BitVec 32 := 0#32
  let c1_i32_104 : BitVec 32 := 1#32
  let arg14 : BitVec 32 := Scf.iv c0_i32_102 c1_i32_104 k0_t26
  let c128_i32 : BitVec 32 := 128#32
  let v191 : BitVec 32 := Scalar.muli arg14 c128_i32
  let v192 : BitVec 32 := v191
  let v220 : Index := Scalar.indexCast v192
  ![v219.toNat, 128, v220.toNat]
@[reducible] def k0_t27_loop : Scf.Loop 32 :=
  let c0_i32_108 : BitVec 32 := 0#32
  let c55_i32_109 : BitVec 32 := 55#32
  let v137 : BitVec 32 := Scalar.addi c0_i32_108 c55_i32_109
  let c1_i32_110 : BitVec 32 := 1#32
  ⟨c0_i32_108, v137, c1_i32_110⟩
def k0_mult27 (k0_t27 : Fin k0_t27_loop.trips) : BitVec 32 :=
  let c0_i32_108 : BitVec 32 := 0#32
  let c1_i32_110 : BitVec 32 := 1#32
  let arg14 : BitVec 32 := Scf.iv c0_i32_108 c1_i32_110 k0_t27
  let c128_i32 : BitVec 32 := 128#32
  let v191 : BitVec 32 := Scalar.muli arg14 c128_i32
  v191
def k0_off54 (k0_t27 : Fin k0_t27_loop.trips) : Fin 2 → Nat :=
  let c160 : Index := 160#32
  let c0_i32_108 : BitVec 32 := 0#32
  let c1_i32_110 : BitVec 32 := 1#32
  let arg14 : BitVec 32 := Scf.iv c0_i32_108 c1_i32_110 k0_t27
  let c128_i32 : BitVec 32 := 128#32
  let v191 : BitVec 32 := Scalar.muli arg14 c128_i32
  let v192 : BitVec 32 := v191
  let v193 : Index := Scalar.indexCast v192
  ![160, v193.toNat]
@[reducible] def k0_t28_loop : Scf.Loop 32 :=
  let c0_i32_115 : BitVec 32 := 0#32
  let c55_i32_116 : BitVec 32 := 55#32
  let v146 : BitVec 32 := Scalar.addi c0_i32_115 c55_i32_116
  let c1_i32_117 : BitVec 32 := 1#32
  ⟨c0_i32_115, v146, c1_i32_117⟩
def k0_mult28 (k0_t28 : Fin k0_t28_loop.trips) : BitVec 32 :=
  let c0_i32_115 : BitVec 32 := 0#32
  let c1_i32_117 : BitVec 32 := 1#32
  let arg14 : BitVec 32 := Scf.iv c0_i32_115 c1_i32_117 k0_t28
  let c128_i32 : BitVec 32 := 128#32
  let v191 : BitVec 32 := Scalar.muli arg14 c128_i32
  v191
def k0_off55 (k0_t28 : Fin k0_t28_loop.trips) : Fin 2 → Nat :=
  let c160 : Index := 160#32
  let c0_i32_115 : BitVec 32 := 0#32
  let c1_i32_117 : BitVec 32 := 1#32
  let arg14 : BitVec 32 := Scf.iv c0_i32_115 c1_i32_117 k0_t28
  let c128_i32 : BitVec 32 := 128#32
  let v191 : BitVec 32 := Scalar.muli arg14 c128_i32
  let v192 : BitVec 32 := v191
  let v193 : Index := Scalar.indexCast v192
  ![160, v193.toNat]
def k0_off56 (k0_t28 : Fin k0_t28_loop.trips) : Fin 2 → Nat :=
  let c0_158 : Index := 0#32
  let c0_i32_115 : BitVec 32 := 0#32
  let c1_i32_117 : BitVec 32 := 1#32
  let arg14 : BitVec 32 := Scf.iv c0_i32_115 c1_i32_117 k0_t28
  let c128_i32 : BitVec 32 := 128#32
  let v191 : BitVec 32 := Scalar.muli arg14 c128_i32
  let v192 : BitVec 32 := v191
  let v204 : Index := Scalar.indexCast v192
  ![0, v204.toNat]
def k0_off57 (i : grid0.Coords) (k0_t28 : Fin k0_t28_loop.trips) : Fin 3 → Nat :=
  let arg0 : BitVec 32 := BitVec.ofNat 32 (i 0).val
  let c2_i32_106 : BitVec 32 := 2#32
  let v135 : BitVec 32 := Scalar.remsi arg0 c2_i32_106
  let v219 : Index := Scalar.indexCast v135
  let c160_162 : Index := 160#32
  let c0_i32_115 : BitVec 32 := 0#32
  let c1_i32_117 : BitVec 32 := 1#32
  let arg14 : BitVec 32 := Scf.iv c0_i32_115 c1_i32_117 k0_t28
  let c128_i32 : BitVec 32 := 128#32
  let v191 : BitVec 32 := Scalar.muli arg14 c128_i32
  let v192 : BitVec 32 := v191
  let v220 : Index := Scalar.indexCast v192
  ![v219.toNat, 160, v220.toNat]
@[reducible] def k0_t29_loop : Scf.Loop 32 :=
  let c0_i32_133 : BitVec 32 := 0#32
  let c55_i32_134 : BitVec 32 := 55#32
  let v169 : BitVec 32 := Scalar.addi c0_i32_133 c55_i32_134
  let c1_i32_135 : BitVec 32 := 1#32
  ⟨c0_i32_133, v169, c1_i32_135⟩
def k0_mult29 (k0_t29 : Fin k0_t29_loop.trips) : BitVec 32 :=
  let c0_i32_133 : BitVec 32 := 0#32
  let c1_i32_135 : BitVec 32 := 1#32
  let arg14 : BitVec 32 := Scf.iv c0_i32_133 c1_i32_135 k0_t29
  let c128_i32 : BitVec 32 := 128#32
  let v191 : BitVec 32 := Scalar.muli arg14 c128_i32
  v191
def k0_off58 (k0_t29 : Fin k0_t29_loop.trips) : Fin 2 → Nat :=
  let c192 : Index := 192#32
  let c0_i32_133 : BitVec 32 := 0#32
  let c1_i32_135 : BitVec 32 := 1#32
  let arg14 : BitVec 32 := Scf.iv c0_i32_133 c1_i32_135 k0_t29
  let c128_i32 : BitVec 32 := 128#32
  let v191 : BitVec 32 := Scalar.muli arg14 c128_i32
  let v192 : BitVec 32 := v191
  let v193 : Index := Scalar.indexCast v192
  ![192, v193.toNat]
@[reducible] def k0_t30_loop : Scf.Loop 32 :=
  let c0_i32_140 : BitVec 32 := 0#32
  let c55_i32_141 : BitVec 32 := 55#32
  let v178 : BitVec 32 := Scalar.addi c0_i32_140 c55_i32_141
  let c1_i32_142 : BitVec 32 := 1#32
  ⟨c0_i32_140, v178, c1_i32_142⟩
def k0_mult30 (k0_t30 : Fin k0_t30_loop.trips) : BitVec 32 :=
  let c0_i32_140 : BitVec 32 := 0#32
  let c1_i32_142 : BitVec 32 := 1#32
  let arg14 : BitVec 32 := Scf.iv c0_i32_140 c1_i32_142 k0_t30
  let c128_i32 : BitVec 32 := 128#32
  let v191 : BitVec 32 := Scalar.muli arg14 c128_i32
  v191
def k0_off59 (k0_t30 : Fin k0_t30_loop.trips) : Fin 2 → Nat :=
  let c192 : Index := 192#32
  let c0_i32_140 : BitVec 32 := 0#32
  let c1_i32_142 : BitVec 32 := 1#32
  let arg14 : BitVec 32 := Scf.iv c0_i32_140 c1_i32_142 k0_t30
  let c128_i32 : BitVec 32 := 128#32
  let v191 : BitVec 32 := Scalar.muli arg14 c128_i32
  let v192 : BitVec 32 := v191
  let v193 : Index := Scalar.indexCast v192
  ![192, v193.toNat]
def k0_off60 (k0_t30 : Fin k0_t30_loop.trips) : Fin 2 → Nat :=
  let c0_158 : Index := 0#32
  let c0_i32_140 : BitVec 32 := 0#32
  let c1_i32_142 : BitVec 32 := 1#32
  let arg14 : BitVec 32 := Scf.iv c0_i32_140 c1_i32_142 k0_t30
  let c128_i32 : BitVec 32 := 128#32
  let v191 : BitVec 32 := Scalar.muli arg14 c128_i32
  let v192 : BitVec 32 := v191
  let v204 : Index := Scalar.indexCast v192
  ![0, v204.toNat]
def k0_off61 (i : grid0.Coords) (k0_t30 : Fin k0_t30_loop.trips) : Fin 3 → Nat :=
  let arg0 : BitVec 32 := BitVec.ofNat 32 (i 0).val
  let c2_i32_131 : BitVec 32 := 2#32
  let v167 : BitVec 32 := Scalar.remsi arg0 c2_i32_131
  let v219 : Index := Scalar.indexCast v167
  let c192_162 : Index := 192#32
  let c0_i32_140 : BitVec 32 := 0#32
  let c1_i32_142 : BitVec 32 := 1#32
  let arg14 : BitVec 32 := Scf.iv c0_i32_140 c1_i32_142 k0_t30
  let c128_i32 : BitVec 32 := 128#32
  let v191 : BitVec 32 := Scalar.muli arg14 c128_i32
  let v192 : BitVec 32 := v191
  let v220 : Index := Scalar.indexCast v192
  ![v219.toNat, 192, v220.toNat]
@[reducible] def k0_t31_loop : Scf.Loop 32 :=
  let c0_i32_146 : BitVec 32 := 0#32
  let c55_i32_147 : BitVec 32 := 55#32
  let v181 : BitVec 32 := Scalar.addi c0_i32_146 c55_i32_147
  let c1_i32_148 : BitVec 32 := 1#32
  ⟨c0_i32_146, v181, c1_i32_148⟩
def k0_mult31 (k0_t31 : Fin k0_t31_loop.trips) : BitVec 32 :=
  let c0_i32_146 : BitVec 32 := 0#32
  let c1_i32_148 : BitVec 32 := 1#32
  let arg14 : BitVec 32 := Scf.iv c0_i32_146 c1_i32_148 k0_t31
  let c128_i32 : BitVec 32 := 128#32
  let v191 : BitVec 32 := Scalar.muli arg14 c128_i32
  v191
def k0_off62 (k0_t31 : Fin k0_t31_loop.trips) : Fin 2 → Nat :=
  let c224 : Index := 224#32
  let c0_i32_146 : BitVec 32 := 0#32
  let c1_i32_148 : BitVec 32 := 1#32
  let arg14 : BitVec 32 := Scf.iv c0_i32_146 c1_i32_148 k0_t31
  let c128_i32 : BitVec 32 := 128#32
  let v191 : BitVec 32 := Scalar.muli arg14 c128_i32
  let v192 : BitVec 32 := v191
  let v193 : Index := Scalar.indexCast v192
  ![224, v193.toNat]
@[reducible] def k0_t32_loop : Scf.Loop 32 :=
  let c0_i32_153 : BitVec 32 := 0#32
  let c55_i32_154 : BitVec 32 := 55#32
  let v190 : BitVec 32 := Scalar.addi c0_i32_153 c55_i32_154
  let c1_i32_155 : BitVec 32 := 1#32
  ⟨c0_i32_153, v190, c1_i32_155⟩
def k0_mult32 (k0_t32 : Fin k0_t32_loop.trips) : BitVec 32 :=
  let c0_i32_153 : BitVec 32 := 0#32
  let c1_i32_155 : BitVec 32 := 1#32
  let arg14 : BitVec 32 := Scf.iv c0_i32_153 c1_i32_155 k0_t32
  let c128_i32 : BitVec 32 := 128#32
  let v191 : BitVec 32 := Scalar.muli arg14 c128_i32
  v191
def k0_off63 (k0_t32 : Fin k0_t32_loop.trips) : Fin 2 → Nat :=
  let c224 : Index := 224#32
  let c0_i32_153 : BitVec 32 := 0#32
  let c1_i32_155 : BitVec 32 := 1#32
  let arg14 : BitVec 32 := Scf.iv c0_i32_153 c1_i32_155 k0_t32
  let c128_i32 : BitVec 32 := 128#32
  let v191 : BitVec 32 := Scalar.muli arg14 c128_i32
  let v192 : BitVec 32 := v191
  let v193 : Index := Scalar.indexCast v192
  ![224, v193.toNat]
def k0_off64 (k0_t32 : Fin k0_t32_loop.trips) : Fin 2 → Nat :=
  let c0_158 : Index := 0#32
  let c0_i32_153 : BitVec 32 := 0#32
  let c1_i32_155 : BitVec 32 := 1#32
  let arg14 : BitVec 32 := Scf.iv c0_i32_153 c1_i32_155 k0_t32
  let c128_i32 : BitVec 32 := 128#32
  let v191 : BitVec 32 := Scalar.muli arg14 c128_i32
  let v192 : BitVec 32 := v191
  let v204 : Index := Scalar.indexCast v192
  ![0, v204.toNat]
def k0_off65 (i : grid0.Coords) (k0_t32 : Fin k0_t32_loop.trips) : Fin 3 → Nat :=
  let arg0 : BitVec 32 := BitVec.ofNat 32 (i 0).val
  let c2_i32_144 : BitVec 32 := 2#32
  let v179 : BitVec 32 := Scalar.remsi arg0 c2_i32_144
  let v219 : Index := Scalar.indexCast v179
  let c224_162 : Index := 224#32
  let c0_i32_153 : BitVec 32 := 0#32
  let c1_i32_155 : BitVec 32 := 1#32
  let arg14 : BitVec 32 := Scf.iv c0_i32_153 c1_i32_155 k0_t32
  let c128_i32 : BitVec 32 := 128#32
  let v191 : BitVec 32 := Scalar.muli arg14 c128_i32
  let v192 : BitVec 32 := v191
  let v220 : Index := Scalar.indexCast v192
  ![v219.toNat, 224, v220.toNat]
def k0_cond4 (i : grid0.Coords) : BitVec 1 :=
  let arg0 : BitVec 32 := BitVec.ofNat 32 (i 0).val
  let c48_i32_5 : BitVec 32 := 48#32
  let v12 : BitVec 1 := Scalar.cmpi .eq arg0 c48_i32_5
  let v13 : BitVec 32 := Scalar.extui v12
  let c0_i32_6 : BitVec 32 := 0#32
  let v14 : BitVec 1 := Scalar.cmpi .ne v13 c0_i32_6
  v14

def k0_off66 (i : grid0.Coords) : Fin 3 → Nat :=
  let arg0 : BitVec 32 := BitVec.ofNat 32 (i 0).val
  let c1_i32_7 : BitVec 32 := 1#32
  let v15 : BitVec 32 := Scalar.addi arg0 c1_i32_7
  let c2_i32 : BitVec 32 := 2#32
  let v16 : BitVec 32 := Scalar.remsi v15 c2_i32
  let v17 : Index := Scalar.indexCast v16
  let c0_8 : Index := 0#32
  let c0_9 : Index := 0#32
  ![v17.toNat, 0, 0]
def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

abbrev stage0_0 : Fin 2 → Memref sig .tc .vmem S256x7040 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7040 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7040 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1920 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1920 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x7040 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x7040 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_d" => some ((1 / 7040 : ℝ) : EReal)
  | _ => none
-- ==== ReferenceIdeal.lean ====
abbrev S4x3072x7040 : Shape := ⟨3, ![4, 3072, 7040]⟩
abbrev S7040 : Shape := ⟨1, ![7040]⟩
abbrev S1920x7040 : Shape := ⟨2, ![1920, 7040]⟩
abbrev S1920 : Shape := ⟨1, ![1920]⟩
abbrev S_ : Shape := ⟨0, ![]⟩
abbrev S12288x7040 : Shape := ⟨2, ![12288, 7040]⟩
abbrev S12288 : Shape := ⟨1, ![12288]⟩
abbrev S12288x1 : Shape := ⟨2, ![12288, 1]⟩
abbrev S1x7040 : Shape := ⟨2, ![1, 7040]⟩
abbrev S12288x1920 : Shape := ⟨2, ![12288, 1920]⟩
abbrev S1x1920 : Shape := ⟨2, ![1, 1920]⟩
abbrev S4x3072x1920 : Shape := ⟨3, ![4, 3072, 1920]⟩

abbrev nBuf : Space → Nat
  | .hbm => 55
  | .vmem => 3
  | .smem => 0
  | _ => 0

abbrev bufTy : (tb : Table) → Fin (tcTables nBuf tb) → BufTy
  | .hbm, ⟨0, _⟩ => ⟨S4x3072x7040, .bf16⟩
  | .hbm, ⟨1, _⟩ => ⟨S4x3072x7040, .bf16⟩
  | .hbm, ⟨2, _⟩ => ⟨S7040, .bf16⟩
  | .hbm, ⟨3, _⟩ => ⟨S1920x7040, .fp8e4m3⟩
  | .hbm, ⟨4, _⟩ => ⟨S1920, .f32⟩
  | .hbm, ⟨5, _⟩ => ⟨S_, .f32⟩
  | .hbm, ⟨6, _⟩ => ⟨S1920, .bf16⟩
  | .hbm, ⟨7, _⟩ => ⟨S12288x7040, .bf16⟩
  | .hbm, ⟨8, _⟩ => ⟨S12288x7040, .bf16⟩
  | .hbm, ⟨9, _⟩ => ⟨S12288x7040, .f32⟩
  | .hbm, ⟨10, _⟩ => ⟨S12288x7040, .f32⟩
  | .hbm, ⟨11, _⟩ => ⟨S12288x7040, .f32⟩
  | .hbm, ⟨12, _⟩ => ⟨S12288x7040, .f32⟩
  | .hbm, ⟨13, _⟩ => ⟨S_, .f32⟩
  | .hbm, ⟨14, _⟩ => ⟨S12288, .f32⟩
  | .hbm, ⟨15, _⟩ => ⟨S12288x1, .f32⟩
  | .hbm, ⟨16, _⟩ => ⟨S_, .f32⟩
  | .hbm, ⟨17, _⟩ => ⟨S12288x1, .f32⟩
  | .hbm, ⟨18, _⟩ => ⟨S12288x1, .f32⟩
  | .hbm, ⟨19, _⟩ => ⟨S_, .f32⟩
  | .hbm, ⟨20, _⟩ => ⟨S12288x1, .f32⟩
  | .hbm, ⟨21, _⟩ => ⟨S12288x1, .f32⟩
  | .hbm, ⟨22, _⟩ => ⟨S12288x1, .f32⟩
  | .hbm, ⟨23, _⟩ => ⟨S12288x7040, .f32⟩
  | .hbm, ⟨24, _⟩ => ⟨S12288x7040, .f32⟩
  | .hbm, ⟨25, _⟩ => ⟨S7040, .f32⟩
  | .hbm, ⟨26, _⟩ => ⟨S1x7040, .f32⟩
  | .hbm, ⟨27, _⟩ => ⟨S12288x7040, .f32⟩
  | .hbm, ⟨28, _⟩ => ⟨S12288x7040, .f32⟩
  | .hbm, ⟨29, _⟩ => ⟨S12288x7040, .f32⟩
  | .hbm, ⟨30, _⟩ => ⟨S12288x7040, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S12288x7040, .f32⟩
  | .hbm, ⟨35, _⟩ => ⟨S12288x7040, .f32⟩
  | .hbm, ⟨36, _⟩ => ⟨S_, .f32⟩
  | .hbm, ⟨37, _⟩ => ⟨S12288x7040, .f32⟩
  | .hbm, ⟨38, _⟩ => ⟨S12288x7040, .f32⟩
  | .hbm, ⟨39, _⟩ => ⟨S12288x7040, .fp8e4m3⟩
  | .hbm, ⟨40, _⟩ => ⟨S12288x1920, .f32⟩
  | .hbm, ⟨41, _⟩ => ⟨S1920, .f32⟩
  | .hbm, ⟨42, _⟩ => ⟨S1920, .f32⟩
  | .hbm, ⟨43, _⟩ => ⟨S1x1920, .f32⟩
  | .hbm, ⟨44, _⟩ => ⟨S12288x1920, .f32⟩
  | .hbm, ⟨45, _⟩ => ⟨S12288x1920, .f32⟩
  | .hbm, ⟨46, _⟩ => ⟨S1920, .f32⟩
  | .hbm, ⟨47, _⟩ => ⟨S1x1920, .f32⟩
  | .hbm, ⟨48, _⟩ => ⟨S12288x1920, .f32⟩
  | .hbm, ⟨49, _⟩ => ⟨S12288x1920, .f32⟩
  | .hbm, ⟨50, _⟩ => ⟨S12288x1920, .bf16⟩
  | .hbm, ⟨51, _⟩ => ⟨S4x3072x1920, .bf16⟩
  | .hbm, ⟨52, _⟩ => ⟨S12288x7040, .bf16⟩
  | .hbm, ⟨53, _⟩ => ⟨S4x3072x7040, .bf16⟩
  | .hbm, ⟨54, _⟩ => ⟨S4x3072x7040, .fp8e4m3⟩
  | .local _ .vmem, ⟨0, _⟩ => ⟨S12288x7040, .fp8e4m3⟩
  | .local _ .vmem, ⟨1, _⟩ => ⟨S1920x7040, .fp8e4m3⟩
  | .local _ .vmem, ⟨2, _⟩ => ⟨S12288x1920, .f32⟩
  | _, _ => ⟨S4x3072x7040, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S12288x7040 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x7040 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelForm.lean ====
/-
  The kernel's body as a sequence of two repeated steps: the quantisation of 32 rows (`quant`: one loop over the 55
  column blocks that stores `h` and sums the squares, a second that stores the codes) and the product of the previous
  tile's codes with one block of the weight's rows (`mult512`, `mult384`). The printed body is this sequence, by
  definition up to the bracketing of the sequence.
-/
module

public import proofs.«01_k».proof.Proof.Gen.Kernel.Skeleton

@[expose] public section

set_option maxRecDepth 65536

noncomputable section

namespace Cert.Kernel.Hand

open Cert.Kernel Cert.Kernel.Gen
open Idealize.ShloMosaic Idealize.SL.Sem

variable {F : FTy → Type} [FloatOps F]

/-- The bounds of every column loop. -/
@[reducible] def loop55 : Scf.Loop 32 := ⟨0#32, Scalar.addi 0#32 55#32, 1#32⟩

theorem loop55_ok : loop55.OK := k0_t1_abs.1
theorem loop55_trips : loop55.trips = 55 := by decide +kernel

/-- The first column of block `k`, as the kernel computes it. -/
def col (k : Fin loop55.trips) : ℕ := (Scalar.indexCast (Scalar.muli (Scf.iv 0#32 1#32 k) 128#32) : Index).toNat

theorem col_eq : ∀ k : Fin loop55.trips, col k = 128 * k.val := by decide +kernel

/-- The slot of the codes scratch that the body writes at point `i`, as the kernel computes it. -/
def wslot (i : grid0.Coords) : ℕ := (Scalar.indexCast (Scalar.remsi (BitVec.ofNat 32 (i 0).val) 2#32) : Index).toNat
/-- The slot it multiplies. -/
def rslot (i : grid0.Coords) : ℕ := (Scalar.indexCast (Scalar.remsi (Scalar.addi (BitVec.ofNat 32 (i 0).val) 1#32) 2#32) : Index).toNat

theorem wslot_eq : ∀ i : grid0.Coords, wslot i = (i 0).val % 2 :=
  fun i => (by decide +kernel : ∀ n : Fin 49, (Scalar.indexCast (Scalar.remsi (BitVec.ofNat 32 n.val) 2#32) : Index).toNat = n.val % 2) (i 0)
theorem rslot_eq : ∀ i : grid0.Coords, rslot i = ((i 0).val + 1) % 2 :=
  fun i => (by decide +kernel : ∀ n : Fin 49, (Scalar.indexCast (Scalar.remsi (Scalar.addi (BitVec.ofNat 32 n.val) 1#32) 2#32) : Index).toNat = (n.val + 1) % 2) (i 0)

/-- A group of 32 rows starts at a multiple of 32 below 256. -/
def Grp (r0 : ℕ) : Prop := r0 % 32 = 0 ∧ r0 + 32 ≤ 256

theorem grp0 : Grp 0 := ⟨rfl, by omega⟩
theorem grp1 : Grp 32 := ⟨rfl, by omega⟩
theorem grp2 : Grp 64 := ⟨rfl, by omega⟩
theorem grp3 : Grp 96 := ⟨rfl, by omega⟩
theorem grp4 : Grp 128 := ⟨rfl, by omega⟩
theorem grp5 : Grp 160 := ⟨rfl, by omega⟩
theorem grp6 : Grp 192 := ⟨rfl, by omega⟩
theorem grp7 : Grp 224 := ⟨rfl, by omega⟩
theorem inbRow {r0 : ℕ} (hr : Grp r0) (k : Fin loop55.trips) : ∀ a, (![r0, col k] : Fin 2 → ℕ) a + S32x128.size a ≤ S256x7040.size a := by
  have hk := k.isLt; have h55 := loop55_trips; have hc := col_eq k; obtain ⟨h1, h2⟩ := hr
  refine Fin.forall_fin_two.mpr ⟨?_, ?_⟩
  · show r0 + 32 ≤ 256; omega
  · show col k + 128 ≤ 7040; omega
theorem inbGamma (k : Fin loop55.trips) : ∀ a, (![0, col k] : Fin 2 → ℕ) a + S1x128.size a ≤ S1x7040.size a := by
  have hk := k.isLt; have h55 := loop55_trips; have hc := col_eq k
  refine Fin.forall_fin_two.mpr ⟨?_, ?_⟩
  · show 0 + 1 ≤ 1; omega
  · show col k + 128 ≤ 7040; omega
theorem inbLhs {r0 : ℕ} (hr : Grp r0) (i : grid0.Coords) (k : Fin loop55.trips) :
    ∀ a, (![wslot i, r0, col k] : Fin 3 → ℕ) a + S1x32x128.size a ≤ S2x256x7040.size a := by
  have hk := k.isLt; have h55 := loop55_trips; have hc := col_eq k; obtain ⟨h1, h2⟩ := hr; have hw := wslot_eq i
  intro a
  match a with
  | ⟨0, _⟩ => show wslot i + 1 ≤ 2; omega
  | ⟨1, _⟩ => show r0 + 32 ≤ 256; omega
  | ⟨2, _⟩ => show col k + 128 ≤ 7040; omega
theorem inbPrev (i : grid0.Coords) : ∀ a, (![rslot i, 0, 0] : Fin 3 → ℕ) a + S1x256x7040.size a ≤ S2x256x7040.size a := by
  have hw := rslot_eq i
  intro a
  match a with
  | ⟨0, _⟩ => show rslot i + 1 ≤ 2; omega
  | ⟨1, _⟩ => exact le_refl _
  | ⟨2, _⟩ => exact le_refl _
theorem packRow {r0 : ℕ} (hr : Grp r0) (k : Fin loop55.trips) {p : ℕ} (hp : p ∣ 32) :
    (Rect.unit (s := S256x7040) ![r0, col k] S32x128.size (inbRow hr k)).PackedRows p := by
  refine Or.inr ⟨le_refl _, rfl, Or.inl ⟨?_, ?_⟩⟩
  · show p ∣ r0; exact hp.trans (Nat.dvd_of_mod_eq_zero hr.1)
  · exact hp
theorem packLhs {r0 : ℕ} (hr : Grp r0) (i : grid0.Coords) (k : Fin loop55.trips) {p : ℕ} (hp : p ∣ 32) :
    (Rect.unit (s := S2x256x7040) ![wslot i, r0, col k] S1x32x128.size (inbLhs hr i k)).PackedRows p := by
  refine Or.inr ⟨by decide, rfl, Or.inl ⟨?_, ?_⟩⟩
  · show p ∣ r0; exact hp.trans (Nat.dvd_of_mod_eq_zero hr.1)
  · exact hp

section Steps

variable (i : grid0.Coords)
  (arg1 : Memref sig .tc .vmem S256x7040 .bf16) (arg2 : Memref sig .tc .vmem S256x7040 .bf16) (arg3 : Memref sig .tc .vmem S1x7040 .bf16)
  (arg5 : Memref sig .tc .vmem S1x1920 .f32) (arg7 : Memref sig .tc .vmem S1x1920 .bf16)
  (arg8 : Memref sig .tc .vmem S256x1920 .bf16) (harg8 : arg8.IsWhole)
  (arg9 : Memref sig .tc .vmem S256x7040 .bf16) (harg9 : arg9.IsWhole)
  (arg10 : Memref sig .tc .vmem S256x7040 .fp8e4m3) (harg10 : arg10.IsWhole)
  (arg11 : Memref sig .tc .vmem S1920x7040 .fp8e4m3)
  (arg12 : Memref sig .tc .vmem S2x256x7040 .fp8e4m3) (harg12 : arg12.IsWhole) (v0 : Elt F .f32)

/-- One column block of the first loop: store `h`, add its square to the running sums. -/
def sqBody (r0 : ℕ) (hr : Grp r0) : Fin loop55.trips → FVec F S32x128 .f32 → Prog (TpuEff nD τ sig (Elt F) Λ₀ .tc) (FVec F S32x128 .f32) :=
  fun k acc => do
    let a : Vec F S32x128 .bf16 ← Prog.lift (.load arg1 (Rect.unit (s := S256x7040) ![r0, col k] S32x128.size (inbRow hr k)).toLoadRect (View.loadsAt_vmem h_S32x128))
    let b : Vec F S32x128 .bf16 ← Prog.lift (.load arg2 (Rect.unit (s := S256x7040) ![r0, col k] S32x128.size (inbRow hr k)).toLoadRect (View.loadsAt_vmem h_S32x128))
    let _ : Vec F S32x128 .bf16 ← Prog.lift (.load arg9 (Rect.unit (s := S256x7040) ![r0, col k] S32x128.size (inbRow hr k)).toLoadRect (View.loadsAt_vmem h_S32x128))
    Prog.lift (.store arg9 (Rect.unit (s := S256x7040) ![r0, col k] S32x128.size (inbRow hr k)) (k0_pay23 a b) Finset.univ (View.stores_vmem h_S32x128 (harg9.storeExact_slice rfl _ (packRow hr k (by decide))) (fun _ => rfl)) (.inl rfl))
    pure (k0_pay24 acc a b)

/-- One column block of the second loop: store the codes, in the result's window and in the scratch the next point multiplies. -/
def codeBody (r0 : ℕ) (hr : Grp r0) (s : FVec F S32x128 .f32) : Fin loop55.trips → Unit → Prog (TpuEff nD τ sig (Elt F) Λ₀ .tc) Unit :=
  fun k _ => do
    let a : Vec F S32x128 .bf16 ← Prog.lift (.load arg1 (Rect.unit (s := S256x7040) ![r0, col k] S32x128.size (inbRow hr k)).toLoadRect (View.loadsAt_vmem h_S32x128))
    let b : Vec F S32x128 .bf16 ← Prog.lift (.load arg2 (Rect.unit (s := S256x7040) ![r0, col k] S32x128.size (inbRow hr k)).toLoadRect (View.loadsAt_vmem h_S32x128))
    let g : Vec F S1x128 .bf16 ← Prog.lift (.load arg3 (Rect.unit (s := S1x7040) ![0, col k] S1x128.size (inbGamma k)).toLoadRect (View.loadsAt_vmem h_S1x128))
    let _ : Vec F S32x128 .fp8e4m3 ← Prog.lift (.load arg10 (Rect.unit (s := S256x7040) ![r0, col k] S32x128.size (inbRow hr k)).toLoadRect (View.loadsAt_vmem h_S32x128))
    Prog.lift (.store arg10 (Rect.unit (s := S256x7040) ![r0, col k] S32x128.size (inbRow hr k)) (k0_pay25 v0 s a b g) Finset.univ (View.stores_vmem h_S32x128 (harg10.storeExact_slice rfl _ (packRow hr k (by decide))) (fun _ => rfl)) (.inl rfl))
    let _ : Vec F S1x32x128 .fp8e4m3 ← Prog.lift (.load arg12 (Rect.unit (s := S2x256x7040) ![wslot i, r0, col k] S1x32x128.size (inbLhs hr i k)).toLoadRect (View.loadsAt_vmem h_S1x32x128))
    Prog.lift (.store arg12 (Rect.unit (s := S2x256x7040) ![wslot i, r0, col k] S1x32x128.size (inbLhs hr i k)) (k0_pay26 v0 s a b g) Finset.univ (View.stores_vmem h_S1x32x128 (harg12.storeExact_slice rfl _ (packLhs hr i k (by decide))) (fun _ => rfl)) (.inl rfl))
    pure ⟨⟩

/-- The quantisation of the 32 rows from `r0`. -/
def quant (r0 : ℕ) (hr : Grp r0) : Prog (TpuEff nD τ sig (Elt F) Λ₀ .tc) Unit := do
  let s ← Scf.Loop.for loop55 loop55_ok (k0_pay21 (F := F)) (sqBody arg1 arg2 arg9 harg9 r0 hr)
  Scf.Loop.for loop55 loop55_ok ⟨⟩ (codeBody i arg1 arg2 arg3 arg10 harg10 arg12 harg12 v0 r0 hr s)

/-- The product with the 512 weight rows from `n0`. -/
def mult512 (n0 : ℕ) (hw : ∀ a, (![n0, 0] : Fin 2 → ℕ) a + S512x7040.size a ≤ S1920x7040.size a)
    (hs : ∀ a, (![0, n0] : Fin 2 → ℕ) a + S1x512.size a ≤ S1x1920.size a)
    (hy : ∀ a, (![0, n0] : Fin 2 → ℕ) a + S256x512.size a ≤ S256x1920.size a)
    (hp : (Rect.unit (s := S256x1920) ![0, n0] S256x512.size hy).PackedRows (EltTy.packing .bf16)) :
    Prog (TpuEff nD τ sig (Elt F) Λ₀ .tc) Unit := do
  let l : Vec F S1x256x7040 .fp8e4m3 ← Prog.lift (.load arg12 (Rect.unit (s := S2x256x7040) ![rslot i, 0, 0] S1x256x7040.size (inbPrev i)).toLoadRect (View.loadsAt_vmem h_S1x256x7040))
  let w : Vec F S512x7040 .fp8e4m3 ← Prog.lift (.load arg11 (Rect.unit (s := S1920x7040) ![n0, 0] S512x7040.size hw).toLoadRect (View.loadsAt_vmem h_S512x7040))
  let s : Vec F S1x512 .f32 ← Prog.lift (.load arg5 (Rect.unit (s := S1x1920) ![0, n0] S1x512.size hs).toLoadRect (View.loadsAt_vmem h_S1x512))
  let b : Vec F S1x512 .bf16 ← Prog.lift (.load arg7 (Rect.unit (s := S1x1920) ![0, n0] S1x512.size hs).toLoadRect (View.loadsAt_vmem h_S1x512))
  let _ : Vec F S256x512 .bf16 ← Prog.lift (.load arg8 (Rect.unit (s := S256x1920) ![0, n0] S256x512.size hy).toLoadRect (View.loadsAt_vmem h_S256x512))
  Prog.lift (.store arg8 (Rect.unit (s := S256x1920) ![0, n0] S256x512.size hy) (k0_pay64 v0 l w s b) Finset.univ (View.stores_vmem h_S256x512 (harg8.storeExact_slice rfl _ hp) (fun _ => rfl)) (.inl rfl))

/-- The product with the last 384 weight rows. -/
def mult384 : Prog (TpuEff nD τ sig (Elt F) Λ₀ .tc) Unit := do
  let l : Vec F S1x256x7040 .fp8e4m3 ← Prog.lift (.load arg12 (Rect.unit (s := S2x256x7040) ![rslot i, 0, 0] S1x256x7040.size (inbPrev i)).toLoadRect (View.loadsAt_vmem h_S1x256x7040))
  let w : Vec F S384x7040 .fp8e4m3 ← Prog.lift (.load arg11 (Rect.unit (s := S1920x7040) ![1536, 0] S384x7040.size inb_S1920x7040_S384x7040_1536_0).toLoadRect (View.loadsAt_vmem h_S384x7040))
  let s : Vec F S1x384 .f32 ← Prog.lift (.load arg5 (Rect.unit (s := S1x1920) ![0, 1536] S1x384.size inb_S1x1920_S1x384_0_1536).toLoadRect (View.loadsAt_vmem h_S1x384))
  let b : Vec F S1x384 .bf16 ← Prog.lift (.load arg7 (Rect.unit (s := S1x1920) ![0, 1536] S1x384.size inb_S1x1920_S1x384_0_1536).toLoadRect (View.loadsAt_vmem h_S1x384))
  let _ : Vec F S256x384 .bf16 ← Prog.lift (.load arg8 (Rect.unit (s := S256x1920) ![0, 1536] S256x384.size inb_S256x1920_S256x384_0_1536).toLoadRect (View.loadsAt_vmem h_S256x384))
  Prog.lift (.store arg8 (Rect.unit (s := S256x1920) ![0, 1536] S256x384.size inb_S256x1920_S256x384_0_1536) (k0_pay103 v0 l w s b) Finset.univ (View.stores_vmem h_S256x384 (harg8.storeExact_slice rfl _ packedbf16_S256x1920_S256x384_0_1536) (fun _ => rfl)) (.inl rfl))

end Steps

section Forms

variable (i : grid0.Coords) (arg1 : Memref sig .tc .vmem S256x7040 .bf16) (harg1 : arg1.IsWhole) (arg2 : Memref sig .tc .vmem S256x7040 .bf16) (harg2 : arg2.IsWhole) (arg3 : Memref sig .tc .vmem S1x7040 .bf16) (harg3 : arg3.IsWhole) (arg4 : Memref sig .tc .hbm S1920x7040 .fp8e4m3) (harg4 : arg4.IsWhole) (arg5 : Memref sig .tc .vmem S1x1920 .f32) (harg5 : arg5.IsWhole) (arg6 : Memref sig .tc .smem S1x1 .f32) (harg6 : arg6.IsWhole) (arg7 : Memref sig .tc .vmem S1x1920 .bf16) (harg7 : arg7.IsWhole) (arg8 : Memref sig .tc .vmem S256x1920 .bf16) (harg8 : arg8.IsWhole) (arg9 : Memref sig .tc .vmem S256x7040 .bf16) (harg9 : arg9.IsWhole) (arg10 : Memref sig .tc .vmem S256x7040 .fp8e4m3) (harg10 : arg10.IsWhole) (arg11 : Memref sig .tc .vmem S1920x7040 .fp8e4m3) (harg11 : arg11.IsWhole) (arg12 : Memref sig .tc .vmem S2x256x7040 .fp8e4m3) (harg12 : arg12.IsWhole) (arg13 : DmaSems sig S_)

/-- The first point: start the weight's copy, quantise the tile group by group (`q`). -/
def phaseFirst (q : ∀ r0, Grp r0 → Prog (TpuEff nD τ sig (Elt F) Λ₀ .tc) Unit) : Prog (TpuEff nD τ sig (Elt F) Λ₀ .tc) Unit := do
  Prog.lift (.enqueueDma arg4 (.here arg11) (.dma arg13.sem) harg4.wordExact harg11.wordExact ⟨Or.inl rfl, trivial⟩)
  q 0 grp0; q 32 grp1; q 64 grp2; q 96 grp3; q 128 grp4; q 160 grp5; q 192 grp6; q 224 grp7

/-- The four products of a point. -/
abbrev M0 (v0 : Elt F .f32) := mult512 i arg5 arg7 arg8 harg8 arg11 arg12 v0 0 inb_S1920x7040_S512x7040_0_0 inb_S1x1920_S1x512_0_0 inb_S256x1920_S256x512_0_0 packedbf16_S256x1920_S256x512_0_0
abbrev M1 (v0 : Elt F .f32) := mult512 i arg5 arg7 arg8 harg8 arg11 arg12 v0 512 inb_S1920x7040_S512x7040_512_0 inb_S1x1920_S1x512_0_512 inb_S256x1920_S256x512_0_512 packedbf16_S256x1920_S256x512_0_512
abbrev M2 (v0 : Elt F .f32) := mult512 i arg5 arg7 arg8 harg8 arg11 arg12 v0 1024 inb_S1920x7040_S512x7040_1024_0 inb_S1x1920_S1x512_0_1024 inb_S256x1920_S256x512_0_1024 packedbf16_S256x1920_S256x512_0_1024
abbrev M3 (v0 : Elt F .f32) := mult384 i arg5 arg7 arg8 harg8 arg11 arg12 v0

/-- A point in the middle: the four products, two groups of rows quantised after each. -/
def phaseMiddle (q : ∀ r0, Grp r0 → Prog (TpuEff nD τ sig (Elt F) Λ₀ .tc) Unit) (v0 : Elt F .f32) : Prog (TpuEff nD τ sig (Elt F) Λ₀ .tc) Unit := do
  M0 i arg5 arg7 arg8 harg8 arg11 arg12 v0
  q 0 grp0; q 32 grp1
  M1 i arg5 arg7 arg8 harg8 arg11 arg12 v0
  q 64 grp2; q 96 grp3
  M2 i arg5 arg7 arg8 harg8 arg11 arg12 v0
  q 128 grp4; q 160 grp5
  M3 i arg5 arg7 arg8 harg8 arg11 arg12 v0
  q 192 grp6; q 224 grp7

/-- The last point: the four products. -/
def phaseLast (v0 : Elt F .f32) : Prog (TpuEff nD τ sig (Elt F) Λ₀ .tc) Unit := do
  M0 i arg5 arg7 arg8 harg8 arg11 arg12 v0
  M1 i arg5 arg7 arg8 harg8 arg11 arg12 v0
  M2 i arg5 arg7 arg8 harg8 arg11 arg12 v0
  M3 i arg5 arg7 arg8 harg8 arg11 arg12 v0

/-- Whether the body waits for the weight's copy, as the kernel computes it. -/
def cond2 : BitVec 1 := Scalar.cmpi .ne (Scalar.extui (Scalar.cmpi .eq (BitVec.ofNat 32 (i 0).val) 1#32) : BitVec 32) 0#32

/-- The body. -/
def body : Prog (TpuEff nD τ sig (Elt F) Λ₀ .tc) Unit := do
  let v0 : Elt F .f32 ← smemLoad arg6 (Rect.unit (s := S1x1) ![0, 0] S1x1.size inb_S1x1_S1x1_0_0) numel1_S1x1 rfl
  if k0_cond1 i = 1#1 then
    phaseFirst arg4 harg4 arg11 harg11 arg13 (quant i arg1 arg2 arg3 arg9 harg9 arg10 harg10 arg12 harg12 v0)
  else pure ⟨⟩
  if cond2 i = 1#1 then
    Prog.lift (.waitDma2 arg13.sem arg4 arg11 harg4.wordExact harg11.wordExact)
  else pure ⟨⟩
  if k0_cond3 i = 1#1 then
    phaseMiddle i arg5 arg7 arg8 harg8 arg11 arg12 (quant i arg1 arg2 arg3 arg9 harg9 arg10 harg10 arg12 harg12 v0) v0
  else pure ⟨⟩
  if k0_cond4 i = 1#1 then phaseLast i arg5 arg7 arg8 harg8 arg11 arg12 v0
  else pure ⟨⟩

set_option maxHeartbeats 4000000 in
/-- The printed body is this sequence. -/
theorem body_eq : cc0_add_rmsnorm_fp8_linear (F := F) i arg1 harg1 arg2 harg2 arg3 harg3 arg4 harg4 arg5 harg5 arg6 harg6 arg7 harg7 arg8 harg8 arg9 harg9 arg10 harg10 arg11 harg11 arg12 harg12 arg13
    = body i arg1 arg2 arg3 arg4 harg4 arg5 arg6 arg7 arg8 harg8 arg9 harg9 arg10 harg10 arg11 harg11 arg12 harg12 arg13 := by
  rw [cc0_add_rmsnorm_fp8_linear_eq_skeleton]
  unfold cc0_add_rmsnorm_fp8_linear_skel body phaseFirst phaseMiddle phaseLast M0 M1 M2 M3 mult512 mult384 quant
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton,
    k0_part1_skel, k0_part2_skel, k0_part3_skel, k0_part4_skel, k0_part5_skel, k0_part6_skel, k0_part7_skel, k0_part8_skel, k0_part9_skel, k0_part10_skel, bind_assoc, pure_bind]
  rfl

end Forms

end Cert.Kernel.Hand

end
-- ==== Proof.KernelStep.lean ====
/-
  What one repeated step of the kernel's body does: the quantisation of 32 rows and the product with one block of the
  weight's rows, each stated once for every group of rows and every block.

  A memref is held at the representative of the function it reads (`At`). The values are written as functions of an
  index: `hV` the sum, `cV` the codes, both of the whole tile; `mix P V H` is `V` where `P` holds and `H` elsewhere, so
  that a buffer part of which is written is `mix` of its final and its first contents.
-/
module

public import proofs.«01_k».proof.Proof.KernelForm
public import proofs.«01_k».proof.Proof.Gen.Kernel.Launch
public import Idealize.ShloMosaic.Lib.Exec
public import Idealize.ShloMosaic.Lib.Tactic
public import Idealize.ShloMosaic.Lib.Pipeline.Kit
public import Idealize.ShloMosaic.Lib.VecWindow
public import Idealize.ShloMosaic.Lib.ValueLayout

@[expose] public section

set_option maxRecDepth 65536

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ (Pipeline.UD sig nD τ) ℕ

/-! ## The values -/

/-- The block of 32 rows from `r0` and 128 columns from `128 k`. -/
def rowBlk {α : Type} (X : S256x7040.Idx → α) (r0 k : ℕ) : S32x128.Idx → α :=
  fun y => X (ix2 ⟨(r0 + (y 0).val) % 256, Nat.mod_lt _ (by decide)⟩ ⟨(128 * k + (y 1).val) % 7040, Nat.mod_lt _ (by decide)⟩)

/-- The block of 128 columns from `128 k` of a row. -/
def rowOne {α : Type} (G : S1x7040.Idx → α) (k : ℕ) : S1x128.Idx → α :=
  fun y => G (ix2 ⟨0, by decide⟩ ⟨(128 * k + (y 1).val) % 7040, Nat.mod_lt _ (by decide)⟩)

/-- Slot `s` of the codes scratch. -/
def slotOf {α : Type} (L : S2x256x7040.Idx → α) (s : ℕ) : S1x256x7040.Idx → α :=
  fun y => L (ix3 ⟨s % 2, Nat.mod_lt _ (by decide)⟩ (y 1) (y 2))

/-- `V` where `P` holds and `H` elsewhere. -/
def mix {ι α : Type} (P : ι → Prop) [DecidablePred P] (V H : ι → α) : ι → α := fun y => if P y then V y else H y

/-- The rows below `r0`, and the first `k` column blocks of the 32 rows from `r0`. -/
abbrev done (r0 k : ℕ) : S256x7040.Idx → Prop := fun y => (y 0).val < r0 ∨ ((y 0).val < r0 + 32 ∧ (y 1).val < 128 * k)
/-- The same in slot `s` of the codes scratch. -/
abbrev doneIn (s r0 k : ℕ) : S2x256x7040.Idx → Prop :=
  fun y => (y 0).val = s ∧ ((y 1).val < r0 ∨ ((y 1).val < r0 + 32 ∧ (y 2).val < 128 * k))

/-- The sum of the two operands, in bf16. -/
def hV (X R : S256x7040.Idx → Elt F .bf16) : S256x7040.Idx → Elt F .bf16 :=
  fun y => k0_pay23 (F := F) (rowBlk X (32 * ((y 0).val / 32)) ((y 1).val / 128)) (rowBlk R (32 * ((y 0).val / 32)) ((y 1).val / 128))
    (ix2 ⟨(y 0).val % 32, Nat.mod_lt _ (by decide)⟩ ⟨(y 1).val % 128, Nat.mod_lt _ (by decide)⟩)

/-- The running sums of the squares of 32 rows after `k` column blocks. -/
def sqAcc (X R : S256x7040.Idx → Elt F .bf16) (r0 : ℕ) : ℕ → FVec F S32x128 .f32
  | 0 => k0_pay21 (F := F)
  | k + 1 => k0_pay24 (F := F) (sqAcc X R r0 k) (rowBlk X r0 k) (rowBlk R r0 k)

/-- The codes. -/
def cV (X R : S256x7040.Idx → Elt F .bf16) (G : S1x7040.Idx → Elt F .bf16) (v0 : Elt F .f32) : S256x7040.Idx → Elt F .fp8e4m3 :=
  fun y => k0_pay25 (F := F) v0 (sqAcc X R (32 * ((y 0).val / 32)) 55)
    (rowBlk X (32 * ((y 0).val / 32)) ((y 1).val / 128)) (rowBlk R (32 * ((y 0).val / 32)) ((y 1).val / 128)) (rowOne G ((y 1).val / 128))
    (ix2 ⟨(y 0).val % 32, Nat.mod_lt _ (by decide)⟩ ⟨(y 1).val % 128, Nat.mod_lt _ (by decide)⟩)

/-- The codes as contents of either slot of the scratch. -/
def cL (X R : S256x7040.Idx → Elt F .bf16) (G : S1x7040.Idx → Elt F .bf16) (v0 : Elt F .f32) : S2x256x7040.Idx → Elt F .fp8e4m3 :=
  fun y => cV X R G v0 (ix2 (y 1) (y 2))

theorem window_row {α : Type} (X : S256x7040.Idx → α) {r0 k : ℕ} (hr : r0 + 32 ≤ 256) (hk : k < 55)
    (inb : ∀ a, (![r0, 128 * k] : Fin 2 → ℕ) a + S32x128.size a ≤ S256x7040.size a) :
    VecWindow.window X ![r0, 128 * k] S32x128.size inb = rowBlk X r0 k := by
  funext y
  refine congrArg X (funext fun a => Fin.ext ?_)
  have h0 : (y 0).val < 32 := (y 0).isLt
  have h1 : (y 1).val < 128 := (y 1).isLt
  match a with
  | ⟨0, _⟩ => show r0 + 1 * (y 0).val = (r0 + (y 0).val) % 256; omega
  | ⟨1, _⟩ => show 128 * k + 1 * (y 1).val = (128 * k + (y 1).val) % 7040; omega

theorem window_one {α : Type} (G : S1x7040.Idx → α) {k : ℕ} (hk : k < 55)
    (inb : ∀ a, (![0, 128 * k] : Fin 2 → ℕ) a + S1x128.size a ≤ S1x7040.size a) :
    VecWindow.window G ![0, 128 * k] S1x128.size inb = rowOne G k := by
  funext y
  refine congrArg G (funext fun a => Fin.ext ?_)
  have h0 : (y 0).val < 1 := (y 0).isLt
  have h1 : (y 1).val < 128 := (y 1).isLt
  match a with
  | ⟨0, _⟩ => show 0 + 1 * (y 0).val = 0; omega
  | ⟨1, _⟩ => show 128 * k + 1 * (y 1).val = (128 * k + (y 1).val) % 7040; omega

theorem window_slot {α : Type} (L : S2x256x7040.Idx → α) {s : ℕ} (hs : s < 2)
    (inb : ∀ a, (![s, 0, 0] : Fin 3 → ℕ) a + S1x256x7040.size a ≤ S2x256x7040.size a) :
    VecWindow.window L ![s, 0, 0] S1x256x7040.size inb = slotOf L s := by
  funext y
  refine congrArg L (funext fun a => Fin.ext ?_)
  have h0 : (y 0).val < 1 := (y 0).isLt
  match a with
  | ⟨0, _⟩ => show s + 1 * (y 0).val = s % 2; omega
  | ⟨1, _⟩ => show 0 + 1 * (y 1).val = (y 1).val; omega
  | ⟨2, _⟩ => show 0 + 1 * (y 2).val = (y 2).val; omega

/-- Putting a column block of the final contents extends the part written. -/
theorem put_mix {α : Type} (V H : S256x7040.Idx → α) {r0 k : ℕ} (hr : r0 + 32 ≤ 256) (hk : k < 55) (w : S32x128.Idx → α)
    (hw : w = rowBlk V r0 k) :
    VecWindow.put (mix (done r0 k) V H) ![r0, 128 * k] S32x128.size w = mix (done r0 (k + 1)) V H := by
  subst hw
  funext y
  have h0 : (y 0).val < 256 := (y 0).isLt
  have h1 : (y 1).val < 7040 := (y 1).isLt
  unfold VecWindow.put
  split
  · rename_i h
    have ha : r0 ≤ (y 0).val ∧ (y 0).val < r0 + 32 := h 0
    have hb : 128 * k ≤ (y 1).val ∧ (y 1).val < 128 * k + 128 := h 1
    have hd : done r0 (k + 1) y := Or.inr ⟨by omega, by omega⟩
    rw [mix, if_pos hd]
    refine congrArg V (funext fun a => Fin.ext ?_)
    match a with
    | ⟨0, _⟩ => show (r0 + ((y 0).val - r0)) % 256 = (y 0).val; omega
    | ⟨1, _⟩ => show (128 * k + ((y 1).val - 128 * k)) % 7040 = (y 1).val; omega
  · rename_i h
    have hiff : done r0 k y ↔ done r0 (k + 1) y := by
      have hn : ¬ ((r0 ≤ (y 0).val ∧ (y 0).val < r0 + 32) ∧ (128 * k ≤ (y 1).val ∧ (y 1).val < 128 * k + 128)) :=
        fun hc => h (Fin.forall_fin_two.mpr ⟨hc.1, hc.2⟩)
      show (_ ∨ _) ↔ (_ ∨ _); omega
    unfold mix; simp only [hiff]

/-- The same in one slot of the scratch. -/
theorem put_mixIn {α : Type} (V : S256x7040.Idx → α) (L : S2x256x7040.Idx → α) {s r0 k : ℕ} (hs : s < 2) (hr : r0 + 32 ≤ 256) (hk : k < 55)
    (w : S1x32x128.Idx → α) (hw : ∀ z : S1x32x128.Idx, w z = rowBlk V r0 k (ix2 (z 1) (z 2))) :
    VecWindow.put (mix (doneIn s r0 k) (fun y => V (ix2 (y 1) (y 2))) L) ![s, r0, 128 * k] S1x32x128.size w
      = mix (doneIn s r0 (k + 1)) (fun y => V (ix2 (y 1) (y 2))) L := by
  funext y
  have h0 : (y 1).val < 256 := (y 1).isLt
  have h1 : (y 2).val < 7040 := (y 2).isLt
  unfold VecWindow.put
  split
  · rename_i h
    have hc : s ≤ (y 0).val ∧ (y 0).val < s + 1 := h 0
    have ha : r0 ≤ (y 1).val ∧ (y 1).val < r0 + 32 := h 1
    have hb : 128 * k ≤ (y 2).val ∧ (y 2).val < 128 * k + 128 := h 2
    have hd : doneIn s r0 (k + 1) y := ⟨by omega, Or.inr ⟨by omega, by omega⟩⟩
    rw [mix, if_pos hd]
    refine (hw _).trans (congrArg V (funext fun a => Fin.ext ?_))
    match a with
    | ⟨0, _⟩ => show (r0 + ((y 1).val - r0)) % 256 = (y 1).val; omega
    | ⟨1, _⟩ => show (128 * k + ((y 2).val - 128 * k)) % 7040 = (y 2).val; omega
  · rename_i h
    have hiff : doneIn s r0 k y ↔ doneIn s r0 (k + 1) y := by
      have hn : ¬ ((s ≤ (y 0).val ∧ (y 0).val < s + 1) ∧ (r0 ≤ (y 1).val ∧ (y 1).val < r0 + 32) ∧ (128 * k ≤ (y 2).val ∧ (y 2).val < 128 * k + 128)) :=
        fun hc => h fun a => match a with
          | ⟨0, _⟩ => hc.1
          | ⟨1, _⟩ => hc.2.1
          | ⟨2, _⟩ => hc.2.2
      show (_ ∧ (_ ∨ _)) ↔ (_ ∧ (_ ∨ _)); omega
    unfold mix; simp only [hiff]

/-- A block of the sum is the printed sum of the blocks. -/
theorem hV_blk (X R : S256x7040.Idx → Elt F .bf16) {r0 k : ℕ} (hr : Grp r0) (hk : k < 55) :
    k0_pay23 (F := F) (rowBlk X r0 k) (rowBlk R r0 k) = rowBlk (hV X R) r0 k := by
  funext y
  have h0 : (y 0).val < 32 := (y 0).isLt
  have h1 : (y 1).val < 128 := (y 1).isLt
  obtain ⟨hr1, hr2⟩ := hr
  have e1 : 32 * ((r0 + (y 0).val) % 256 / 32) = r0 := by omega
  have e2 : (128 * k + (y 1).val) % 7040 / 128 = k := by omega
  have e3 : (r0 + (y 0).val) % 256 % 32 = (y 0).val := by omega
  have e4 : (128 * k + (y 1).val) % 7040 % 128 = (y 1).val := by omega
  show _ = k0_pay23 (F := F) (rowBlk X (32 * ((r0 + (y 0).val) % 256 / 32)) ((128 * k + (y 1).val) % 7040 / 128)) (rowBlk R (32 * ((r0 + (y 0).val) % 256 / 32)) ((128 * k + (y 1).val) % 7040 / 128)) _
  rw [e1, e2]
  refine congrArg _ (funext fun a => Fin.ext ?_)
  match a with
  | ⟨0, _⟩ => exact e3.symm
  | ⟨1, _⟩ => exact e4.symm

/-- A block of the codes is the printed code of the blocks. -/
theorem cV_blk (X R : S256x7040.Idx → Elt F .bf16) (G : S1x7040.Idx → Elt F .bf16) (v0 : Elt F .f32) {r0 k : ℕ} (hr : Grp r0) (hk : k < 55) :
    k0_pay25 (F := F) v0 (sqAcc X R r0 55) (rowBlk X r0 k) (rowBlk R r0 k) (rowOne G k) = rowBlk (cV X R G v0) r0 k := by
  funext y
  have h0 : (y 0).val < 32 := (y 0).isLt
  have h1 : (y 1).val < 128 := (y 1).isLt
  obtain ⟨hr1, hr2⟩ := hr
  have e1 : 32 * ((r0 + (y 0).val) % 256 / 32) = r0 := by omega
  have e2 : (128 * k + (y 1).val) % 7040 / 128 = k := by omega
  have e3 : (r0 + (y 0).val) % 256 % 32 = (y 0).val := by omega
  have e4 : (128 * k + (y 1).val) % 7040 % 128 = (y 1).val := by omega
  show _ = k0_pay25 (F := F) v0 (sqAcc X R (32 * ((r0 + (y 0).val) % 256 / 32)) 55) (rowBlk X (32 * ((r0 + (y 0).val) % 256 / 32)) ((128 * k + (y 1).val) % 7040 / 128)) (rowBlk R (32 * ((r0 + (y 0).val) % 256 / 32)) ((128 * k + (y 1).val) % 7040 / 128)) (rowOne G ((128 * k + (y 1).val) % 7040 / 128)) _
  rw [e1, e2]
  refine congrArg _ (funext fun a => Fin.ext ?_)
  match a with
  | ⟨0, _⟩ => exact e3.symm
  | ⟨1, _⟩ => exact e4.symm

/-- The codes stored in the scratch are those stored in the window, under a leading axis of size one. -/
theorem pay26_eq (v0 : Elt F .f32) (s : FVec F S32x128 .f32) (a b : Vec F S32x128 .bf16) (g : Vec F S1x128 .bf16) (z : S1x32x128.Idx) :
    k0_pay26 (F := F) v0 s a b g z = k0_pay25 (F := F) v0 s a b g (ix2 (z 1) (z 2)) := by
  have hz : z = ix3 (0 : Fin 1) (z 1) (z 2) := by
    refine (eq_ix3 z).trans ?_
    have h0 : z 0 = (0 : Fin 1) := Fin.ext (by have : (z 0).val < 1 := (z 0).isLt; show (z 0).val = 0; omega)
    exact congrArg (fun q => ix3 q (z 1) (z 2)) h0
  rw [hz]
  exact shapeCast_ab_1ab_apply (k0_pay25 (F := F) v0 s a b g) shapeCasts_S32x128_S1x32x128 0 (z 1) (z 2)

/-- The block of 512 columns from `n0` of a row; its index is a column of that block. -/
def rowPart {α : Type} (v : S1x1920.Idx → α) (n0 : ℕ) : S1x512.Idx → α :=
  fun y => v (ix2 ⟨0, by decide⟩ ⟨(n0 + (y 1).val) % 1920, Nat.mod_lt _ (by decide)⟩)
/-- The last 384 columns of a row. -/
def rowLast {α : Type} (v : S1x1920.Idx → α) : S1x384.Idx → α :=
  fun y => v (ix2 ⟨0, by decide⟩ ⟨(1536 + (y 1).val) % 1920, Nat.mod_lt _ (by decide)⟩)
/-- The 512 rows of the weight from `n0`. -/
def wPart {α : Type} (W : S1920x7040.Idx → α) (n0 : ℕ) : S512x7040.Idx → α :=
  fun y => W (ix2 ⟨(n0 + (y 0).val) % 1920, Nat.mod_lt _ (by decide)⟩ (y 1))
/-- The last 384 rows of the weight. -/
def wLast {α : Type} (W : S1920x7040.Idx → α) : S384x7040.Idx → α :=
  fun y => W (ix2 ⟨(1536 + (y 0).val) % 1920, Nat.mod_lt _ (by decide)⟩ (y 1))

/-- The result of the product: by blocks of 512 columns below column 1536, one block of 384 from there. -/
def yV (T : S1x256x7040.Idx → Elt F .fp8e4m3) (W : S1920x7040.Idx → Elt F .fp8e4m3) (S : S1x1920.Idx → Elt F .f32) (B : S1x1920.Idx → Elt F .bf16)
    (v0 : Elt F .f32) : S256x1920.Idx → Elt F .bf16 :=
  fun y => if (y 1).val < 1536 then
      k0_pay64 (F := F) v0 T (wPart W (512 * ((y 1).val / 512))) (rowPart S (512 * ((y 1).val / 512))) (rowPart B (512 * ((y 1).val / 512)))
        (ix2 (y 0) ⟨(y 1).val % 512, Nat.mod_lt _ (by decide)⟩)
    else k0_pay103 (F := F) v0 T (wLast W) (rowLast S) (rowLast B) (ix2 (y 0) ⟨((y 1).val - 1536) % 384, Nat.mod_lt _ (by decide)⟩)

theorem window_part {α : Type} (v : S1x1920.Idx → α) {n0 : ℕ} (hn : n0 + 512 ≤ 1920)
    (inb : ∀ a, (![0, n0] : Fin 2 → ℕ) a + S1x512.size a ≤ S1x1920.size a) : VecWindow.window v ![0, n0] S1x512.size inb = rowPart v n0 := by
  funext y
  refine congrArg v (funext fun a => Fin.ext ?_)
  have h0 : (y 0).val < 1 := (y 0).isLt
  have h1 : (y 1).val < 512 := (y 1).isLt
  match a with
  | ⟨0, _⟩ => show 0 + 1 * (y 0).val = 0; omega
  | ⟨1, _⟩ => show n0 + 1 * (y 1).val = (n0 + (y 1).val) % 1920; omega
theorem window_last {α : Type} (v : S1x1920.Idx → α)
    (inb : ∀ a, (![0, 1536] : Fin 2 → ℕ) a + S1x384.size a ≤ S1x1920.size a) : VecWindow.window v ![0, 1536] S1x384.size inb = rowLast v := by
  funext y
  refine congrArg v (funext fun a => Fin.ext ?_)
  have h0 : (y 0).val < 1 := (y 0).isLt
  have h1 : (y 1).val < 384 := (y 1).isLt
  match a with
  | ⟨0, _⟩ => show 0 + 1 * (y 0).val = 0; omega
  | ⟨1, _⟩ => show 1536 + 1 * (y 1).val = (1536 + (y 1).val) % 1920; omega
theorem window_wPart {α : Type} (W : S1920x7040.Idx → α) {n0 : ℕ} (hn : n0 + 512 ≤ 1920)
    (inb : ∀ a, (![n0, 0] : Fin 2 → ℕ) a + S512x7040.size a ≤ S1920x7040.size a) : VecWindow.window W ![n0, 0] S512x7040.size inb = wPart W n0 := by
  funext y
  refine congrArg W (funext fun a => Fin.ext ?_)
  have h0 : (y 0).val < 512 := (y 0).isLt
  match a with
  | ⟨0, _⟩ => show n0 + 1 * (y 0).val = (n0 + (y 0).val) % 1920; omega
  | ⟨1, _⟩ => show 0 + 1 * (y 1).val = (y 1).val; omega
theorem window_wLast {α : Type} (W : S1920x7040.Idx → α)
    (inb : ∀ a, (![1536, 0] : Fin 2 → ℕ) a + S384x7040.size a ≤ S1920x7040.size a) : VecWindow.window W ![1536, 0] S384x7040.size inb = wLast W := by
  funext y
  refine congrArg W (funext fun a => Fin.ext ?_)
  have h0 : (y 0).val < 384 := (y 0).isLt
  match a with
  | ⟨0, _⟩ => show 1536 + 1 * (y 0).val = (1536 + (y 0).val) % 1920; omega
  | ⟨1, _⟩ => show 0 + 1 * (y 1).val = (y 1).val; omega

/-- The first `n` columns of the product's result. -/
abbrev yDone (n : ℕ) : S256x1920.Idx → Prop := fun y => (y 1).val < n

/-- Putting a block of 512 columns of the result extends the part written. -/
theorem put_y512 (T : S1x256x7040.Idx → Elt F .fp8e4m3) (W : S1920x7040.Idx → Elt F .fp8e4m3) (S : S1x1920.Idx → Elt F .f32) (B : S1x1920.Idx → Elt F .bf16)
    (v0 : Elt F .f32) (Y : S256x1920.Idx → Elt F .bf16) {n0 : ℕ} (h5 : n0 % 512 = 0) (hn : n0 + 512 ≤ 1536) :
    VecWindow.put (mix (yDone n0) (yV T W S B v0) Y) ![0, n0] S256x512.size (k0_pay64 (F := F) v0 T (wPart W n0) (rowPart S n0) (rowPart B n0))
      = mix (yDone (n0 + 512)) (yV T W S B v0) Y := by
  funext y
  have h0 : (y 0).val < 256 := (y 0).isLt
  have h1 : (y 1).val < 1920 := (y 1).isLt
  unfold VecWindow.put
  split
  · rename_i h
    have hb : n0 ≤ (y 1).val ∧ (y 1).val < n0 + 512 := h 1
    have hd : yDone (n0 + 512) y := hb.2
    rw [mix, if_pos hd, yV, if_pos (show (y 1).val < 1536 by omega), show 512 * ((y 1).val / 512) = n0 by omega]
    refine congrArg _ (funext fun a => Fin.ext ?_)
    match a with
    | ⟨0, _⟩ => show (y 0).val - 0 = (y 0).val; omega
    | ⟨1, _⟩ => show (y 1).val - n0 = (y 1).val % 512; omega
  · rename_i h
    have hiff : yDone n0 y ↔ yDone (n0 + 512) y := by
      have hn : ¬ ((0 ≤ (y 0).val ∧ (y 0).val < 0 + 256) ∧ (n0 ≤ (y 1).val ∧ (y 1).val < n0 + 512)) :=
        fun hc => h (Fin.forall_fin_two.mpr ⟨hc.1, hc.2⟩)
      show _ < _ ↔ _ < _; omega
    unfold mix; simp only [hiff]

/-- Putting the last block completes the result. -/
theorem put_y384 (T : S1x256x7040.Idx → Elt F .fp8e4m3) (W : S1920x7040.Idx → Elt F .fp8e4m3) (S : S1x1920.Idx → Elt F .f32) (B : S1x1920.Idx → Elt F .bf16)
    (v0 : Elt F .f32) (Y : S256x1920.Idx → Elt F .bf16) :
    VecWindow.put (mix (yDone 1536) (yV T W S B v0) Y) ![0, 1536] S256x384.size (k0_pay103 (F := F) v0 T (wLast W) (rowLast S) (rowLast B))
      = yV T W S B v0 := by
  funext y
  have h0 : (y 0).val < 256 := (y 0).isLt
  have h1 : (y 1).val < 1920 := (y 1).isLt
  unfold VecWindow.put
  split
  · rename_i h
    have hb : 1536 ≤ (y 1).val ∧ (y 1).val < 1536 + 384 := h 1
    rw [yV, if_neg (show ¬ (y 1).val < 1536 by omega)]
    refine congrArg _ (funext fun a => Fin.ext ?_)
    match a with
    | ⟨0, _⟩ => show (y 0).val - 0 = (y 0).val; omega
    | ⟨1, _⟩ => show (y 1).val - 1536 = ((y 1).val - 1536) % 384; omega
  · rename_i h
    have hd : yDone 1536 y := by
      have hn : ¬ ((0 ≤ (y 0).val ∧ (y 0).val < 0 + 256) ∧ (1536 ≤ (y 1).val ∧ (y 1).val < 1536 + 384)) :=
        fun hc => h (Fin.forall_fin_two.mpr ⟨hc.1, hc.2⟩)
      show _ < _; omega
    rw [mix, if_pos hd]

/-! ## The steps -/

section Steps

/-- A memref held, whole, at the representative of the function it reads. -/
abbrev At (c : Dev nD) {sp : Space} {s : Shape} {e : EltTy} (m : Memref sig .tc sp s e) (x : s.Idx → Elt F e) : sProp 𝕄 :=
  m.view.loc (c : Thread nD τ) ↦[m.view.set]{fullShare} m.view.rep x

variable (𝒱 : Variants) (c : Dev nD) (bd : Option 𝒱.V)
variable (i : grid0.Coords)
  (arg1 : Memref sig .tc .vmem S256x7040 .bf16) (arg2 : Memref sig .tc .vmem S256x7040 .bf16) (arg3 : Memref sig .tc .vmem S1x7040 .bf16)
  (arg5 : Memref sig .tc .vmem S1x1920 .f32) (arg7 : Memref sig .tc .vmem S1x1920 .bf16)
  (arg8 : Memref sig .tc .vmem S256x1920 .bf16) (harg8 : arg8.IsWhole)
  (arg9 : Memref sig .tc .vmem S256x7040 .bf16) (harg9 : arg9.IsWhole)
  (arg10 : Memref sig .tc .vmem S256x7040 .fp8e4m3) (harg10 : arg10.IsWhole)
  (arg11 : Memref sig .tc .vmem S1920x7040 .fp8e4m3)
  (arg12 : Memref sig .tc .vmem S2x256x7040 .fp8e4m3) (harg12 : arg12.IsWhole) (v0 : Elt F .f32)
variable (X R H : S256x7040.Idx → Elt F .bf16) (G : S1x7040.Idx → Elt F .bf16) (C : S256x7040.Idx → Elt F .fp8e4m3) (L : S2x256x7040.Idx → Elt F .fp8e4m3)

/-- One column block of the first loop. -/
theorem sq_trip {r0 : ℕ} (hr : Grp r0) (k : Fin loop55.trips) (acc : FVec F S32x128 .f32) :
    iprop(At c arg1 X ∗ At c arg2 R ∗ At c arg9 (mix (done r0 k.val) (hV X R) H))
      ⊢ wp frame (wpE (defs₀ (F := F)) 𝒱 (c : Thread nD τ) bd) Set.univ (sqBody arg1 arg2 arg9 harg9 r0 hr k acc)
          (fun acc' => iprop(⌜acc' = k0_pay24 (F := F) acc (rowBlk X r0 k.val) (rowBlk R r0 k.val)⌝ ∗ At c arg1 X ∗ At c arg2 R ∗ At c arg9 (mix (done r0 (k.val + 1)) (hV X R) H))) := by
  have hk : k.val < 55 := lt_of_lt_of_eq k.isLt loop55_trips
  have e1 : (![r0, col k] : Fin 2 → ℕ) = ![r0, 128 * k.val] := by rw [col_eq]
  have e2 : ∀ a, (![r0, 128 * k.val] : Fin 2 → ℕ) a + S32x128.size a ≤ S256x7040.size a := e1 ▸ inbRow hr k
  unfold sqBody
  iintro ⟨H1, H2, H9⟩
  sl_exec
  sl_step
  rw [View.readAt_rep_unit arg1.view X (inbRow hr k) e1 e2, View.readAt_rep_unit arg2.view R (inbRow hr k) e1 e2, window_row X hr.2 hk, window_row R hr.2 hk]
  isplitr
  · ipureintro; rfl
  isplitl [H1]; · iexact H1
  isplitl [H2]; · iexact H2
  iapply (pointsTo_rep_of_read (c : Thread nD τ) arg9 _ fullShare (mix (done r0 (k.val + 1)) (hV X R) H)
    ((View.read_writes_rep_unit arg9.view _ (inbRow hr k) _ e1).trans (put_mix (hV X R) H hr.2 hk _ (hV_blk X R hr hk))))
  iexact H9

/-- The first loop over a group: it stores the group's sums and returns the running sums of the squares. -/
theorem sq_loop {r0 : ℕ} (hr : Grp r0) :
    iprop(At c arg1 X ∗ At c arg2 R ∗ At c arg9 (mix (done r0 0) (hV X R) H))
      ⊢ wp frame (wpE (defs₀ (F := F)) 𝒱 (c : Thread nD τ) bd) Set.univ (Scf.Loop.for loop55 loop55_ok (k0_pay21 (F := F)) (sqBody arg1 arg2 arg9 harg9 r0 hr))
          (fun s => iprop(⌜s = sqAcc X R r0 55⌝ ∗ At c arg1 X ∗ At c arg2 R ∗ At c arg9 (mix (done r0 55) (hV X R) H))) := by
  iintro ⟨H1, H2, H9⟩
  iapply (Scf.wp_for frame (wpE (defs₀ (F := F)) 𝒱 (c : Thread nD τ) bd) Set.univ _ _ _ loop55_ok (k0_pay21 (F := F)) (sqBody arg1 arg2 arg9 harg9 r0 hr)
    (fun k s => iprop(⌜s = sqAcc X R r0 k⌝ ∗ At c arg1 X ∗ At c arg2 R ∗ At c arg9 (mix (done r0 k) (hV X R) H))) ?step)
  case step =>
    intro k acc
    iintro ⟨%hs, H1, H2, H9⟩
    iapply (wp_wand_r Idealize.ShloMosaic.frame (wpE (defs₀ (F := F)) 𝒱 (c : Thread nD τ) bd) Set.univ)
    isplitl [H1 H2 H9]
    · iapply (sq_trip 𝒱 c bd arg1 arg2 arg9 harg9 X R H hr k acc)
      isplitl [H1]; · iexact H1
      isplitl [H2]; · iexact H2
      iexact H9
    · iintro %a ⟨%ha, H1, H2, H9⟩
      isplitr
      · ipureintro; rw [ha, hs]; rfl
      isplitl [H1]; · iexact H1
      isplitl [H2]; · iexact H2
      iexact H9
  isplitl [H1 H2 H9]
  · isplitr
    · ipureintro; rfl
    isplitl [H1]; · iexact H1
    isplitl [H2]; · iexact H2
    iexact H9
  · iintro %acc H
    rw [show Scf.trips 0#32 (Scalar.addi 0#32 55#32) 1#32 = 55 from loop55_trips]
    iexact H

/-- One column block of the second loop. -/
theorem code_trip {r0 : ℕ} (hr : Grp r0) (k : Fin loop55.trips) (u : Unit) :
    iprop(At c arg1 X ∗ At c arg2 R ∗ At c arg3 G ∗ At c arg10 (mix (done r0 k.val) (cV X R G v0) C) ∗ At c arg12 (mix (doneIn (wslot i) r0 k.val) (cL X R G v0) L))
      ⊢ wp frame (wpE (defs₀ (F := F)) 𝒱 (c : Thread nD τ) bd) Set.univ (codeBody i arg1 arg2 arg3 arg10 harg10 arg12 harg12 v0 r0 hr (sqAcc X R r0 55) k u)
          (fun _ => iprop(At c arg1 X ∗ At c arg2 R ∗ At c arg3 G ∗ At c arg10 (mix (done r0 (k.val + 1)) (cV X R G v0) C) ∗ At c arg12 (mix (doneIn (wslot i) r0 (k.val + 1)) (cL X R G v0) L))) := by
  have hk : k.val < 55 := lt_of_lt_of_eq k.isLt loop55_trips
  have hw : wslot i < 2 := by rw [wslot_eq]; omega
  have e1 : (![r0, col k] : Fin 2 → ℕ) = ![r0, 128 * k.val] := by rw [col_eq]
  have e2 : ∀ a, (![r0, 128 * k.val] : Fin 2 → ℕ) a + S32x128.size a ≤ S256x7040.size a := e1 ▸ inbRow hr k
  have e3 : (![0, col k] : Fin 2 → ℕ) = ![0, 128 * k.val] := by rw [col_eq]
  have e4 : ∀ a, (![0, 128 * k.val] : Fin 2 → ℕ) a + S1x128.size a ≤ S1x7040.size a := e3 ▸ inbGamma k
  have e5 : (![wslot i, r0, col k] : Fin 3 → ℕ) = ![wslot i, r0, 128 * k.val] := by rw [col_eq]
  unfold codeBody
  iintro ⟨H1, H2, H3, H10, H12⟩
  sl_exec
  sl_step
  rw [View.readAt_rep_unit arg1.view X (inbRow hr k) e1 e2, View.readAt_rep_unit arg2.view R (inbRow hr k) e1 e2, View.readAt_rep_unit arg3.view G (inbGamma k) e3 e4,
    window_row X hr.2 hk, window_row R hr.2 hk, window_one G hk]
  isplitl [H1]; · iexact H1
  isplitl [H2]; · iexact H2
  isplitl [H3]; · iexact H3
  isplitl [H10]
  · iapply (pointsTo_rep_of_read (c : Thread nD τ) arg10 _ fullShare (mix (done r0 (k.val + 1)) (cV X R G v0) C)
      ((View.read_writes_rep_unit arg10.view _ (inbRow hr k) _ e1).trans (put_mix (cV X R G v0) C hr.2 hk _ (cV_blk X R G v0 hr hk))))
    iexact H10
  · iapply (pointsTo_rep_of_read (c : Thread nD τ) arg12 _ fullShare (mix (doneIn (wslot i) r0 (k.val + 1)) (cL X R G v0) L)
      ((View.read_writes_rep_unit arg12.view _ (inbLhs hr i k) _ e5).trans (put_mixIn (cV X R G v0) L hw hr.2 hk _
        (fun z => (pay26_eq v0 _ _ _ _ z).trans (congrFun (cV_blk X R G v0 hr hk) _)))))
    iexact H12

/-- The second loop over a group: it stores the group's codes. -/
theorem code_loop {r0 : ℕ} (hr : Grp r0) :
    iprop(At c arg1 X ∗ At c arg2 R ∗ At c arg3 G ∗ At c arg10 (mix (done r0 0) (cV X R G v0) C) ∗ At c arg12 (mix (doneIn (wslot i) r0 0) (cL X R G v0) L))
      ⊢ wp frame (wpE (defs₀ (F := F)) 𝒱 (c : Thread nD τ) bd) Set.univ (Scf.Loop.for loop55 loop55_ok ⟨⟩ (codeBody i arg1 arg2 arg3 arg10 harg10 arg12 harg12 v0 r0 hr (sqAcc X R r0 55)))
          (fun _ => iprop(At c arg1 X ∗ At c arg2 R ∗ At c arg3 G ∗ At c arg10 (mix (done r0 55) (cV X R G v0) C) ∗ At c arg12 (mix (doneIn (wslot i) r0 55) (cL X R G v0) L))) := by
  iintro H
  iapply (Scf.wp_for frame (wpE (defs₀ (F := F)) 𝒱 (c : Thread nD τ) bd) Set.univ _ _ _ loop55_ok PUnit.unit (codeBody i arg1 arg2 arg3 arg10 harg10 arg12 harg12 v0 r0 hr (sqAcc X R r0 55))
    (fun k _ => iprop(At c arg1 X ∗ At c arg2 R ∗ At c arg3 G ∗ At c arg10 (mix (done r0 k) (cV X R G v0) C) ∗ At c arg12 (mix (doneIn (wslot i) r0 k) (cL X R G v0) L)))
    (fun k u => code_trip 𝒱 c bd i arg1 arg2 arg3 arg10 harg10 arg12 harg12 v0 X R G C L hr k u))
  isplitl [H]
  · iexact H
  · iintro %acc H
    rw [show Scf.trips 0#32 (Scalar.addi 0#32 55#32) 1#32 = 55 from loop55_trips]
    iexact H

theorem done_next {α : Type} (V H : S256x7040.Idx → α) (r0 : ℕ) : mix (done r0 55) V H = mix (done (r0 + 32) 0) V H := by
  funext y
  have h1 : (y 1).val < 7040 := (y 1).isLt
  have hiff : done r0 55 y ↔ done (r0 + 32) 0 y := by show (_ ∨ _) ↔ (_ ∨ _); omega
  unfold mix; simp only [hiff]
theorem doneIn_next {α : Type} (V H : S2x256x7040.Idx → α) (s r0 : ℕ) : mix (doneIn s r0 55) V H = mix (doneIn s (r0 + 32) 0) V H := by
  funext y
  have h1 : (y 2).val < 7040 := (y 2).isLt
  have hiff : doneIn s r0 55 y ↔ doneIn s (r0 + 32) 0 y := by show (_ ∧ (_ ∨ _)) ↔ (_ ∧ (_ ∨ _)); omega
  unfold mix; simp only [hiff]

/-- What the quantisation of a tile holds when the rows below `r0` are done. -/
abbrev QInv (r0 : ℕ) : sProp 𝕄 :=
  iprop(At c arg1 X ∗ At c arg2 R ∗ At c arg3 G ∗ At c arg9 (mix (done r0 0) (hV X R) H) ∗ At c arg10 (mix (done r0 0) (cV X R G v0) C)
    ∗ At c arg12 (mix (doneIn (wslot i) r0 0) (cL X R G v0) L))

/-- The quantisation of one group of rows. -/
theorem quant_spec {r0 : ℕ} (hr : Grp r0) :
    QInv c i arg1 arg2 arg3 arg9 arg10 arg12 v0 X R H G C L r0
      ⊢ wp frame (wpE (defs₀ (F := F)) 𝒱 (c : Thread nD τ) bd) Set.univ (quant i arg1 arg2 arg3 arg9 harg9 arg10 harg10 arg12 harg12 v0 r0 hr)
          (fun _ => QInv c i arg1 arg2 arg3 arg9 arg10 arg12 v0 X R H G C L (r0 + 32)) := by
  unfold quant
  iintro ⟨H1, H2, H3, H9, H10, H12⟩
  rw [wp_bind]
  iapply (wp_wand_r Idealize.ShloMosaic.frame (wpE (defs₀ (F := F)) 𝒱 (c : Thread nD τ) bd) Set.univ)
  isplitl [H1 H2 H9]
  · iapply (sq_loop 𝒱 c bd arg1 arg2 arg9 harg9 X R H hr)
    isplitl [H1]; · iexact H1
    isplitl [H2]; · iexact H2
    iexact H9
  · iintro %s ⟨%hs, H1, H2, H9⟩
    subst hs
    iapply (wp_wand_r Idealize.ShloMosaic.frame (wpE (defs₀ (F := F)) 𝒱 (c : Thread nD τ) bd) Set.univ)
    isplitl [H1 H2 H3 H10 H12]
    · iapply (code_loop 𝒱 c bd i arg1 arg2 arg3 arg10 harg10 arg12 harg12 v0 X R G C L hr)
      isplitl [H1]; · iexact H1
      isplitl [H2]; · iexact H2
      isplitl [H3]; · iexact H3
      isplitl [H10]; · iexact H10
      iexact H12
    · iintro %u ⟨H1, H2, H3, H10, H12⟩
      rw [done_next, done_next, doneIn_next]
      isplitl [H1]; · iexact H1
      isplitl [H2]; · iexact H2
      isplitl [H3]; · iexact H3
      isplitl [H9]; · iexact H9
      isplitl [H10]; · iexact H10
      iexact H12

variable (W : S1920x7040.Idx → Elt F .fp8e4m3) (S : S1x1920.Idx → Elt F .f32) (B : S1x1920.Idx → Elt F .bf16) (Y : S256x1920.Idx → Elt F .bf16)
  (LL : S2x256x7040.Idx → Elt F .fp8e4m3)

/-- What the products of a point read, and the result's window at `Z`. -/
abbrev YInv (Z : S256x1920.Idx → Elt F .bf16) : sProp 𝕄 :=
  iprop(At c arg5 S ∗ At c arg7 B ∗ At c arg11 W ∗ At c arg12 LL ∗ At c arg8 Z)

/-- The product with one block of 512 weight rows. -/
theorem mult512_spec {n0 : ℕ} (h5 : n0 % 512 = 0) (hn : n0 + 512 ≤ 1536) (hw : ∀ a, (![n0, 0] : Fin 2 → ℕ) a + S512x7040.size a ≤ S1920x7040.size a)
    (hs : ∀ a, (![0, n0] : Fin 2 → ℕ) a + S1x512.size a ≤ S1x1920.size a)
    (hy : ∀ a, (![0, n0] : Fin 2 → ℕ) a + S256x512.size a ≤ S256x1920.size a)
    (hp : (Rect.unit (s := S256x1920) ![0, n0] S256x512.size hy).PackedRows (EltTy.packing .bf16)) :
    YInv c arg5 arg7 arg8 arg11 arg12 W S B LL (mix (yDone n0) (yV (slotOf LL (rslot i)) W S B v0) Y)
      ⊢ wp frame (wpE (defs₀ (F := F)) 𝒱 (c : Thread nD τ) bd) Set.univ (mult512 i arg5 arg7 arg8 harg8 arg11 arg12 v0 n0 hw hs hy hp)
          (fun _ => YInv c arg5 arg7 arg8 arg11 arg12 W S B LL (mix (yDone (n0 + 512)) (yV (slotOf LL (rslot i)) W S B v0) Y)) := by
  have hr : rslot i < 2 := by rw [rslot_eq]; omega
  unfold mult512
  iintro ⟨H5, H7, H11, H12, H8⟩
  sl_exec
  sl_step
  rw [View.readAt_rep_unit arg12.view LL (inbPrev i) rfl (inbPrev i), View.readAt_rep_unit arg11.view W hw rfl hw, View.readAt_rep_unit arg5.view S hs rfl hs,
    View.readAt_rep_unit arg7.view B hs rfl hs, window_slot LL hr, window_wPart W (by omega), window_part S (by omega), window_part B (by omega)]
  isplitl [H5]; · iexact H5
  isplitl [H7]; · iexact H7
  isplitl [H11]; · iexact H11
  isplitl [H12]; · iexact H12
  iapply (pointsTo_rep_of_read (c : Thread nD τ) arg8 _ fullShare (mix (yDone (n0 + 512)) (yV (slotOf LL (rslot i)) W S B v0) Y)
    ((View.read_writes_rep_unit arg8.view _ hy _ rfl).trans (put_y512 _ W S B v0 Y h5 hn)))
  iexact H8

/-- The product with the last 384 weight rows. -/
theorem mult384_spec :
    YInv c arg5 arg7 arg8 arg11 arg12 W S B LL (mix (yDone 1536) (yV (slotOf LL (rslot i)) W S B v0) Y)
      ⊢ wp frame (wpE (defs₀ (F := F)) 𝒱 (c : Thread nD τ) bd) Set.univ (mult384 i arg5 arg7 arg8 harg8 arg11 arg12 v0)
          (fun _ => YInv c arg5 arg7 arg8 arg11 arg12 W S B LL (yV (slotOf LL (rslot i)) W S B v0)) := by
  have hr : rslot i < 2 := by rw [rslot_eq]; omega
  unfold mult384
  iintro ⟨H5, H7, H11, H12, H8⟩
  sl_exec
  sl_step
  rw [View.readAt_rep_unit arg12.view LL (inbPrev i) rfl (inbPrev i), View.readAt_rep_unit arg11.view W inb_S1920x7040_S384x7040_1536_0 rfl inb_S1920x7040_S384x7040_1536_0,
    View.readAt_rep_unit arg5.view S inb_S1x1920_S1x384_0_1536 rfl inb_S1x1920_S1x384_0_1536,
    View.readAt_rep_unit arg7.view B inb_S1x1920_S1x384_0_1536 rfl inb_S1x1920_S1x384_0_1536, window_slot LL hr, window_wLast W, window_last S, window_last B]
  isplitl [H5]; · iexact H5
  isplitl [H7]; · iexact H7
  isplitl [H11]; · iexact H11
  isplitl [H12]; · iexact H12
  iapply (pointsTo_rep_of_read (c : Thread nD τ) arg8 _ fullShare (yV (slotOf LL (rslot i)) W S B v0)
    ((View.read_writes_rep_unit arg8.view _ inb_S256x1920_S256x384_0_1536 _ rfl).trans (put_y384 _ W S B v0 Y)))
  iexact H8

end Steps

end Cert.Kernel.Hand

end
-- ==== Proof.KernelPhase.lean ====
/-
  The kernel's body at a point, in its three cases: the first point (start the weight's copy, quantise tile 0), a point in
  the middle (the products of the previous tile with a tile quantised between them; point 1 first waits for the weight),
  the last point (the products of the last tile).
-/
module

public import proofs.«01_k».proof.Proof.KernelStep

@[expose] public section

set_option maxRecDepth 65536

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ (Pipeline.UD sig nD τ) ℕ

/-- The weight in HBM, the weight's scratch, the codes' scratch. -/
abbrev hbmW : Memref sig .tc .hbm S1920x7040 .fp8e4m3 := Memref.whole main_arg3
abbrev scW : Memref sig .tc .vmem S1920x7040 .fp8e4m3 := Memref.whole cc0_scratch0
abbrev scL : Memref sig .tc .vmem S2x256x7040 .fp8e4m3 := Memref.whole cc0_scratch1

section Seq

variable (c : Dev nD)

/-- The weakest precondition of a program of the body, every mask open. -/
abbrev Wp {α : Type} (p : Prog (TpuEff nD τ sig (Elt F) Λ₀ .tc) α) (Q : α → sProp 𝕄) : sProp 𝕄 :=
  wp frame (wpE (defs₀ (F := F)) Variants.none (c : Thread nD τ) none) Set.univ p Q

theorem wp_seq {α β : Type} {p : Prog (TpuEff nD τ sig (Elt F) Λ₀ .tc) α} {q : Prog (TpuEff nD τ sig (Elt F) Λ₀ .tc) β} {P Q : sProp 𝕄} {R : β → sProp 𝕄}
    (h1 : P ⊢ Wp c p (fun _ => Q)) (h2 : Q ⊢ Wp c q R) : P ⊢ Wp c (p >>= fun _ => q) R := by
  unfold Wp
  rw [wp_bind]
  iintro H
  iapply (wp_wand_r Idealize.ShloMosaic.frame (wpE (defs₀ (F := F)) Variants.none (c : Thread nD τ) none) Set.univ)
  isplitl [H]
  · iapply h1; iexact H
  · iintro %_ H; iapply h2; iexact H

theorem wp_keep {α : Type} {p : Prog (TpuEff nD τ sig (Elt F) Λ₀ .tc) α} {P Q P' Q' T : sProp 𝕄} (h1 : P ⊢ Wp c p (fun _ => Q))
    (h2 : P' ⊢ iprop(P ∗ T)) (h3 : iprop(Q ∗ T) ⊢ Q') : P' ⊢ Wp c p (fun _ => Q') := by
  unfold Wp
  iintro H
  ihave H := h2 $$ H
  icases H with ⟨H, HT⟩
  iapply (wp_wand_r Idealize.ShloMosaic.frame (wpE (defs₀ (F := F)) Variants.none (c : Thread nD τ) none) Set.univ)
  isplitl [H]
  · iapply h1; iexact H
  · iintro %_ H
    iapply h3
    isplitl [H]; · iexact H
    iexact HT

/-- Eight groups quantised one after the other. -/
theorem quants {q : ∀ r0, Grp r0 → Prog (TpuEff nD τ sig (Elt F) Λ₀ .tc) Unit} {I : ℕ → sProp 𝕄}
    (hq : ∀ r0 (hr : Grp r0), I r0 ⊢ Wp c (q r0 hr) (fun _ => I (r0 + 32))) :
    I 0 ⊢ Wp c (do q 0 grp0; q 32 grp1; q 64 grp2; q 96 grp3; q 128 grp4; q 160 grp5; q 192 grp6; q 224 grp7) (fun _ => I 256) :=
  wp_seq c (hq 0 grp0) (wp_seq c (hq 32 grp1) (wp_seq c (hq 64 grp2) (wp_seq c (hq 96 grp3) (wp_seq c (hq 128 grp4) (wp_seq c (hq 160 grp5)
    (wp_seq c (hq 192 grp6) (hq 224 grp7)))))))

end Seq

/-! ## The weight's copy -/

section Copy

variable (c : Dev nD)

/-- What the weight's array holds, as a function of an index. -/
def wOf (f : Buf (Elt F) ((c : Thread nD τ).loc main_arg3)) : S1920x7040.Idx → Elt F .fp8e4m3 := hbmW.view.read (Elt F) f

/-- The copy in flight: it delivers the scratch written whole with the weight, and the weight's array back. -/
abbrev InFlight (f : Buf (Elt F) ((c : Thread nD τ).loc main_arg3)) : sProp 𝕄 :=
  iprop(∃ fd : Buf (Elt F) (scW.view.loc (c : Thread nD τ)),
    Transfers.Flight countersEmb (c : Thread nD τ) (SemLoc.dma 14) default 422400
      iprop((scW.view.loc (c : Thread nD τ) ↦[scW.view.set]{fullShare} scW.view.writes (Elt F) fd [⟨Rect.whole S1920x7040, ReadAs.same.apply (hbmW.view.read (Elt F) f)⟩])
        ∗ (hbmW.view.loc (c : Thread nD τ) ↦[hbmW.view.set]{fullShare} f))
    ∗ (hbmW.view.loc (c : Thread nD τ) ↦[Finset.univ \ hbmW.view.set]{fullShare} f))

theorem copy_start (W : Waits sig Unit) (f : Buf (Elt F) ((c : Thread nD τ).loc main_arg3)) :
    iprop((hbmW.view.loc (c : Thread nD τ) ↦{fullShare} f) ∗ (∃ fd, scW.view.loc (c : Thread nD τ) ↦[scW.view.set]{fullShare} fd)
        ∗ semVal ((c : Thread nD τ), SemLoc.dma 14) 0 ∗ owes (c : Thread nD τ) 0 W)
      ⊢ Wp c (Prog.lift (.enqueueDma hbmW (.here scW) (.dma cc0_scratch2.sem) (Memref.isWhole_whole _).wordExact (Memref.isWhole_whole _).wordExact ⟨Or.inl rfl, trivial⟩))
          (fun _ => iprop(InFlight c f ∗ ∃ W', owes (c : Thread nD τ) 0 W')) := by
  unfold Wp
  iintro ⟨H1, ⟨%fd, H2⟩, H3, H4⟩
  sl_exec
  sl_step
  isplitl [H3 H1]
  · iexists fd
    isplitl [H3]; · iexact H3
    iexact H1
  · iexists _; iexact H4

theorem copy_wait (W : Waits sig Unit) (f : Buf (Elt F) ((c : Thread nD τ).loc main_arg3)) :
    iprop(InFlight c f ∗ owes (c : Thread nD τ) 0 W)
      ⊢ Wp c (Prog.lift (.waitDma2 cc0_scratch2.sem hbmW scW (Memref.isWhole_whole _).wordExact (Memref.isWhole_whole _).wordExact))
          (fun _ => iprop((hbmW.view.loc (c : Thread nD τ) ↦{fullShare} f) ∗ At c scW (wOf c f) ∗ semVal ((c : Thread nD τ), SemLoc.dma 14) 0
            ∗ ∃ W', owes (c : Thread nD τ) 0 W')) := by
  unfold Wp
  iintro ⟨⟨%fd, H3, H1⟩, H4⟩
  sl_exec
  sl_step
  isplitl [H1]; · iexact H1
  isplitl [H3_dst]
  · iapply (pointsTo_rep_of_read (c : Thread nD τ) scW _ fullShare (wOf c f) (View.read_writes_whole ..))
    iexact H3_dst
  isplitl [H3]; · iexact H3
  iexists _; iexact H4

end Copy

/-! ## The cases of the body -/

section Cases

variable (c : Dev nD) (i : grid0.Coords)
  (arg1 : Memref sig .tc .vmem S256x7040 .bf16) (arg2 : Memref sig .tc .vmem S256x7040 .bf16) (arg3 : Memref sig .tc .vmem S1x7040 .bf16)
  (arg5 : Memref sig .tc .vmem S1x1920 .f32) (arg6 : Memref sig .tc .smem S1x1 .f32) (arg7 : Memref sig .tc .vmem S1x1920 .bf16)
  (arg8 : Memref sig .tc .vmem S256x1920 .bf16) (harg8 : arg8.IsWhole)
  (arg9 : Memref sig .tc .vmem S256x7040 .bf16) (harg9 : arg9.IsWhole)
  (arg10 : Memref sig .tc .vmem S256x7040 .fp8e4m3) (harg10 : arg10.IsWhole)
variable (X R H : S256x7040.Idx → Elt F .bf16) (G : S1x7040.Idx → Elt F .bf16) (C : S256x7040.Idx → Elt F .fp8e4m3) (L : S2x256x7040.Idx → Elt F .fp8e4m3)
variable (W : S1920x7040.Idx → Elt F .fp8e4m3) (S : S1x1920.Idx → Elt F .f32) (Sc : S1x1.Idx → Elt F .f32) (B : S1x1920.Idx → Elt F .bf16) (Y : S256x1920.Idx → Elt F .bf16)
  (v0 : Elt F .f32)

theorem mix_none {ι α : Type} {P : ι → Prop} [DecidablePred P] (h : ∀ y, ¬ P y) (V H : ι → α) : mix P V H = H :=
  funext fun y => if_neg (h y)
theorem mix_all {ι α : Type} {P : ι → Prop} [DecidablePred P] (h : ∀ y, P y) (V H : ι → α) : mix P V H = V :=
  funext fun y => if_pos (h y)
theorem done_start {α : Type} (V H : S256x7040.Idx → α) : mix (done 0 0) V H = H :=
  mix_none (fun y => by show ¬ (_ ∨ _); omega) V H
theorem done_end {α : Type} (V H : S256x7040.Idx → α) : mix (done 256 0) V H = V :=
  mix_all (fun y => by have h : (y 0).val < 256 := (y 0).isLt; show (_ ∨ _); omega) V H
theorem doneIn_start {α : Type} (V H : S2x256x7040.Idx → α) (s : ℕ) : mix (doneIn s 0 0) V H = H :=
  mix_none (fun y => by show ¬ (_ ∧ (_ ∨ _)); omega) V H
theorem yDone_start {α : Type} (V H : S256x1920.Idx → α) : mix (yDone 0) V H = H :=
  mix_none (fun y => by show ¬ (_ < _); omega) V H

/-- The slot multiplied is not the one the quantisation writes. -/
theorem slotOf_mix {α : Type} (V L : S2x256x7040.Idx → α) (r0 : ℕ) : slotOf (mix (doneIn (wslot i) r0 0) V L) (rslot i) = slotOf L (rslot i) := by
  have hw := wslot_eq i
  have hr := rslot_eq i
  funext y
  refine if_neg ?_
  show ¬ ((rslot i % 2) = _ ∧ _)
  omega

/-- The codes' scratch after the quantisation of a tile. -/
abbrev afterL : S2x256x7040.Idx → Elt F .fp8e4m3 := mix (doneIn (wslot i) 256 0) (cL X R G v0) L

/-- What a point in the middle holds when the rows below `r0` are quantised and the result's window is at `Z`. -/
abbrev MInv (r0 : ℕ) (Z : S256x1920.Idx → Elt F .bf16) : sProp 𝕄 :=
  iprop(QInv c i arg1 arg2 arg3 arg9 arg10 scL v0 X R H G C L r0 ∗ At c arg5 S ∗ At c arg7 B ∗ At c scW W ∗ At c arg8 Z)

theorem mid_quant {Z : S256x1920.Idx → Elt F .bf16} (r0 : ℕ) (hr : Grp r0) :
    MInv c i arg1 arg2 arg3 arg5 arg7 arg8 arg9 arg10 X R H G C L W S B v0 r0 Z
      ⊢ Wp c (quant i arg1 arg2 arg3 arg9 harg9 arg10 harg10 scL (Memref.isWhole_whole _) v0 r0 hr)
          (fun _ => MInv c i arg1 arg2 arg3 arg5 arg7 arg8 arg9 arg10 X R H G C L W S B v0 (r0 + 32) Z) :=
  wp_keep c (quant_spec Variants.none c none i arg1 arg2 arg3 arg9 harg9 arg10 harg10 scL (Memref.isWhole_whole _) v0 X R H G C L hr) .rfl .rfl

theorem mid_mult {p : Prog (TpuEff nD τ sig (Elt F) Λ₀ .tc) Unit} {Z Z' : S256x1920.Idx → Elt F .bf16} (r0 : ℕ)
    (h : YInv c arg5 arg7 arg8 scW scL W S B (mix (doneIn (wslot i) r0 0) (cL X R G v0) L) Z
      ⊢ Wp c p (fun _ => YInv c arg5 arg7 arg8 scW scL W S B (mix (doneIn (wslot i) r0 0) (cL X R G v0) L) Z')) :
    MInv c i arg1 arg2 arg3 arg5 arg7 arg8 arg9 arg10 X R H G C L W S B v0 r0 Z
      ⊢ Wp c p (fun _ => MInv c i arg1 arg2 arg3 arg5 arg7 arg8 arg9 arg10 X R H G C L W S B v0 r0 Z') :=
  wp_keep c (T := iprop(At c arg1 X ∗ At c arg2 R ∗ At c arg3 G ∗ At c arg9 (mix (done r0 0) (hV X R) H) ∗ At c arg10 (mix (done r0 0) (cV X R G v0) C))) h
    (by
      iintro ⟨⟨H1, H2, H3, H9, H10, H12⟩, H5, H7, H11, H8⟩
      isplitl [H5 H7 H11 H12 H8]
      · isplitl [H5]; · iexact H5
        isplitl [H7]; · iexact H7
        isplitl [H11]; · iexact H11
        isplitl [H12]; · iexact H12
        iexact H8
      isplitl [H1]; · iexact H1
      isplitl [H2]; · iexact H2
      isplitl [H3]; · iexact H3
      isplitl [H9]; · iexact H9
      iexact H10)
    (by
      iintro ⟨⟨H5, H7, H11, H12, H8⟩, H1, H2, H3, H9, H10⟩
      isplitl [H1 H2 H3 H9 H10 H12]
      · isplitl [H1]; · iexact H1
        isplitl [H2]; · iexact H2
        isplitl [H3]; · iexact H3
        isplitl [H9]; · iexact H9
        isplitl [H10]; · iexact H10
        iexact H12
      isplitl [H5]; · iexact H5
      isplitl [H7]; · iexact H7
      isplitl [H11]; · iexact H11
      iexact H8)

/-- The result's tile a point computes. -/
abbrev yNew : S256x1920.Idx → Elt F .bf16 := yV (slotOf L (rslot i)) W S B v0

theorem mid_m512 {n0 : ℕ} (h5 : n0 % 512 = 0) (hn : n0 + 512 ≤ 1536) (hw : ∀ a, (![n0, 0] : Fin 2 → ℕ) a + S512x7040.size a ≤ S1920x7040.size a)
    (hs : ∀ a, (![0, n0] : Fin 2 → ℕ) a + S1x512.size a ≤ S1x1920.size a)
    (hy : ∀ a, (![0, n0] : Fin 2 → ℕ) a + S256x512.size a ≤ S256x1920.size a)
    (hp : (Rect.unit (s := S256x1920) ![0, n0] S256x512.size hy).PackedRows (EltTy.packing .bf16)) (r0 : ℕ) :
    MInv c i arg1 arg2 arg3 arg5 arg7 arg8 arg9 arg10 X R H G C L W S B v0 r0 (mix (yDone n0) (yNew i L W S B v0) Y)
      ⊢ Wp c (mult512 i arg5 arg7 arg8 harg8 scW scL v0 n0 hw hs hy hp)
          (fun _ => MInv c i arg1 arg2 arg3 arg5 arg7 arg8 arg9 arg10 X R H G C L W S B v0 r0 (mix (yDone (n0 + 512)) (yNew i L W S B v0) Y)) :=
  mid_mult c i arg1 arg2 arg3 arg5 arg7 arg8 arg9 arg10 X R H G C L W S B v0 r0 (by
    have h := mult512_spec Variants.none c none i arg5 arg7 arg8 harg8 scW scL v0 W S B Y (mix (doneIn (wslot i) r0 0) (cL X R G v0) L) h5 hn hw hs hy hp
    rw [slotOf_mix] at h
    exact h)

theorem mid_m384 (r0 : ℕ) :
    MInv c i arg1 arg2 arg3 arg5 arg7 arg8 arg9 arg10 X R H G C L W S B v0 r0 (mix (yDone 1536) (yNew i L W S B v0) Y)
      ⊢ Wp c (mult384 i arg5 arg7 arg8 harg8 scW scL v0)
          (fun _ => MInv c i arg1 arg2 arg3 arg5 arg7 arg8 arg9 arg10 X R H G C L W S B v0 r0 (yNew i L W S B v0)) :=
  mid_mult c i arg1 arg2 arg3 arg5 arg7 arg8 arg9 arg10 X R H G C L W S B v0 r0 (by
    have h := mult384_spec Variants.none c none i arg5 arg7 arg8 harg8 scW scL v0 W S B Y (mix (doneIn (wslot i) r0 0) (cL X R G v0) L)
    rw [slotOf_mix] at h
    exact h)

/-- The middle phase. -/
theorem middle_spec :
    MInv c i arg1 arg2 arg3 arg5 arg7 arg8 arg9 arg10 X R H G C L W S B v0 0 Y
      ⊢ Wp c (phaseMiddle i arg5 arg7 arg8 harg8 scW scL (quant i arg1 arg2 arg3 arg9 harg9 arg10 harg10 scL (Memref.isWhole_whole _) v0) v0)
          (fun _ => MInv c i arg1 arg2 arg3 arg5 arg7 arg8 arg9 arg10 X R H G C L W S B v0 256 (yNew i L W S B v0)) := by
  have hq : ∀ Z r0 (hr : Grp r0), _ := fun Z r0 hr => mid_quant c i arg1 arg2 arg3 arg5 arg7 arg8 arg9 harg9 arg10 harg10 X R H G C L W S B v0 (Z := Z) r0 hr
  have hm : ∀ n0 h5 hn hw hs hy hp r0, _ := fun n0 h5 hn hw hs hy hp r0 =>
    mid_m512 c i arg1 arg2 arg3 arg5 arg7 arg8 harg8 arg9 arg10 X R H G C L W S B Y v0 (n0 := n0) h5 hn hw hs hy hp r0
  have hm0 := hm 0 rfl (by omega) inb_S1920x7040_S512x7040_0_0 inb_S1x1920_S1x512_0_0 inb_S256x1920_S256x512_0_0 packedbf16_S256x1920_S256x512_0_0 0
  rw [yDone_start] at hm0
  unfold phaseMiddle
  exact wp_seq c hm0 <| wp_seq c (hq _ 0 grp0) <| wp_seq c (hq _ 32 grp1)
    <| wp_seq c (hm 512 rfl (by omega) _ _ _ _ 64) <| wp_seq c (hq _ 64 grp2) <| wp_seq c (hq _ 96 grp3)
    <| wp_seq c (hm 1024 rfl (by omega) _ _ _ _ 128) <| wp_seq c (hq _ 128 grp4) <| wp_seq c (hq _ 160 grp5)
    <| wp_seq c (mid_m384 c i arg1 arg2 arg3 arg5 arg7 arg8 harg8 arg9 arg10 X R H G C L W S B Y v0 192) <| wp_seq c (hq _ 192 grp6) (hq _ 224 grp7)

/-- The last phase. -/
theorem last_spec :
    YInv c arg5 arg7 arg8 scW scL W S B L Y ⊢ Wp c (phaseLast i arg5 arg7 arg8 harg8 scW scL v0)
      (fun _ => YInv c arg5 arg7 arg8 scW scL W S B L (yNew i L W S B v0)) := by
  have hm : ∀ n0 h5 hn hw hs hy hp, _ := fun n0 h5 hn hw hs hy hp => mult512_spec Variants.none c none i arg5 arg7 arg8 harg8 scW scL v0 W S B Y L (n0 := n0) h5 hn hw hs hy hp
  have hm0 := hm 0 rfl (by omega) inb_S1920x7040_S512x7040_0_0 inb_S1x1920_S1x512_0_0 inb_S256x1920_S256x512_0_0 packedbf16_S256x1920_S256x512_0_0
  rw [yDone_start] at hm0
  unfold phaseLast
  exact wp_seq c hm0 <| wp_seq c (hm 512 rfl (by omega) _ _ _ _) <| wp_seq c (hm 1024 rfl (by omega) _ _ _ _)
    (mult384_spec Variants.none c none i arg5 arg7 arg8 harg8 scW scL v0 W S B Y L)

/-- The first phase: the copy started, then the tile quantised. -/
theorem first_spec (V : Waits sig Unit) (f : Buf (Elt F) ((c : Thread nD τ).loc main_arg3)) :
    iprop(((hbmW.view.loc (c : Thread nD τ) ↦{fullShare} f) ∗ (∃ fd, scW.view.loc (c : Thread nD τ) ↦[scW.view.set]{fullShare} fd)
        ∗ semVal ((c : Thread nD τ), SemLoc.dma 14) 0 ∗ owes (c : Thread nD τ) 0 V) ∗ QInv c i arg1 arg2 arg3 arg9 arg10 scL v0 X R H G C L 0)
      ⊢ Wp c (phaseFirst hbmW (Memref.isWhole_whole _) scW (Memref.isWhole_whole _) cc0_scratch2 (quant i arg1 arg2 arg3 arg9 harg9 arg10 harg10 scL (Memref.isWhole_whole _) v0))
          (fun _ => iprop(QInv c i arg1 arg2 arg3 arg9 arg10 scL v0 X R H G C L 256 ∗ (InFlight c f ∗ ∃ W', owes (c : Thread nD τ) 0 W'))) := by
  unfold phaseFirst
  refine wp_seq c (wp_keep c (copy_start c V f) .rfl (Q' := iprop(QInv c i arg1 arg2 arg3 arg9 arg10 scL v0 X R H G C L 0 ∗ (InFlight c f ∗ ∃ W', owes (c : Thread nD τ) 0 W'))) ?_)
    (wp_keep c (quants c fun r0 hr => quant_spec Variants.none c none i arg1 arg2 arg3 arg9 harg9 arg10 harg10 scL (Memref.isWhole_whole _) v0 X R H G C L hr) .rfl .rfl)
  iintro ⟨H1, H2⟩
  isplitl [H2]; · iexact H2
  iexact H1

/-- The scale read off its scalar window. -/
abbrev scOf : Elt F .f32 := Sc (ix2 (0 : Fin 1) (0 : Fin 1))

theorem scale_spec {k : Elt F .f32 → Prog (TpuEff nD τ sig (Elt F) Λ₀ .tc) Unit} {P : sProp 𝕄} {Q : Unit → sProp 𝕄}
    (h : iprop(P ∗ At c arg6 Sc) ⊢ Wp c (k (scOf Sc)) Q) :
    iprop(P ∗ At c arg6 Sc) ⊢ Wp c (smemLoad arg6 (Rect.unit (s := S1x1) ![0, 0] S1x1.size inb_S1x1_S1x1_0_0) numel1_S1x1 rfl >>= k) Q := by
  unfold Wp at *
  rw [wp_bind]
  iintro ⟨HP, H6⟩
  iapply (wp_wand_r Idealize.ShloMosaic.frame (wpE (defs₀ (F := F)) Variants.none (c : Thread nD τ) none) Set.univ (Q := fun v => iprop(⌜v = scOf Sc⌝ ∗ At c arg6 Sc)))
  isplitl [H6]
  · sl_exec
    sl_step
    rw [View.readAt_rep_unit arg6.view Sc inb_S1x1_S1x1_0_0 rfl inb_S1x1_S1x1_0_0]
    isplitr
    · ipureintro
      exact congrArg Sc (funext fun a => by fin_cases a <;> rfl)
    · iexact H6
  · iintro %v ⟨%hv, H6⟩
    subst hv
    iapply h
    isplitl [HP]; · iexact HP
    iexact H6

/-! ### Which phases a point runs -/

theorem cond1_iff : ∀ i : grid0.Coords, k0_cond1 i = 1#1 ↔ (i 0).val = 0 := by decide +kernel
theorem cond2_iff : ∀ i : grid0.Coords, cond2 i = 1#1 ↔ (i 0).val = 1 := by decide +kernel
theorem cond3_iff : ∀ i : grid0.Coords, k0_cond3 i = 1#1 ↔ 0 < (i 0).val ∧ (i 0).val < 48 := by decide +kernel
theorem cond4_iff : ∀ i : grid0.Coords, k0_cond4 i = 1#1 ↔ (i 0).val = 48 := by decide +kernel

section Eqs

variable (arg4 : Memref sig .tc .hbm S1920x7040 .fp8e4m3) (harg4 : arg4.IsWhole) (arg11 : Memref sig .tc .vmem S1920x7040 .fp8e4m3) (harg11 : arg11.IsWhole)
  (arg12 : Memref sig .tc .vmem S2x256x7040 .fp8e4m3) (harg12 : arg12.IsWhole) (arg13 : DmaSems sig S_)

/-- The first point's body. -/
theorem body_first_eq (hi : (i 0).val = 0) :
    body (F := F) i arg1 arg2 arg3 arg4 harg4 arg5 arg6 arg7 arg8 harg8 arg9 harg9 arg10 harg10 arg11 harg11 arg12 harg12 arg13
      = smemLoad arg6 (Rect.unit (s := S1x1) ![0, 0] S1x1.size inb_S1x1_S1x1_0_0) numel1_S1x1 rfl >>= fun v0 =>
          phaseFirst arg4 harg4 arg11 harg11 arg13 (quant i arg1 arg2 arg3 arg9 harg9 arg10 harg10 arg12 harg12 v0) := by
  have h1 : k0_cond1 i = 1#1 := (cond1_iff i).2 hi
  have h2 : ¬ cond2 i = 1#1 := fun h => by have := (cond2_iff i).1 h; omega
  have h3 : ¬ k0_cond3 i = 1#1 := fun h => by have := (cond3_iff i).1 h; omega
  have h4 : ¬ k0_cond4 i = 1#1 := fun h => by have := (cond4_iff i).1 h; omega
  unfold body
  refine congrArg _ (funext fun v0 => ?_)
  simp only [if_pos h1, if_neg h2, if_neg h3, if_neg h4, bind_pure_unit]

/-- The second point's body. -/
theorem body_second_eq (hi : (i 0).val = 1) :
    body (F := F) i arg1 arg2 arg3 arg4 harg4 arg5 arg6 arg7 arg8 harg8 arg9 harg9 arg10 harg10 arg11 harg11 arg12 harg12 arg13
      = smemLoad arg6 (Rect.unit (s := S1x1) ![0, 0] S1x1.size inb_S1x1_S1x1_0_0) numel1_S1x1 rfl >>= fun v0 =>
          (Prog.lift (.waitDma2 arg13.sem arg4 arg11 harg4.wordExact harg11.wordExact) : Prog (TpuEff nD τ sig (Elt F) Λ₀ .tc) Unit) >>= fun _ =>
          phaseMiddle i arg5 arg7 arg8 harg8 arg11 arg12 (quant i arg1 arg2 arg3 arg9 harg9 arg10 harg10 arg12 harg12 v0) v0 := by
  have h1 : ¬ k0_cond1 i = 1#1 := fun h => by have := (cond1_iff i).1 h; omega
  have h2 : cond2 i = 1#1 := (cond2_iff i).2 hi
  have h3 : k0_cond3 i = 1#1 := (cond3_iff i).2 (by omega)
  have h4 : ¬ k0_cond4 i = 1#1 := fun h => by have := (cond4_iff i).1 h; omega
  unfold body
  refine congrArg _ (funext fun v0 => ?_)
  simp only [if_neg h1, if_pos h2, if_pos h3, if_neg h4, bind_pure_unit]

/-- A later middle point's body. -/
theorem body_middle_eq (hi : 1 < (i 0).val) (hi' : (i 0).val < 48) :
    body (F := F) i arg1 arg2 arg3 arg4 harg4 arg5 arg6 arg7 arg8 harg8 arg9 harg9 arg10 harg10 arg11 harg11 arg12 harg12 arg13
      = smemLoad arg6 (Rect.unit (s := S1x1) ![0, 0] S1x1.size inb_S1x1_S1x1_0_0) numel1_S1x1 rfl >>= fun v0 =>
          phaseMiddle i arg5 arg7 arg8 harg8 arg11 arg12 (quant i arg1 arg2 arg3 arg9 harg9 arg10 harg10 arg12 harg12 v0) v0 := by
  have h1 : ¬ k0_cond1 i = 1#1 := fun h => by have := (cond1_iff i).1 h; omega
  have h2 : ¬ cond2 i = 1#1 := fun h => by have := (cond2_iff i).1 h; omega
  have h3 : k0_cond3 i = 1#1 := (cond3_iff i).2 (by omega)
  have h4 : ¬ k0_cond4 i = 1#1 := fun h => by have := (cond4_iff i).1 h; omega
  unfold body
  refine congrArg _ (funext fun v0 => ?_)
  simp only [if_neg h1, if_neg h2, if_pos h3, if_neg h4, bind_pure_unit]

/-- The last point's body. -/
theorem body_last_eq (hi : (i 0).val = 48) :
    body (F := F) i arg1 arg2 arg3 arg4 harg4 arg5 arg6 arg7 arg8 harg8 arg9 harg9 arg10 harg10 arg11 harg11 arg12 harg12 arg13
      = smemLoad arg6 (Rect.unit (s := S1x1) ![0, 0] S1x1.size inb_S1x1_S1x1_0_0) numel1_S1x1 rfl >>= fun v0 =>
          phaseLast i arg5 arg7 arg8 harg8 arg11 arg12 v0 := by
  have h1 : ¬ k0_cond1 i = 1#1 := fun h => by have := (cond1_iff i).1 h; omega
  have h2 : ¬ cond2 i = 1#1 := fun h => by have := (cond2_iff i).1 h; omega
  have h3 : ¬ k0_cond3 i = 1#1 := fun h => by have := (cond3_iff i).1 h; omega
  have h4 : k0_cond4 i = 1#1 := (cond4_iff i).2 (by omega)
  unfold body
  refine congrArg _ (funext fun v0 => ?_)
  simp only [if_neg h1, if_neg h2, if_neg h3, if_pos h4, bind_pure_unit]

end Eqs

/-- The body over the kernel's own arrays. -/
abbrev bodyHere : Prog (TpuEff nD τ sig (Elt F) Λ₀ .tc) Unit :=
  body i arg1 arg2 arg3 hbmW (Memref.isWhole_whole _) arg5 arg6 arg7 arg8 harg8 arg9 harg9 arg10 harg10 scW (Memref.isWhole_whole _) scL (Memref.isWhole_whole _) cc0_scratch2

/-- What every point reads and gives back. -/
abbrev Ins : sProp 𝕄 := iprop(At c arg1 X ∗ At c arg2 R ∗ At c arg3 G ∗ At c arg5 S ∗ At c arg6 Sc ∗ At c arg7 B)

/-- The reads of a point with the scale's window at the end, and back. -/
theorem ins_out (T : sProp 𝕄) : iprop(Ins c arg1 arg2 arg3 arg5 arg6 arg7 X R G S Sc B ∗ T)
    ⊢ iprop((At c arg1 X ∗ At c arg2 R ∗ At c arg3 G ∗ At c arg5 S ∗ At c arg7 B ∗ T) ∗ At c arg6 Sc) := by
  iintro ⟨⟨H1, H2, H3, H5, H6, H7⟩, HT⟩
  isplitr [H6]
  · isplitl [H1]; · iexact H1
    isplitl [H2]; · iexact H2
    isplitl [H3]; · iexact H3
    isplitl [H5]; · iexact H5
    isplitl [H7]; · iexact H7
    iexact HT
  · iexact H6
theorem ins_in (T : sProp 𝕄) : iprop((At c arg1 X ∗ At c arg2 R ∗ At c arg3 G ∗ At c arg5 S ∗ At c arg7 B ∗ T) ∗ At c arg6 Sc)
    ⊢ iprop(Ins c arg1 arg2 arg3 arg5 arg6 arg7 X R G S Sc B ∗ T) := by
  iintro ⟨⟨H1, H2, H3, H5, H7, HT⟩, H6⟩
  isplitr [HT]
  · isplitl [H1]; · iexact H1
    isplitl [H2]; · iexact H2
    isplitl [H3]; · iexact H3
    isplitl [H5]; · iexact H5
    isplitl [H6]; · iexact H6
    iexact H7
  · iexact HT

/-- The scale read at the head of a point whose remainder runs from the point's reads. -/
theorem scale_head {k : Elt F .f32 → Prog (TpuEff nD τ sig (Elt F) Λ₀ .tc) Unit} {T : sProp 𝕄} {Q : Unit → sProp 𝕄}
    (h : iprop(Ins c arg1 arg2 arg3 arg5 arg6 arg7 X R G S Sc B ∗ T) ⊢ Wp c (k (scOf Sc)) Q) :
    iprop(Ins c arg1 arg2 arg3 arg5 arg6 arg7 X R G S Sc B ∗ T)
      ⊢ Wp c (smemLoad arg6 (Rect.unit (s := S1x1) ![0, 0] S1x1.size inb_S1x1_S1x1_0_0) numel1_S1x1 rfl >>= k) Q :=
  (ins_out c arg1 arg2 arg3 arg5 arg6 arg7 X R G S Sc B T).trans (scale_spec c arg6 Sc ((ins_in c arg1 arg2 arg3 arg5 arg6 arg7 X R G S Sc B T).trans h))

theorem body_first (hi : (i 0).val = 0) (V : Waits sig Unit) (f : Buf (Elt F) ((c : Thread nD τ).loc main_arg3)) :
    iprop(Ins c arg1 arg2 arg3 arg5 arg6 arg7 X R G S Sc B ∗ At c arg8 Y ∗ At c arg9 H ∗ At c arg10 C ∗ At c scL L
        ∗ (hbmW.view.loc (c : Thread nD τ) ↦{fullShare} f) ∗ (∃ fd, scW.view.loc (c : Thread nD τ) ↦[scW.view.set]{fullShare} fd)
        ∗ semVal ((c : Thread nD τ), SemLoc.dma 14) 0 ∗ owes (c : Thread nD τ) 0 V)
      ⊢ Wp c (bodyHere i arg1 arg2 arg3 arg5 arg6 arg7 arg8 harg8 arg9 harg9 arg10 harg10)
          (fun _ => iprop(Ins c arg1 arg2 arg3 arg5 arg6 arg7 X R G S Sc B ∗ At c arg8 Y ∗ At c arg9 (hV X R) ∗ At c arg10 (cV X R G (scOf Sc))
            ∗ At c scL (afterL i X R G L (scOf Sc)) ∗ InFlight c f ∗ ∃ W', owes (c : Thread nD τ) 0 W')) := by
  unfold bodyHere
  rw [body_first_eq (hi := hi)]
  have hs := first_spec c i arg1 arg2 arg3 arg9 harg9 arg10 harg10 X R H G C L (scOf Sc) V f
  unfold QInv at hs
  rw [done_start, done_start, doneIn_start, done_end, done_end] at hs
  refine scale_head c arg1 arg2 arg3 arg5 arg6 arg7 X R G S Sc B (wp_keep c hs (T := iprop(At c arg5 S ∗ At c arg6 Sc ∗ At c arg7 B ∗ At c arg8 Y)) ?_ ?_)
  · iintro ⟨⟨H1, H2, H3, H5, H6, H7⟩, H8, H9, H10, H12, HF⟩
    isplitl [HF H1 H2 H3 H9 H10 H12]
    · isplitl [HF]; · iexact HF
      isplitl [H1]; · iexact H1
      isplitl [H2]; · iexact H2
      isplitl [H3]; · iexact H3
      isplitl [H9]; · iexact H9
      isplitl [H10]; · iexact H10
      iexact H12
    isplitl [H5]; · iexact H5
    isplitl [H6]; · iexact H6
    isplitl [H7]; · iexact H7
    iexact H8
  · iintro ⟨⟨⟨H1, H2, H3, H9, H10, H12⟩, HF⟩, H5, H6, H7, H8⟩
    isplitl [H1 H2 H3 H5 H6 H7]
    · isplitl [H1]; · iexact H1
      isplitl [H2]; · iexact H2
      isplitl [H3]; · iexact H3
      isplitl [H5]; · iexact H5
      isplitl [H6]; · iexact H6
      iexact H7
    isplitl [H8]; · iexact H8
    isplitl [H9]; · iexact H9
    isplitl [H10]; · iexact H10
    isplitl [H12]; · iexact H12
    iexact HF

/-- The phase of a middle point between its reads and its results. -/
theorem middle_here (v0 : Elt F .f32) :
    iprop((Ins c arg1 arg2 arg3 arg5 arg6 arg7 X R G S Sc B) ∗ At c arg8 Y ∗ At c arg9 H ∗ At c arg10 C ∗ At c scL L ∗ At c scW W)
      ⊢ Wp c (phaseMiddle i arg5 arg7 arg8 harg8 scW scL (quant i arg1 arg2 arg3 arg9 harg9 arg10 harg10 scL (Memref.isWhole_whole _) v0) v0)
          (fun _ => iprop(Ins c arg1 arg2 arg3 arg5 arg6 arg7 X R G S Sc B ∗ At c arg8 (yNew i L W S B v0) ∗ At c arg9 (hV X R) ∗ At c arg10 (cV X R G v0)
            ∗ At c scL (afterL i X R G L v0) ∗ At c scW W)) := by
  have hs := middle_spec c i arg1 arg2 arg3 arg5 arg7 arg8 harg8 arg9 harg9 arg10 harg10 X R H G C L W S B Y v0
  unfold MInv QInv at hs
  rw [done_start, done_start, doneIn_start, done_end, done_end] at hs
  refine wp_keep c hs (T := At c arg6 Sc) ?_ ?_
  · iintro ⟨⟨H1, H2, H3, H5, H6, H7⟩, H8, H9, H10, H12, H11⟩
    isplitr [H6]
    · isplitl [H1 H2 H3 H9 H10 H12]
      · isplitl [H1]; · iexact H1
        isplitl [H2]; · iexact H2
        isplitl [H3]; · iexact H3
        isplitl [H9]; · iexact H9
        isplitl [H10]; · iexact H10
        iexact H12
      isplitl [H5]; · iexact H5
      isplitl [H7]; · iexact H7
      isplitl [H11]; · iexact H11
      iexact H8
    · iexact H6
  · iintro ⟨⟨⟨H1, H2, H3, H9, H10, H12⟩, H5, H7, H11, H8⟩, H6⟩
    isplitl [H1 H2 H3 H5 H6 H7]
    · isplitl [H1]; · iexact H1
      isplitl [H2]; · iexact H2
      isplitl [H3]; · iexact H3
      isplitl [H5]; · iexact H5
      isplitl [H6]; · iexact H6
      iexact H7
    isplitl [H8]; · iexact H8
    isplitl [H9]; · iexact H9
    isplitl [H10]; · iexact H10
    isplitl [H12]; · iexact H12
    iexact H11

theorem body_middle (hi : 1 < (i 0).val) (hi' : (i 0).val < 48) :
    iprop(Ins c arg1 arg2 arg3 arg5 arg6 arg7 X R G S Sc B ∗ At c arg8 Y ∗ At c arg9 H ∗ At c arg10 C ∗ At c scL L ∗ At c scW W)
      ⊢ Wp c (bodyHere i arg1 arg2 arg3 arg5 arg6 arg7 arg8 harg8 arg9 harg9 arg10 harg10)
          (fun _ => iprop(Ins c arg1 arg2 arg3 arg5 arg6 arg7 X R G S Sc B ∗ At c arg8 (yNew i L W S B (scOf Sc)) ∗ At c arg9 (hV X R) ∗ At c arg10 (cV X R G (scOf Sc))
            ∗ At c scL (afterL i X R G L (scOf Sc)) ∗ At c scW W)) := by
  unfold bodyHere
  rw [body_middle_eq (hi := hi) (hi' := hi')]
  exact scale_head c arg1 arg2 arg3 arg5 arg6 arg7 X R G S Sc B (middle_here c i arg1 arg2 arg3 arg5 arg6 arg7 arg8 harg8 arg9 harg9 arg10 harg10 X R H G C L W S Sc B Y (scOf Sc))

theorem body_second (hi : (i 0).val = 1) (V : Waits sig Unit) (f : Buf (Elt F) ((c : Thread nD τ).loc main_arg3)) :
    iprop(Ins c arg1 arg2 arg3 arg5 arg6 arg7 X R G S Sc B ∗ At c arg8 Y ∗ At c arg9 H ∗ At c arg10 C ∗ At c scL L ∗ InFlight c f ∗ owes (c : Thread nD τ) 0 V)
      ⊢ Wp c (bodyHere i arg1 arg2 arg3 arg5 arg6 arg7 arg8 harg8 arg9 harg9 arg10 harg10)
          (fun _ => iprop((Ins c arg1 arg2 arg3 arg5 arg6 arg7 X R G S Sc B ∗ At c arg8 (yNew i L (wOf c f) S B (scOf Sc)) ∗ At c arg9 (hV X R) ∗ At c arg10 (cV X R G (scOf Sc))
            ∗ At c scL (afterL i X R G L (scOf Sc)) ∗ At c scW (wOf c f))
            ∗ (hbmW.view.loc (c : Thread nD τ) ↦{fullShare} f) ∗ semVal ((c : Thread nD τ), SemLoc.dma 14) 0 ∗ ∃ W', owes (c : Thread nD τ) 0 W')) := by
  unfold bodyHere
  rw [body_second_eq (hi := hi)]
  refine scale_head c arg1 arg2 arg3 arg5 arg6 arg7 X R G S Sc B (wp_seq c (wp_keep c (copy_wait c V f)
    (T := iprop(Ins c arg1 arg2 arg3 arg5 arg6 arg7 X R G S Sc B ∗ At c arg8 Y ∗ At c arg9 H ∗ At c arg10 C ∗ At c scL L)) ?_ .rfl)
    (wp_keep c (middle_here c i arg1 arg2 arg3 arg5 arg6 arg7 arg8 harg8 arg9 harg9 arg10 harg10 X R H G C L (wOf c f) S Sc B Y (scOf Sc)) ?_ .rfl))
  · iintro ⟨HI, H8, H9, H10, H12, HF⟩
    isplitl [HF]; · iexact HF
    isplitl [HI]; · iexact HI
    isplitl [H8]; · iexact H8
    isplitl [H9]; · iexact H9
    isplitl [H10]; · iexact H10
    iexact H12
  · iintro ⟨⟨Hf, HW, Hs, Ho⟩, HI, H8, H9, H10, H12⟩
    isplitl [HI H8 H9 H10 H12 HW]
    · isplitl [HI]; · iexact HI
      isplitl [H8]; · iexact H8
      isplitl [H9]; · iexact H9
      isplitl [H10]; · iexact H10
      isplitl [H12]; · iexact H12
      iexact HW
    isplitl [Hf]; · iexact Hf
    isplitl [Hs]; · iexact Hs
    iexact Ho

theorem body_last (hi : (i 0).val = 48) :
    iprop(Ins c arg1 arg2 arg3 arg5 arg6 arg7 X R G S Sc B ∗ At c arg8 Y ∗ At c scL L ∗ At c scW W)
      ⊢ Wp c (bodyHere i arg1 arg2 arg3 arg5 arg6 arg7 arg8 harg8 arg9 harg9 arg10 harg10)
          (fun _ => iprop(Ins c arg1 arg2 arg3 arg5 arg6 arg7 X R G S Sc B ∗ At c arg8 (yNew i L W S B (scOf Sc)) ∗ At c scL L ∗ At c scW W)) := by
  unfold bodyHere
  rw [body_last_eq (hi := hi)]
  refine scale_head c arg1 arg2 arg3 arg5 arg6 arg7 X R G S Sc B (wp_keep c (last_spec c i arg5 arg7 arg8 harg8 L W S B Y (scOf Sc))
    (T := iprop(At c arg1 X ∗ At c arg2 R ∗ At c arg3 G ∗ At c arg6 Sc)) ?_ ?_)
  · iintro ⟨⟨H1, H2, H3, H5, H6, H7⟩, H8, H12, H11⟩
    isplitl [H5 H7 H8 H12 H11]
    · isplitl [H5]; · iexact H5
      isplitl [H7]; · iexact H7
      isplitl [H11]; · iexact H11
      isplitl [H12]; · iexact H12
      iexact H8
    isplitl [H1]; · iexact H1
    isplitl [H2]; · iexact H2
    isplitl [H3]; · iexact H3
    iexact H6
  · iintro ⟨⟨H5, H7, H11, H12, H8⟩, H1, H2, H3, H6⟩
    isplitl [H1 H2 H3 H5 H6 H7]
    · isplitl [H1]; · iexact H1
      isplitl [H2]; · iexact H2
      isplitl [H3]; · iexact H3
      isplitl [H5]; · iexact H5
      isplitl [H6]; · iexact H6
      iexact H7
    isplitl [H8]; · iexact H8
    isplitl [H12]; · iexact H12
    iexact H11

end Cases

end Cert.Kernel.Hand

end
-- ==== Proof.KernelFrame.lean ====
/-
  The run of the whole program: what the kernel's own buffers hold between two points, what the body leaves in each
  window, the body's obligation at every point, and the run that follows: every argument array unchanged and every
  counter at zero.
-/
module

public import proofs.«01_k».proof.Proof.KernelPhase
public import proofs.«01_k».proof.Proof.Gen.Kernel.Frame
public import Idealize.ShloMosaic.Lib.Pipeline.TableIdle
public import Idealize.ShloMosaic.Lib.Pipeline.FrameBody

@[expose] public section

set_option maxRecDepth 65536

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.BI.BIBase Idealize.SL.BI.Laws Idealize.SL.ProofMode Idealize.SL.Sem
open Idealize.ShloMosaic.Pipeline (Dat Cfg Window BodyObligation)
open scoped Idealize.SL.BI

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around the region -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The one buffer the kernel reads by its own copy. -/
def H0 : Finset (Ref sig .tc) := {main_arg3}
theorem H0_sub : H0 ⊆ Pipeline.restRefs sig spec0 := by decide

/-- The kernel's own cell. -/
abbrev osem0 : Fin 1 → SemLoc sig := fun j => (![SemLoc.dma 14]) j
theorem ownSemFacts0 : Pipeline.OwnSemFacts spec0 osem0 := by decide

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  intro b hb
  rw [H0, Finset.mem_singleton] at hb
  subst hb
  simp only [hostOps1, List.mem_cons, List.mem_nil_iff, or_false] at hop
  rcases hop with rfl | rfl | rfl
  all_goals
    simp only [StableHlo.reshape_bufs, Finset.mem_insert, Finset.mem_singleton, not_or]
    exact ⟨StableHlo.devRef_ne_of_ne (by decide), StableHlo.devRef_ne_of_ne (by decide)⟩

/-! ## The tiles -/

/-- A point by its number. -/
def pt (n : ℕ) : Fin cfg0.N := ⟨min n 48, by rw [show cfg0.N = 49 from N_0]; omega⟩

theorem pt_val (t : Fin cfg0.N) : pt t.val = t := Fin.ext (by
  have h : t.val < 49 := t.isLt.trans_eq N_0
  show min t.val 48 = t.val
  omega)

theorem coords_val (t : Fin cfg0.N) : (grid0.coords t 0).val = t.val :=
  (by decide +kernel : ∀ t : Fin grid0.N, (grid0.coords t 0).val = t.val) t

abbrev xB (c : Dev nD) (t : Fin cfg0.N) : S256x7040.Idx → Elt F .bf16 := iblk m c 0 t
abbrev rB (c : Dev nD) (t : Fin cfg0.N) : S256x7040.Idx → Elt F .bf16 := iblk m c 1 t
abbrev gB (c : Dev nD) (t : Fin cfg0.N) : S1x7040.Idx → Elt F .bf16 := iblk m c 2 t
abbrev sB (c : Dev nD) (t : Fin cfg0.N) : S1x1920.Idx → Elt F .f32 := iblk m c 3 t
abbrev scB (c : Dev nD) (t : Fin cfg0.N) : S1x1.Idx → Elt F .f32 := iblk m c 4 t
abbrev bB (c : Dev nD) (t : Fin cfg0.N) : S1x1920.Idx → Elt F .bf16 := iblk m c 5 t

/-- The sums and the codes of the tile of a point. -/
def hT (c : Dev nD) (t : Fin cfg0.N) : S256x7040.Idx → Elt F .bf16 := hV (xB m c t) (rB m c t)
def cT (c : Dev nD) (t : Fin cfg0.N) : S256x7040.Idx → Elt F .fp8e4m3 := cV (xB m c t) (rB m c t) (gB m c t) (scOf (scB m c t))
/-- The codes of the tile of a point as one slot of the scratch. -/
def cS (c : Dev nD) (t : Fin cfg0.N) : S1x256x7040.Idx → Elt F .fp8e4m3 := fun y => cT m c t (ix2 (y 1) (y 2))
/-- The weight. -/
def wAll (c : Dev nD) : S1920x7040.Idx → Elt F .fp8e4m3 := wOf c (V m c main_arg3)
/-- The result's tile of a point: the tile before it, multiplied. -/
def yT (c : Dev nD) (t : Fin cfg0.N) : S256x1920.Idx → Elt F .bf16 :=
  yV (cS m c (pt (t.val - 1))) (wAll m c) (sB m c t) (bB m c t) (scOf (scB m c t))

theorem slotOf_after (i : grid0.Coords) (X R : S256x7040.Idx → Elt F .bf16) (G : S1x7040.Idx → Elt F .bf16) (L : S2x256x7040.Idx → Elt F .fp8e4m3) (v0 : Elt F .f32) :
    slotOf (afterL i X R G L v0) (wslot i) = fun y => cV X R G v0 (ix2 (y 1) (y 2)) := by
  have hw := wslot_eq i
  funext y
  refine if_pos ?_
  have h : (y 1).val < 256 := (y 1).isLt
  show (wslot i % 2 = wslot i ∧ ((y 1).val < 256 ∨ _))
  exact ⟨by omega, Or.inl h⟩

/-! ## The proof data -/

/-- The codes' scratch before point `n`: the slot the point multiplies holds the codes of the tile before. -/
def lInv (c : Dev nD) (n : ℕ) : sProp 𝕄 :=
  iprop(∃ L, ⌜n ≤ 48 → slotOf L ((n + 1) % 2) = cS m c (pt (n - 1))⌝ ∗ At c scL L)

/-- What the kernel's own buffers hold before point `n`. -/
def Phi (c : Dev nD) (n : ℕ) : sProp 𝕄 :=
  if n = 0 then Pipeline.ΦD osem0 spec0 H0 (V m) c
  else if n = 1 then iprop((∃ r, prngReg c r) ∗ InFlight c (V m c main_arg3) ∗ lInv m c 1)
  else iprop((∃ r, prngReg c r) ∗ semVal ((c : Thread nD τ), SemLoc.dma 14) 0 ∗ (hbmW.view.loc (c : Thread nD τ) ↦{fullShare} V m c main_arg3)
    ∗ At c scW (wAll m c) ∗ lInv m c n)

theorem Phi_zero (c : Dev nD) : Phi m c 0 = Pipeline.ΦD osem0 spec0 H0 (V m) c := if_pos rfl
theorem Phi_one (c : Dev nD) : Phi m c 1 = iprop((∃ r, prngReg c r) ∗ InFlight c (V m c main_arg3) ∗ lInv m c 1) := rfl
theorem Phi_later (c : Dev nD) {n : ℕ} (h : 1 < n) : Phi m c n = iprop((∃ r, prngReg c r) ∗ semVal ((c : Thread nD τ), SemLoc.dma 14) 0
    ∗ (hbmW.view.loc (c : Thread nD τ) ↦{fullShare} V m c main_arg3) ∗ At c scW (wAll m c) ∗ lInv m c n) :=
  (if_neg (by omega)).trans (if_neg (by omega))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yT m c t
    | ⟨7, _⟩ => hT m c (pt (min t.val 47))
    | ⟨8, _⟩ => cT m c (pt (min t.val 47))
  Φ n := Phi m c n.val
  q _ := fullShare
  owed _ := 0

theorem A_eq (c : Dev nD) (w : Fin cfg0.W) : (dats m 0 c).A w = V m c (Pipeline.arrRef spec0 w) := by dsimp only [dats]
theorem after0_6 (c : Dev nD) (t : Fin cfg0.N) : (dats m 0 c).after 6 t = yT m c t := by dsimp only [dats]
theorem after0_7 (c : Dev nD) (t : Fin cfg0.N) : (dats m 0 c).after 7 t = hT m c (pt (min t.val 47)) := by dsimp only [dats]
theorem after0_8 (c : Dev nD) (t : Fin cfg0.N) : (dats m 0 c).after 8 t = cT m c (pt (min t.val 47)) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => rfl) t d).trans rfl

theorem idle6 (t : Fin cfg0.N) : cfg0.idle 6 (cfg0.grid.coords t) = decide (t.val = 0) :=
  (by decide +kernel : ∀ t : Fin grid0.N, idle0 6 (grid0.coords t) = decide (t.val = 0)) t
theorem idle7 (t : Fin cfg0.N) : cfg0.idle 7 (cfg0.grid.coords t) = decide (t.val = 48) :=
  (by decide +kernel : ∀ t : Fin grid0.N, idle0 7 (grid0.coords t) = decide (t.val = 48)) t
theorem idle8 (t : Fin cfg0.N) : cfg0.idle 8 (cfg0.grid.coords t) = decide (t.val = 48) :=
  (by decide +kernel : ∀ t : Fin grid0.N, idle0 8 (grid0.coords t) = decide (t.val = 48)) t
theorem flush6 (t : Fin cfg0.N) : (cfg0.win 6).flush t = decide (t.val ≠ 0) :=
  (by decide +kernel : ∀ t : Fin grid0.N, win0_6.flush t = decide (t.val ≠ 0)) t
theorem flush7 (t : Fin cfg0.N) : (cfg0.win 7).flush t = decide (t.val ≠ 47) :=
  (by decide +kernel : ∀ t : Fin grid0.N, win0_7.flush t = decide (t.val ≠ 47)) t
theorem flush8 (t : Fin cfg0.N) : (cfg0.win 8).flush t = decide (t.val ≠ 47) :=
  (by decide +kernel : ∀ t : Fin grid0.N, win0_8.flush t = decide (t.val ≠ 47)) t

/-! ## The body's obligation -/

theorem owns_rep (c : Dev nD) {sp : Space} {s : Shape} {e : EltTy} (a : Memref sig .tc sp s e) (X : s.Idx → Elt F e) :
    owns (c : Thread nD τ) a fullShare X = At c a X := owns_eq_rep _ _ _ _

section Obligation

variable (c : Dev nD) (t : Fin cfg0.N)

/-- The buffers of the three results at a point. -/
abbrev a8 : Memref sig .tc .vmem S256x1920 .bf16 := win0_6.stage (cfg0.slots t 6)
abbrev a9 : Memref sig .tc .vmem S256x7040 .bf16 := win0_7.stage (cfg0.slots t 7)
abbrev a10 : Memref sig .tc .vmem S256x7040 .fp8e4m3 := win0_8.stage (cfg0.slots t 8)

/-- The six windows read at a point, at their blocks. -/
abbrev insAt : sProp 𝕄 :=
  Ins c (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (xB m c t) (rB m c t) (gB m c t) (sB m c t) (scB m c t) (bB m c t)

abbrev bodyT : Prog (TpuEff nD τ sig (Elt F) Λ₀ .tc) Unit :=
  bodyHere (grid0.coords t) (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (a8 t) (hstage0_6 ((cfg0.slots t 6).cast nbuf0_6)) (a9 t) (hstage0_7 ((cfg0.slots t 7).cast nbuf0_7))
    (a10 t) (hstage0_8 ((cfg0.slots t 8).cast nbuf0_8))

theorem bodyAt_eq : bodyAt0 (F := F) t = bodyT t := body_eq _ _ _ _ _ _ _ _ _ _ _ _ _ _ _ _ _ _ _ _ _ _ _ _ _ _

def bodyPre : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (a8 t) fullShare ((dats m 0 c).before 6 t d))
    ∗ (∃ d, owns (c : Thread nD τ) (a9 t) fullShare ((dats m 0 c).before 7 t d))
    ∗ (∃ d, owns (c : Thread nD τ) (a10 t) fullShare ((dats m 0 c).before 8 t d)))

def bodyPost : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (dats m 0 c).leavesExact 6 t ∗ (dats m 0 c).leavesExact 7 t ∗ (dats m 0 c).leavesExact 8 t)

theorem pre_open : bodyPre m c t ⊢ iprop(Phi m c t.val ∗ (∃ W, owes (c : Thread nD τ) 0 W) ∗ insAt m c t
    ∗ (∃ d, At c (a8 t) ((dats m 0 c).before 6 t d)) ∗ (∃ d, At c (a9 t) ((dats m 0 c).before 7 t d)) ∗ (∃ d, At c (a10 t) ((dats m 0 c).before 8 t d))) := by
  unfold bodyPre
  simp only [before0_0, before0_1, before0_2, before0_3, before0_4, before0_5, owns_rep]
  unfold Dat.owesAt Pipeline.owesWithin
  rw [show (dats m 0 c).owed t.castSucc = 0 from rfl, show (dats m 0 c).Φ t.castSucc = Phi m c t.val from rfl]
  iintro ⟨HP, ⟨%W, -, HW⟩, ⟨%d0, H0⟩, ⟨%d1, H1⟩, ⟨%d2, H2⟩, ⟨%d3, H3⟩, ⟨%d4, H4⟩, ⟨%d5, H5⟩, H6, H7, H8⟩
  isplitl [HP]; · iexact HP
  isplitl [HW]; · iexists W; iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  iexact H8

theorem post_close : iprop(Phi m c (t.val + 1) ∗ (∃ W, owes (c : Thread nD τ) 0 W) ∗ insAt m c t
    ∗ (dats m 0 c).leavesExact 6 t ∗ (dats m 0 c).leavesExact 7 t ∗ (dats m 0 c).leavesExact 8 t) ⊢ bodyPost m c t := by
  unfold bodyPost
  simp only [owns_rep]
  unfold Dat.owesAt Pipeline.owesWithin
  rw [show (dats m 0 c).owed t.succ = 0 from rfl, show (dats m 0 c).Φ t.succ = Phi m c (t.val + 1) from rfl]
  iintro ⟨HP, ⟨%W, HW⟩, ⟨H0, H1, H2, H3, H4, H5⟩, H6, H7, H8⟩
  isplitl [HP]; · iexact HP
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem leaves6 (h : t.val ≠ 0) : (dats m 0 c).leavesExact 6 t = At c (a8 t) (yT m c t) := by
  unfold Dat.leavesExact
  rw [idle6, decide_eq_false h]
  exact owns_rep _ _ _
theorem leaves6_first (h : t.val = 0) : (dats m 0 c).leavesExact 6 t = iprop(∃ d, At c (a8 t) ((dats m 0 c).before 6 t d)) := by
  rw [Dat.leavesExact_idle _ 6 t (by rw [idle6, decide_eq_true h]) (by rw [flush6, decide_eq_false (not_not.2 h)])]
  simp only [owns_rep]
theorem leaves7 : (dats m 0 c).leavesExact 7 t = At c (a9 t) (hT m c (pt (min t.val 47))) := by
  unfold Dat.leavesExact
  rw [idle7]
  by_cases h : t.val = 48
  · rw [decide_eq_true h, flush7, decide_eq_true (by omega)]
    exact owns_rep _ _ _
  · rw [decide_eq_false h]
    exact owns_rep _ _ _
theorem leaves8 : (dats m 0 c).leavesExact 8 t = At c (a10 t) (cT m c (pt (min t.val 47))) := by
  unfold Dat.leavesExact
  rw [idle8]
  by_cases h : t.val = 48
  · rw [decide_eq_true h, flush8, decide_eq_true (by omega)]
    exact owns_rep _ _ _
  · rw [decide_eq_false h]
    exact owns_rep _ _ _

theorem tile_of_lt (h : t.val < 48) : pt (min t.val 47) = t := by
  rw [show min t.val 47 = t.val by omega, pt_val]

/-- At the last point the two windows not written hold what the point before left. -/
theorem before7_last (h : t.val = 48) (d) : (dats m 0 c).before 7 t d = hT m c (pt (min t.val 47)) := by
  rw [Dat.before_of_pos _ 7 t (by omega) rfl, flush7, decide_eq_false (by show ¬ (t.val - 1 ≠ 47); omega), if_neg Bool.false_ne_true]
  unfold Dat.left
  rw [idle7, decide_eq_false (by show ¬ (t.val - 1 = 48); omega)]
  show hT m c (pt (min (t.val - 1) 47)) = _
  rw [show min (t.val - 1) 47 = min t.val 47 by omega]
theorem before8_last (h : t.val = 48) (d) : (dats m 0 c).before 8 t d = cT m c (pt (min t.val 47)) := by
  rw [Dat.before_of_pos _ 8 t (by omega) rfl, flush8, decide_eq_false (by show ¬ (t.val - 1 ≠ 47); omega), if_neg Bool.false_ne_true]
  unfold Dat.left
  rw [idle8, decide_eq_false (by show ¬ (t.val - 1 = 48); omega)]
  show cT m c (pt (min (t.val - 1) 47)) = _
  rw [show min (t.val - 1) 47 = min t.val 47 by omega]

/-- The codes' scratch after a point that writes it. -/
theorem lInv_after (h : t.val < 48) (L : S2x256x7040.Idx → Elt F .fp8e4m3) :
    At c scL (afterL (grid0.coords t) (xB m c t) (rB m c t) (gB m c t) L (scOf (scB m c t))) ⊢ lInv m c (t.val + 1) := by
  unfold lInv
  iintro H
  iexists _
  isplitr; swap; · iexact H
  ipureintro
  intro _
  have hw : wslot (grid0.coords t) = t.val % 2 := (wslot_eq _).trans (by rw [coords_val])
  rw [show (t.val + 1 + 1) % 2 = wslot (grid0.coords t) by omega, slotOf_after, show t.val + 1 - 1 = t.val from rfl, pt_val]
  rfl

/-- The result's tile written at a point. -/
theorem yNew_eq (h : 0 < t.val) (L : S2x256x7040.Idx → Elt F .fp8e4m3) (hL : t.val ≤ 48 → slotOf L ((t.val + 1) % 2) = cS m c (pt (t.val - 1))) :
    yNew (grid0.coords t) L (wAll m c) (sB m c t) (bB m c t) (scOf (scB m c t)) = yT m c t := by
  have hw : rslot (grid0.coords t) = (t.val + 1) % 2 := (rslot_eq _).trans (by rw [coords_val])
  have ht : t.val < 49 := t.isLt.trans_eq N_0
  unfold yNew yT
  rw [hw, hL (by omega)]

theorem whole_at (r : Ref sig .tc) (f : Buf (Elt F) ((c : Thread nD τ).loc r)) :
    iprop(((c : Thread nD τ).loc r) ↦{fullShare} f : sProp 𝕄) = At c (Memref.whole r) f := by
  rw [← owns_rep, owns_whole]

/-- What the kernel's own buffers hold before the first point, each by itself. -/
theorem phiD_eq : Pipeline.ΦD osem0 spec0 H0 (V m) c
    = (iprop(((∃ f, ((c : Thread nD τ).loc cc0_scratch0) ↦{fullShare} f) ∗ (∃ f, ((c : Thread nD τ).loc cc0_scratch1) ↦{fullShare} f)) ∗ (∃ r, prngReg c r)
      ∗ semVal ((c : Thread nD τ), SemLoc.dma 14) 0 ∗ (hbmW.view.loc (c : Thread nD τ) ↦{fullShare} V m c main_arg3)) : sProp 𝕄) := by
  rw [Pipeline.ΦD_eq, scopedRest0_eq, Pipeline.ownSems0_eq_of_list c osem0 [0] (by decide) (by decide),
    show H0 = {main_arg3} from rfl, BI.bigSep_eq_bigSepL_of_eq [main_arg3] (by decide) (by decide)]
  rfl

theorem phi0_open : Phi m c 0 ⊢ iprop((∃ r, prngReg c r) ∗ (∃ L, At c scL L) ∗ (hbmW.view.loc (c : Thread nD τ) ↦{fullShare} V m c main_arg3)
    ∗ (∃ fd, scW.view.loc (c : Thread nD τ) ↦[scW.view.set]{fullShare} fd) ∗ semVal ((c : Thread nD τ), SemLoc.dma 14) 0) := by
  rw [Phi_zero, phiD_eq]
  simp only [whole_at]
  iintro ⟨⟨⟨%f0, H0⟩, H1⟩, Hg, Hs, Hh⟩
  isplitl [Hg]; · iexact Hg
  isplitl [H1]; · iexact H1
  isplitl [Hh]; · iexact Hh
  isplitl [H0]; · iexists _; iexact H0
  iexact Hs

theorem phi_end (n : ℕ) (h : 1 < n) : Phi m c n ⊢ Pipeline.ΦD osem0 spec0 H0 (V m) c := by
  rw [Phi_later m c h, phiD_eq]
  simp only [whole_at]
  unfold lInv
  iintro ⟨Hg, Hs, Hh, HW, ⟨%L, -, HL⟩⟩
  isplitl [HW HL]
  · isplitl [HW]; · iexists _; iexact HW
    iexists _; iexact HL
  isplitl [Hg]; · iexact Hg
  isplitl [Hs]; · iexact Hs
  iexact Hh

/-- The obligation at a point, from the body's triple over what its buffers hold. -/
theorem sound_of (h : iprop(Phi m c t.val ∗ (∃ W, owes (c : Thread nD τ) 0 W) ∗ insAt m c t
      ∗ (∃ d, At c (a8 t) ((dats m 0 c).before 6 t d)) ∗ (∃ d, At c (a9 t) ((dats m 0 c).before 7 t d)) ∗ (∃ d, At c (a10 t) ((dats m 0 c).before 8 t d)))
      ⊢ Wp c (bodyT t) (fun _ => iprop(Phi m c (t.val + 1) ∗ (∃ W, owes (c : Thread nD τ) 0 W) ∗ insAt m c t
        ∗ (dats m 0 c).leavesExact 6 t ∗ (dats m 0 c).leavesExact 7 t ∗ (dats m 0 c).leavesExact 8 t))) :
    bodyPre m c t ⊢ wp frame (wpE (defs₀ (F := F)) Variants.none (c : Thread nD τ) none) Set.univ (bodyAt0 t) (fun _ => bodyPost m c t) := by
  rw [bodyAt_eq]
  iintro H
  ihave H := (pre_open m c t) $$ H
  iapply (wp_wand_r Idealize.ShloMosaic.frame (wpE (defs₀ (F := F)) Variants.none (c : Thread nD τ) none) Set.univ)
  isplitl [H]
  · iapply h; iexact H
  · iintro %_ H
    iapply (post_close m c t); iexact H

theorem sound_first (h : t.val = 0) : bodyPre m c t ⊢ wp frame (wpE (defs₀ (F := F)) Variants.none (c : Thread nD τ) none) Set.univ (bodyAt0 t) (fun _ => bodyPost m c t) := by
  refine sound_of m c t ?_
  rw [leaves6_first m c t h, leaves7, leaves8, tile_of_lt t (by omega)]
  have hl := lInv_after m c t (by omega)
  have hc : (grid0.coords t 0).val = 0 := by rw [coords_val, h]
  rw [h] at hl ⊢
  rw [Phi_one]
  iintro ⟨HP, ⟨%W, HV⟩, HI, ⟨%d8, H8⟩, ⟨%d9, H9⟩, ⟨%d10, H10⟩⟩
  ihave HP := (phi0_open m c) $$ HP
  icases HP with ⟨Hg, ⟨%L, HL⟩, Hh, HW, Hs⟩
  iapply (wp_keep c (body_first c (grid0.coords t) _ _ _ _ _ _ (a8 t) (hstage0_6 ((cfg0.slots t 6).cast nbuf0_6)) (a9 t) (hstage0_7 ((cfg0.slots t 7).cast nbuf0_7))
    (a10 t) (hstage0_8 ((cfg0.slots t 8).cast nbuf0_8)) (xB m c t) (rB m c t) ((dats m 0 c).before 7 t d9) (gB m c t) ((dats m 0 c).before 8 t d10) L
    (sB m c t) (scB m c t) (bB m c t) ((dats m 0 c).before 6 t d8) hc W (V m c main_arg3)) (T := iprop(∃ r, prngReg c r)) .rfl ?_)
  swap
  · isplitr [Hg]; swap; · iexact Hg
    isplitl [HI]; · iexact HI
    isplitl [H8]; · iexact H8
    isplitl [H9]; · iexact H9
    isplitl [H10]; · iexact H10
    isplitl [HL]; · iexact HL
    isplitl [Hh]; · iexact Hh
    isplitl [HW]; · iexact HW
    isplitl [Hs]; · iexact Hs
    iexact HV
  · iintro ⟨⟨HI, H8, H9, H10, HL, HF, HV⟩, Hg⟩
    isplitl [Hg HF HL]
    · isplitl [Hg]; · iexact Hg
      isplitl [HF]; · iexact HF
      iapply (hl L); iexact HL
    isplitl [HV]; · iexact HV
    isplitl [HI]; · iexact HI
    isplitl [H8]; · iexists _; iexact H8
    isplitl [H9]; · iexact H9
    iexact H10

theorem sound_second (h : t.val = 1) : bodyPre m c t ⊢ wp frame (wpE (defs₀ (F := F)) Variants.none (c : Thread nD τ) none) Set.univ (bodyAt0 t) (fun _ => bodyPost m c t) := by
  refine sound_of m c t ?_
  rw [leaves6 m c t (by omega), leaves7, leaves8, tile_of_lt t (by omega), Phi_later m c (n := t.val + 1) (by omega)]
  have hl := lInv_after m c t (by omega)
  have hy := yNew_eq m c t (by omega)
  have hc : (grid0.coords t 0).val = 1 := by rw [coords_val, h]
  rw [show Phi m c t.val = Phi m c 1 by rw [h], Phi_one, show lInv m c 1 = lInv m c t.val by rw [h]]
  rw [show lInv m c t.val = iprop(∃ L, ⌜t.val ≤ 48 → slotOf L ((t.val + 1) % 2) = cS m c (pt (t.val - 1))⌝ ∗ At c scL L) from rfl]
  iintro ⟨⟨Hg, HF, ⟨%L, %hL, HL⟩⟩, ⟨%W, HV⟩, HI, ⟨%d8, H8⟩, ⟨%d9, H9⟩, ⟨%d10, H10⟩⟩
  rw [← hy L hL]
  iapply (wp_keep c (body_second c (grid0.coords t) _ _ _ _ _ _ (a8 t) (hstage0_6 ((cfg0.slots t 6).cast nbuf0_6)) (a9 t) (hstage0_7 ((cfg0.slots t 7).cast nbuf0_7))
    (a10 t) (hstage0_8 ((cfg0.slots t 8).cast nbuf0_8)) (xB m c t) (rB m c t) ((dats m 0 c).before 7 t d9) (gB m c t) ((dats m 0 c).before 8 t d10) L
    (sB m c t) (scB m c t) (bB m c t) ((dats m 0 c).before 6 t d8) hc W (V m c main_arg3)) (T := iprop(∃ r, prngReg c r)) .rfl ?_)
  swap
  · isplitr [Hg]; swap; · iexact Hg
    isplitl [HI]; · iexact HI
    isplitl [H8]; · iexact H8
    isplitl [H9]; · iexact H9
    isplitl [H10]; · iexact H10
    isplitl [HL]; · iexact HL
    isplitl [HF]; · iexact HF
    iexact HV
  · iintro ⟨⟨⟨HI, H8, H9, H10, HL, HW⟩, Hh, Hs, HV⟩, Hg⟩
    isplitl [Hg Hs Hh HW HL]
    · isplitl [Hg]; · iexact Hg
      isplitl [Hs]; · iexact Hs
      isplitl [Hh]; · iexact Hh
      isplitl [HW]; · iexact HW
      iapply (hl L); iexact HL
    isplitl [HV]; · iexact HV
    isplitl [HI]; · iexact HI
    isplitl [H8]; · iexact H8
    isplitl [H9]; · iexact H9
    iexact H10

theorem sound_middle (h : 1 < t.val) (h' : t.val < 48) : bodyPre m c t ⊢ wp frame (wpE (defs₀ (F := F)) Variants.none (c : Thread nD τ) none) Set.univ (bodyAt0 t) (fun _ => bodyPost m c t) := by
  refine sound_of m c t ?_
  rw [leaves6 m c t (by omega), leaves7, leaves8, tile_of_lt t h', Phi_later m c h, Phi_later m c (n := t.val + 1) (by omega)]
  have hl := lInv_after m c t h'
  have hy := yNew_eq m c t (by omega)
  have hc : 1 < (grid0.coords t 0).val := by rw [coords_val]; exact h
  have hc' : (grid0.coords t 0).val < 48 := by rw [coords_val]; exact h'
  rw [show lInv m c t.val = iprop(∃ L, ⌜t.val ≤ 48 → slotOf L ((t.val + 1) % 2) = cS m c (pt (t.val - 1))⌝ ∗ At c scL L) from rfl]
  iintro ⟨⟨Hg, Hs, Hh, HW, ⟨%L, %hL, HL⟩⟩, HV, HI, ⟨%d8, H8⟩, ⟨%d9, H9⟩, ⟨%d10, H10⟩⟩
  rw [← hy L hL]
  iapply (wp_keep c (body_middle c (grid0.coords t) _ _ _ _ _ _ (a8 t) (hstage0_6 ((cfg0.slots t 6).cast nbuf0_6)) (a9 t) (hstage0_7 ((cfg0.slots t 7).cast nbuf0_7))
    (a10 t) (hstage0_8 ((cfg0.slots t 8).cast nbuf0_8)) (xB m c t) (rB m c t) ((dats m 0 c).before 7 t d9) (gB m c t) ((dats m 0 c).before 8 t d10) L (wAll m c)
    (sB m c t) (scB m c t) (bB m c t) ((dats m 0 c).before 6 t d8) hc hc')
    (T := iprop((∃ r, prngReg c r) ∗ semVal ((c : Thread nD τ), SemLoc.dma 14) 0 ∗ (hbmW.view.loc (c : Thread nD τ) ↦{fullShare} V m c main_arg3) ∗ (∃ W, owes (c : Thread nD τ) 0 W))) .rfl ?_)
  swap
  · isplitl [HI H8 H9 H10 HL HW]
    · isplitl [HI]; · iexact HI
      isplitl [H8]; · iexact H8
      isplitl [H9]; · iexact H9
      isplitl [H10]; · iexact H10
      isplitl [HL]; · iexact HL
      iexact HW
    isplitl [Hg]; · iexact Hg
    isplitl [Hs]; · iexact Hs
    isplitl [Hh]; · iexact Hh
    iexact HV
  · iintro ⟨⟨HI, H8, H9, H10, HL, HW⟩, Hg, Hs, Hh, HV⟩
    isplitl [Hg Hs Hh HW HL]
    · isplitl [Hg]; · iexact Hg
      isplitl [Hs]; · iexact Hs
      isplitl [Hh]; · iexact Hh
      isplitl [HW]; · iexact HW
      iapply (hl L); iexact HL
    isplitl [HV]; · iexact HV
    isplitl [HI]; · iexact HI
    isplitl [H8]; · iexact H8
    isplitl [H9]; · iexact H9
    iexact H10

theorem sound_last (h : t.val = 48) : bodyPre m c t ⊢ wp frame (wpE (defs₀ (F := F)) Variants.none (c : Thread nD τ) none) Set.univ (bodyAt0 t) (fun _ => bodyPost m c t) := by
  refine sound_of m c t ?_
  rw [leaves6 m c t (by omega), leaves7, leaves8, Phi_later m c (n := t.val) (by omega), Phi_later m c (n := t.val + 1) (by omega)]
  have hy := yNew_eq m c t (by omega)
  have hc : (grid0.coords t 0).val = 48 := by rw [coords_val, h]
  simp only [before7_last m c t h, before8_last m c t h]
  unfold lInv
  iintro ⟨⟨Hg, Hs, Hh, HW, ⟨%L, %hL, HL⟩⟩, HV, HI, ⟨%d8, H8⟩, ⟨%d9, H9⟩, ⟨%d10, H10⟩⟩
  rw [← hy L hL]
  iapply (wp_keep c (body_last c (grid0.coords t) _ _ _ _ _ _ (a8 t) (hstage0_6 ((cfg0.slots t 6).cast nbuf0_6)) (a9 t) (hstage0_7 ((cfg0.slots t 7).cast nbuf0_7))
    (a10 t) (hstage0_8 ((cfg0.slots t 8).cast nbuf0_8)) (xB m c t) (rB m c t) (gB m c t) L (wAll m c)
    (sB m c t) (scB m c t) (bB m c t) ((dats m 0 c).before 6 t d8) hc)
    (T := iprop((∃ r, prngReg c r) ∗ semVal ((c : Thread nD τ), SemLoc.dma 14) 0 ∗ (hbmW.view.loc (c : Thread nD τ) ↦{fullShare} V m c main_arg3) ∗ (∃ W, owes (c : Thread nD τ) 0 W)
      ∗ At c (a9 t) (hT m c (pt (min t.val 47))) ∗ At c (a10 t) (cT m c (pt (min t.val 47))))) .rfl ?_)
  swap
  · isplitl [HI H8 HL HW]
    · isplitl [HI]; · iexact HI
      isplitl [H8]; · iexact H8
      isplitl [HL]; · iexact HL
      iexact HW
    isplitl [Hg]; · iexact Hg
    isplitl [Hs]; · iexact Hs
    isplitl [Hh]; · iexact Hh
    isplitl [HV]; · iexact HV
    isplitl [H9]; · iexact H9
    iexact H10
  · iintro ⟨⟨HI, H8, HL, HW⟩, Hg, Hs, Hh, HV, H9, H10⟩
    isplitl [Hg Hs Hh HW HL]
    · isplitl [Hg]; · iexact Hg
      isplitl [Hs]; · iexact Hs
      isplitl [Hh]; · iexact Hh
      isplitl [HW]; · iexact HW
      iexists L
      isplitr; · ipureintro; intro h'; omega
      iexact HL
    isplitl [HV]; · iexact HV
    isplitl [HI]; · iexact HI
    isplitl [H8]; · iexact H8
    isplitl [H9]; · iexact H9
    iexact H10

theorem sound_body : bodyPre m c t ⊢ wp frame (wpE (defs₀ (F := F)) Variants.none (c : Thread nD τ) none) Set.univ (bodyAt0 t) (fun _ => bodyPost m c t) := by
  have ht : t.val < 49 := t.isLt.trans_eq N_0
  by_cases h0 : t.val = 0
  · exact sound_first m c t h0
  by_cases h1 : t.val = 1
  · exact sound_second m c t h1
  by_cases h2 : t.val = 48
  · exact sound_last m c t h2
  · exact sound_middle m c t (by omega) (by omega)

end Obligation

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : Pipeline.ΦD osem0 spec0 H0 (V m) c ⊢ (dats m 0 c).Φ 0 := by
  rw [show (dats m 0 c).Φ 0 = Phi m c 0 from rfl, Phi_zero]

theorem phi_out (c : Dev nD) : (dats m 0 c).Φ (Fin.last cfg0.N) ⊢ Pipeline.ΦD osem0 spec0 H0 (V m) c :=
  phi_end m c cfg0.N (by rw [show cfg0.N = 49 from N_0]; decide)

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps) (hmain := hmainD m Variants.none) (hA := A_eq m)
    (hin := phi_in m) (hout := phi_out m) (hQ' := fun _ h => h)

/-- What an array that no line after the region writes and no window names ends at: its contents at the launch. -/
theorem W_kept (b : Ref sig .tc) (c : Dev nD) (hb : ∀ op ∈ (hostOps1 : List (HloOp τ sig (Elt F))), Proc.devRef .tc b ∉ op.writes)
    (hw : ∀ w, Pipeline.arrRef spec0 w ≠ b) (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (by simpa only [List.flatten_cons, List.flatten_nil, List.append_nil] using hb),
    Pipeline.withArrays_of_ne _ c (V0 m c) _ b hw]
  exact hV

/-- The lines after the region write the three results only. -/
theorem tail_writes (b : Ref sig .tc) (h : main_v7 ≠ b ∧ main_v8 ≠ b ∧ main_v9 ≠ b) :
    ∀ op ∈ (hostOps1 : List (HloOp τ sig (Elt F))), Proc.devRef .tc b ∉ op.writes := by
  intro op hop
  simp only [hostOps1, List.mem_cons, List.mem_nil_iff, or_false] at hop
  rcases hop with rfl | rfl | rfl <;> simp only [StableHlo.reshape_writes, Finset.mem_singleton]
  · exact StableHlo.devRef_ne_of_ne h.1.symm
  · exact StableHlo.devRef_ne_of_ne h.2.1.symm
  · exact StableHlo.devRef_ne_of_ne h.2.2.symm

/-- An argument array after the run. -/
theorem kept_of {r : PUnit × MemSt nD τ sig (Elt F)} (h : Pipeline.FramePost cfgs (dats m) 0 (Pipeline.afterTail₀ cfgs (dats m) 0 (V0 m) [hostOps1]) r)
    (c : Dev nD) (b : Ref sig .tc) (hr : b ∈ Pipeline.restRefs sig spec0) (h' : main_v7 ≠ b ∧ main_v8 ≠ b ∧ main_v9 ≠ b)
    (hw : ∀ w, Pipeline.arrRef spec0 w ≠ b) (hV : V m c b = m ((c : Thread nD τ).loc b)) :
    r.2.mem ((c.tc : Thread nD τ).loc b) = m ((c.tc : Thread nD τ).loc b) :=
  ((h c).2 b hr).trans (W_kept m b c (tail_writes b h') hw hV)

/-- Every argument array after the run. -/
theorem args_of {r : PUnit × MemSt nD τ sig (Elt F)} (h : Pipeline.FramePost cfgs (dats m) 0 (Pipeline.afterTail₀ cfgs (dats m) 0 (V0 m) [hostOps1]) r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨kept_of m h c _ (Pipeline.mem_restRefs_of _ (by decide) (by decide)) (by decide) (by decide) (V_main_arg0 m c),
    kept_of m h c _ (Pipeline.mem_restRefs_of _ (by decide) (by decide)) (by decide) (by decide) (V_main_arg1 m c),
    kept_of m h c _ (Pipeline.mem_restRefs_of _ (by decide) (by decide)) (by decide) (by decide) (V_main_arg2 m c),
    kept_of m h c _ (Pipeline.mem_restRefs_of _ (by decide) (by decide)) (by decide) (by decide) (V_main_arg3 m c),
    kept_of m h c _ (Pipeline.mem_restRefs_of _ (by decide) (by decide)) (by decide) (by decide) (V_main_arg4 m c),
    kept_of m h c _ (Pipeline.mem_restRefs_of _ (by decide) (by decide)) (by decide) (by decide) (V_main_arg5 m c),
    kept_of m h c _ (Pipeline.mem_restRefs_of _ (by decide) (by decide)) (by decide) (by decide) (V_main_arg6 m c)⟩

/-- The frame: the program ends, every argument array as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_of m h.1 c, h.2⟩) (run_main m ρ)

end Cert.Kernel.Hand

end
-- ==== Proof.KernelIdealForm.lean ====
/-
  The kernel's body as a sequence of two repeated steps: the quantisation of 32 rows (`quant`: one loop over the 55
  column blocks that stores `h` and sums the squares, a second that stores the codes) and the product of the previous
  tile's codes with one block of the weight's rows (`mult512`, `mult384`). The printed body is this sequence, by
  definition up to the bracketing of the sequence.
-/
module

public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.SL.Sem

variable {F : FTy → Type} [FloatOps F] [Named F]

/-- The bounds of every column loop. -/
@[reducible] def loop55 : Scf.Loop 32 := ⟨0#32, Scalar.addi 0#32 55#32, 1#32⟩

theorem loop55_ok : loop55.OK := k0_t1_abs.1
theorem loop55_trips : loop55.trips = 55 := by decide +kernel

/-- The first column of block `k`, as the kernel computes it. -/
def col (k : Fin loop55.trips) : ℕ := (Scalar.indexCast (Scalar.muli (Scf.iv 0#32 1#32 k) 128#32) : Index).toNat

theorem col_eq : ∀ k : Fin loop55.trips, col k = 128 * k.val := by decide +kernel

/-- The slot of the codes scratch that the body writes at point `i`, as the kernel computes it. -/
def wslot (i : grid0.Coords) : ℕ := (Scalar.indexCast (Scalar.remsi (BitVec.ofNat 32 (i 0).val) 2#32) : Index).toNat
/-- The slot it multiplies. -/
def rslot (i : grid0.Coords) : ℕ := (Scalar.indexCast (Scalar.remsi (Scalar.addi (BitVec.ofNat 32 (i 0).val) 1#32) 2#32) : Index).toNat

theorem wslot_eq : ∀ i : grid0.Coords, wslot i = (i 0).val % 2 :=
  fun i => (by decide +kernel : ∀ n : Fin 49, (Scalar.indexCast (Scalar.remsi (BitVec.ofNat 32 n.val) 2#32) : Index).toNat = n.val % 2) (i 0)
theorem rslot_eq : ∀ i : grid0.Coords, rslot i = ((i 0).val + 1) % 2 :=
  fun i => (by decide +kernel : ∀ n : Fin 49, (Scalar.indexCast (Scalar.remsi (Scalar.addi (BitVec.ofNat 32 n.val) 1#32) 2#32) : Index).toNat = (n.val + 1) % 2) (i 0)

/-- A group of 32 rows starts at a multiple of 32 below 256. -/
def Grp (r0 : ℕ) : Prop := r0 % 32 = 0 ∧ r0 + 32 ≤ 256

theorem grp0 : Grp 0 := ⟨rfl, by omega⟩
theorem grp1 : Grp 32 := ⟨rfl, by omega⟩
theorem grp2 : Grp 64 := ⟨rfl, by omega⟩
theorem grp3 : Grp 96 := ⟨rfl, by omega⟩
theorem grp4 : Grp 128 := ⟨rfl, by omega⟩
theorem grp5 : Grp 160 := ⟨rfl, by omega⟩
theorem grp6 : Grp 192 := ⟨rfl, by omega⟩
theorem grp7 : Grp 224 := ⟨rfl, by omega⟩
theorem inbRow {r0 : ℕ} (hr : Grp r0) (k : Fin loop55.trips) : ∀ a, (![r0, col k] : Fin 2 → ℕ) a + S32x128.size a ≤ S256x7040.size a := by
  have hk := k.isLt; have h55 := loop55_trips; have hc := col_eq k; obtain ⟨h1, h2⟩ := hr
  refine Fin.forall_fin_two.mpr ⟨?_, ?_⟩
  · show r0 + 32 ≤ 256; omega
  · show col k + 128 ≤ 7040; omega
theorem inbGamma (k : Fin loop55.trips) : ∀ a, (![0, col k] : Fin 2 → ℕ) a + S1x128.size a ≤ S1x7040.size a := by
  have hk := k.isLt; have h55 := loop55_trips; have hc := col_eq k
  refine Fin.forall_fin_two.mpr ⟨?_, ?_⟩
  · show 0 + 1 ≤ 1; omega
  · show col k + 128 ≤ 7040; omega
theorem inbLhs {r0 : ℕ} (hr : Grp r0) (i : grid0.Coords) (k : Fin loop55.trips) :
    ∀ a, (![wslot i, r0, col k] : Fin 3 → ℕ) a + S1x32x128.size a ≤ S2x256x7040.size a := by
  have hk := k.isLt; have h55 := loop55_trips; have hc := col_eq k; obtain ⟨h1, h2⟩ := hr; have hw := wslot_eq i
  intro a
  match a with
  | ⟨0, _⟩ => show wslot i + 1 ≤ 2; omega
  | ⟨1, _⟩ => show r0 + 32 ≤ 256; omega
  | ⟨2, _⟩ => show col k + 128 ≤ 7040; omega
theorem inbPrev (i : grid0.Coords) : ∀ a, (![rslot i, 0, 0] : Fin 3 → ℕ) a + S1x256x7040.size a ≤ S2x256x7040.size a := by
  have hw := rslot_eq i
  intro a
  match a with
  | ⟨0, _⟩ => show rslot i + 1 ≤ 2; omega
  | ⟨1, _⟩ => exact le_refl _
  | ⟨2, _⟩ => exact le_refl _
theorem packRow {r0 : ℕ} (hr : Grp r0) (k : Fin loop55.trips) {p : ℕ} (hp : p ∣ 32) :
    (Rect.unit (s := S256x7040) ![r0, col k] S32x128.size (inbRow hr k)).PackedRows p := by
  refine Or.inr ⟨le_refl _, rfl, Or.inl ⟨?_, ?_⟩⟩
  · show p ∣ r0; exact hp.trans (Nat.dvd_of_mod_eq_zero hr.1)
  · exact hp
theorem packLhs {r0 : ℕ} (hr : Grp r0) (i : grid0.Coords) (k : Fin loop55.trips) {p : ℕ} (hp : p ∣ 32) :
    (Rect.unit (s := S2x256x7040) ![wslot i, r0, col k] S1x32x128.size (inbLhs hr i k)).PackedRows p := by
  refine Or.inr ⟨by decide, rfl, Or.inl ⟨?_, ?_⟩⟩
  · show p ∣ r0; exact hp.trans (Nat.dvd_of_mod_eq_zero hr.1)
  · exact hp

section Steps

variable (i : grid0.Coords)
  (arg1 : Memref sig .tc .vmem S256x7040 .bf16) (arg2 : Memref sig .tc .vmem S256x7040 .bf16) (arg3 : Memref sig .tc .vmem S1x7040 .bf16)
  (arg5 : Memref sig .tc .vmem S1x1920 .f32) (arg7 : Memref sig .tc .vmem S1x1920 .bf16)
  (arg8 : Memref sig .tc .vmem S256x1920 .bf16) (harg8 : arg8.IsWhole)
  (arg9 : Memref sig .tc .vmem S256x7040 .bf16) (harg9 : arg9.IsWhole)
  (arg10 : Memref sig .tc .vmem S256x7040 .fp8e4m3) (harg10 : arg10.IsWhole)
  (arg11 : Memref sig .tc .vmem S1920x7040 .fp8e4m3)
  (arg12 : Memref sig .tc .vmem S2x256x7040 .fp8e4m3) (harg12 : arg12.IsWhole) (v0 : Elt F .f32)

/-- One column block of the first loop: store `h`, add its square to the running sums. -/
def sqBody (r0 : ℕ) (hr : Grp r0) : Fin loop55.trips → FVec F S32x128 .f32 → Prog (TpuEff nD τ sig (Elt F) Λ₀ .tc) (FVec F S32x128 .f32) :=
  fun k acc => do
    let a : Vec F S32x128 .bf16 ← Prog.lift (.load arg1 (Rect.unit (s := S256x7040) ![r0, col k] S32x128.size (inbRow hr k)).toLoadRect (View.loadsAt_vmem h_S32x128))
    let b : Vec F S32x128 .bf16 ← Prog.lift (.load arg2 (Rect.unit (s := S256x7040) ![r0, col k] S32x128.size (inbRow hr k)).toLoadRect (View.loadsAt_vmem h_S32x128))
    let _ : Vec F S32x128 .bf16 ← Prog.lift (.load arg9 (Rect.unit (s := S256x7040) ![r0, col k] S32x128.size (inbRow hr k)).toLoadRect (View.loadsAt_vmem h_S32x128))
    Prog.lift (.store arg9 (Rect.unit (s := S256x7040) ![r0, col k] S32x128.size (inbRow hr k)) (k0_pay23 a b) Finset.univ (View.stores_vmem h_S32x128 (harg9.storeExact_slice rfl _ (packRow hr k (by decide))) (fun _ => rfl)) (.inl rfl))
    pure (k0_pay24 acc a b)

/-- One column block of the second loop: store the codes, in the result's window and in the scratch the next point multiplies. -/
def codeBody (r0 : ℕ) (hr : Grp r0) (s : FVec F S32x128 .f32) : Fin loop55.trips → Unit → Prog (TpuEff nD τ sig (Elt F) Λ₀ .tc) Unit :=
  fun k _ => do
    let a : Vec F S32x128 .bf16 ← Prog.lift (.load arg1 (Rect.unit (s := S256x7040) ![r0, col k] S32x128.size (inbRow hr k)).toLoadRect (View.loadsAt_vmem h_S32x128))
    let b : Vec F S32x128 .bf16 ← Prog.lift (.load arg2 (Rect.unit (s := S256x7040) ![r0, col k] S32x128.size (inbRow hr k)).toLoadRect (View.loadsAt_vmem h_S32x128))
    let g : Vec F S1x128 .bf16 ← Prog.lift (.load arg3 (Rect.unit (s := S1x7040) ![0, col k] S1x128.size (inbGamma k)).toLoadRect (View.loadsAt_vmem h_S1x128))
    let _ : Vec F S32x128 .fp8e4m3 ← Prog.lift (.load arg10 (Rect.unit (s := S256x7040) ![r0, col k] S32x128.size (inbRow hr k)).toLoadRect (View.loadsAt_vmem h_S32x128))
    Prog.lift (.store arg10 (Rect.unit (s := S256x7040) ![r0, col k] S32x128.size (inbRow hr k)) (k0_pay25 v0 s a b g) Finset.univ (View.stores_vmem h_S32x128 (harg10.storeExact_slice rfl _ (packRow hr k (by decide))) (fun _ => rfl)) (.inl rfl))
    let _ : Vec F S1x32x128 .fp8e4m3 ← Prog.lift (.load arg12 (Rect.unit (s := S2x256x7040) ![wslot i, r0, col k] S1x32x128.size (inbLhs hr i k)).toLoadRect (View.loadsAt_vmem h_S1x32x128))
    Prog.lift (.store arg12 (Rect.unit (s := S2x256x7040) ![wslot i, r0, col k] S1x32x128.size (inbLhs hr i k)) (k0_pay26 v0 s a b g) Finset.univ (View.stores_vmem h_S1x32x128 (harg12.storeExact_slice rfl _ (packLhs hr i k (by decide))) (fun _ => rfl)) (.inl rfl))
    pure ⟨⟩

/-- The quantisation of the 32 rows from `r0`. -/
def quant (r0 : ℕ) (hr : Grp r0) : Prog (TpuEff nD τ sig (Elt F) Λ₀ .tc) Unit := do
  let s ← Scf.Loop.for loop55 loop55_ok (k0_pay21 (F := F)) (sqBody arg1 arg2 arg9 harg9 r0 hr)
  Scf.Loop.for loop55 loop55_ok ⟨⟩ (codeBody i arg1 arg2 arg3 arg10 harg10 arg12 harg12 v0 r0 hr s)

/-- The product with the 512 weight rows from `n0`. -/
def mult512 (n0 : ℕ) (hw : ∀ a, (![n0, 0] : Fin 2 → ℕ) a + S512x7040.size a ≤ S1920x7040.size a)
    (hs : ∀ a, (![0, n0] : Fin 2 → ℕ) a + S1x512.size a ≤ S1x1920.size a)
    (hy : ∀ a, (![0, n0] : Fin 2 → ℕ) a + S256x512.size a ≤ S256x1920.size a)
    (hp : (Rect.unit (s := S256x1920) ![0, n0] S256x512.size hy).PackedRows (EltTy.packing .bf16)) :
    Prog (TpuEff nD τ sig (Elt F) Λ₀ .tc) Unit := do
  let l : Vec F S1x256x7040 .fp8e4m3 ← Prog.lift (.load arg12 (Rect.unit (s := S2x256x7040) ![rslot i, 0, 0] S1x256x7040.size (inbPrev i)).toLoadRect (View.loadsAt_vmem h_S1x256x7040))
  let w : Vec F S512x7040 .fp8e4m3 ← Prog.lift (.load arg11 (Rect.unit (s := S1920x7040) ![n0, 0] S512x7040.size hw).toLoadRect (View.loadsAt_vmem h_S512x7040))
  let s : Vec F S1x512 .f32 ← Prog.lift (.load arg5 (Rect.unit (s := S1x1920) ![0, n0] S1x512.size hs).toLoadRect (View.loadsAt_vmem h_S1x512))
  let b : Vec F S1x512 .bf16 ← Prog.lift (.load arg7 (Rect.unit (s := S1x1920) ![0, n0] S1x512.size hs).toLoadRect (View.loadsAt_vmem h_S1x512))
  let _ : Vec F S256x512 .bf16 ← Prog.lift (.load arg8 (Rect.unit (s := S256x1920) ![0, n0] S256x512.size hy).toLoadRect (View.loadsAt_vmem h_S256x512))
  Prog.lift (.store arg8 (Rect.unit (s := S256x1920) ![0, n0] S256x512.size hy) (k0_pay64 v0 l w s b) Finset.univ (View.stores_vmem h_S256x512 (harg8.storeExact_slice rfl _ hp) (fun _ => rfl)) (.inl rfl))

/-- The product with the last 384 weight rows. -/
def mult384 : Prog (TpuEff nD τ sig (Elt F) Λ₀ .tc) Unit := do
  let l : Vec F S1x256x7040 .fp8e4m3 ← Prog.lift (.load arg12 (Rect.unit (s := S2x256x7040) ![rslot i, 0, 0] S1x256x7040.size (inbPrev i)).toLoadRect (View.loadsAt_vmem h_S1x256x7040))
  let w : Vec F S384x7040 .fp8e4m3 ← Prog.lift (.load arg11 (Rect.unit (s := S1920x7040) ![1536, 0] S384x7040.size inb_S1920x7040_S384x7040_1536_0).toLoadRect (View.loadsAt_vmem h_S384x7040))
  let s : Vec F S1x384 .f32 ← Prog.lift (.load arg5 (Rect.unit (s := S1x1920) ![0, 1536] S1x384.size inb_S1x1920_S1x384_0_1536).toLoadRect (View.loadsAt_vmem h_S1x384))
  let b : Vec F S1x384 .bf16 ← Prog.lift (.load arg7 (Rect.unit (s := S1x1920) ![0, 1536] S1x384.size inb_S1x1920_S1x384_0_1536).toLoadRect (View.loadsAt_vmem h_S1x384))
  let _ : Vec F S256x384 .bf16 ← Prog.lift (.load arg8 (Rect.unit (s := S256x1920) ![0, 1536] S256x384.size inb_S256x1920_S256x384_0_1536).toLoadRect (View.loadsAt_vmem h_S256x384))
  Prog.lift (.store arg8 (Rect.unit (s := S256x1920) ![0, 1536] S256x384.size inb_S256x1920_S256x384_0_1536) (k0_pay103 v0 l w s b) Finset.univ (View.stores_vmem h_S256x384 (harg8.storeExact_slice rfl _ packedbf16_S256x1920_S256x384_0_1536) (fun _ => rfl)) (.inl rfl))

end Steps

section Forms

variable (i : grid0.Coords) (arg1 : Memref sig .tc .vmem S256x7040 .bf16) (harg1 : arg1.IsWhole) (arg2 : Memref sig .tc .vmem S256x7040 .bf16) (harg2 : arg2.IsWhole) (arg3 : Memref sig .tc .vmem S1x7040 .bf16) (harg3 : arg3.IsWhole) (arg4 : Memref sig .tc .hbm S1920x7040 .fp8e4m3) (harg4 : arg4.IsWhole) (arg5 : Memref sig .tc .vmem S1x1920 .f32) (harg5 : arg5.IsWhole) (arg6 : Memref sig .tc .smem S1x1 .f32) (harg6 : arg6.IsWhole) (arg7 : Memref sig .tc .vmem S1x1920 .bf16) (harg7 : arg7.IsWhole) (arg8 : Memref sig .tc .vmem S256x1920 .bf16) (harg8 : arg8.IsWhole) (arg9 : Memref sig .tc .vmem S256x7040 .bf16) (harg9 : arg9.IsWhole) (arg10 : Memref sig .tc .vmem S256x7040 .fp8e4m3) (harg10 : arg10.IsWhole) (arg11 : Memref sig .tc .vmem S1920x7040 .fp8e4m3) (harg11 : arg11.IsWhole) (arg12 : Memref sig .tc .vmem S2x256x7040 .fp8e4m3) (harg12 : arg12.IsWhole) (arg13 : DmaSems sig S_)

/-- The first point: start the weight's copy, quantise the tile group by group (`q`). -/
def phaseFirst (q : ∀ r0, Grp r0 → Prog (TpuEff nD τ sig (Elt F) Λ₀ .tc) Unit) : Prog (TpuEff nD τ sig (Elt F) Λ₀ .tc) Unit := do
  Prog.lift (.enqueueDma arg4 (.here arg11) (.dma arg13.sem) harg4.wordExact harg11.wordExact ⟨Or.inl rfl, trivial⟩)
  q 0 grp0; q 32 grp1; q 64 grp2; q 96 grp3; q 128 grp4; q 160 grp5; q 192 grp6; q 224 grp7

/-- The four products of a point. -/
abbrev M0 (v0 : Elt F .f32) := mult512 i arg5 arg7 arg8 harg8 arg11 arg12 v0 0 inb_S1920x7040_S512x7040_0_0 inb_S1x1920_S1x512_0_0 inb_S256x1920_S256x512_0_0 packedbf16_S256x1920_S256x512_0_0
abbrev M1 (v0 : Elt F .f32) := mult512 i arg5 arg7 arg8 harg8 arg11 arg12 v0 512 inb_S1920x7040_S512x7040_512_0 inb_S1x1920_S1x512_0_512 inb_S256x1920_S256x512_0_512 packedbf16_S256x1920_S256x512_0_512
abbrev M2 (v0 : Elt F .f32) := mult512 i arg5 arg7 arg8 harg8 arg11 arg12 v0 1024 inb_S1920x7040_S512x7040_1024_0 inb_S1x1920_S1x512_0_1024 inb_S256x1920_S256x512_0_1024 packedbf16_S256x1920_S256x512_0_1024
abbrev M3 (v0 : Elt F .f32) := mult384 i arg5 arg7 arg8 harg8 arg11 arg12 v0

/-- A point in the middle: the four products, two groups of rows quantised after each. -/
def phaseMiddle (q : ∀ r0, Grp r0 → Prog (TpuEff nD τ sig (Elt F) Λ₀ .tc) Unit) (v0 : Elt F .f32) : Prog (TpuEff nD τ sig (Elt F) Λ₀ .tc) Unit := do
  M0 i arg5 arg7 arg8 harg8 arg11 arg12 v0
  q 0 grp0; q 32 grp1
  M1 i arg5 arg7 arg8 harg8 arg11 arg12 v0
  q 64 grp2; q 96 grp3
  M2 i arg5 arg7 arg8 harg8 arg11 arg12 v0
  q 128 grp4; q 160 grp5
  M3 i arg5 arg7 arg8 harg8 arg11 arg12 v0
  q 192 grp6; q 224 grp7

/-- The last point: the four products. -/
def phaseLast (v0 : Elt F .f32) : Prog (TpuEff nD τ sig (Elt F) Λ₀ .tc) Unit := do
  M0 i arg5 arg7 arg8 harg8 arg11 arg12 v0
  M1 i arg5 arg7 arg8 harg8 arg11 arg12 v0
  M2 i arg5 arg7 arg8 harg8 arg11 arg12 v0
  M3 i arg5 arg7 arg8 harg8 arg11 arg12 v0

/-- Whether the body waits for the weight's copy, as the kernel computes it. -/
def cond2 : BitVec 1 := Scalar.cmpi .ne (Scalar.extui (Scalar.cmpi .eq (BitVec.ofNat 32 (i 0).val) 1#32) : BitVec 32) 0#32

/-- The body. -/
def body : Prog (TpuEff nD τ sig (Elt F) Λ₀ .tc) Unit := do
  let v0 : Elt F .f32 ← smemLoad arg6 (Rect.unit (s := S1x1) ![0, 0] S1x1.size inb_S1x1_S1x1_0_0) numel1_S1x1 rfl
  if k0_cond1 i = 1#1 then
    phaseFirst arg4 harg4 arg11 harg11 arg13 (quant i arg1 arg2 arg3 arg9 harg9 arg10 harg10 arg12 harg12 v0)
  else pure ⟨⟩
  if cond2 i = 1#1 then
    Prog.lift (.waitDma2 arg13.sem arg4 arg11 harg4.wordExact harg11.wordExact)
  else pure ⟨⟩
  if k0_cond3 i = 1#1 then
    phaseMiddle i arg5 arg7 arg8 harg8 arg11 arg12 (quant i arg1 arg2 arg3 arg9 harg9 arg10 harg10 arg12 harg12 v0) v0
  else pure ⟨⟩
  if k0_cond4 i = 1#1 then phaseLast i arg5 arg7 arg8 harg8 arg11 arg12 v0
  else pure ⟨⟩

set_option maxHeartbeats 4000000 in
/-- The printed body is this sequence. -/
theorem body_eq : cc0_add_rmsnorm_fp8_linear (F := F) i arg1 harg1 arg2 harg2 arg3 harg3 arg4 harg4 arg5 harg5 arg6 harg6 arg7 harg7 arg8 harg8 arg9 harg9 arg10 harg10 arg11 harg11 arg12 harg12 arg13
    = body i arg1 arg2 arg3 arg4 harg4 arg5 arg6 arg7 arg8 harg8 arg9 harg9 arg10 harg10 arg11 harg11 arg12 harg12 arg13 := by
  rw [cc0_add_rmsnorm_fp8_linear_eq_skeleton]
  unfold cc0_add_rmsnorm_fp8_linear_skel body phaseFirst phaseMiddle phaseLast M0 M1 M2 M3 mult512 mult384 quant
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton,
    k0_part1_skel, k0_part2_skel, k0_part3_skel, k0_part4_skel, k0_part5_skel, k0_part6_skel, k0_part7_skel, k0_part8_skel, k0_part9_skel, k0_part10_skel, bind_assoc, pure_bind]
  rfl

end Forms

end Cert.KernelIdeal.Hand

end
-- ==== Proof.KernelIdealStep.lean ====
/-
  What one repeated step of the kernel's body does: the quantisation of 32 rows and the product with one block of the
  weight's rows, each stated once for every group of rows and every block.

  A memref is held at the representative of the function it reads (`At`). The values are written as functions of an
  index: `hV` the sum, `cV` the codes, both of the whole tile; `mix P V H` is `V` where `P` holds and `H` elsewhere, so
  that a buffer part of which is written is `mix` of its final and its first contents.
-/
module

public import proofs.«01_k».proof.Proof.KernelIdealForm
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.VecWindow
public import Idealize.ShloMosaic.Lib.ValueLayout

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ (Pipeline.UD sig nD τ) ℕ

/-! ## The values -/

/-- The block of 32 rows from `r0` and 128 columns from `128 k`. -/
def rowBlk {α : Type} (X : S256x7040.Idx → α) (r0 k : ℕ) : S32x128.Idx → α :=
  fun y => X (ix2 ⟨(r0 + (y 0).val) % 256, Nat.mod_lt _ (by decide)⟩ ⟨(128 * k + (y 1).val) % 7040, Nat.mod_lt _ (by decide)⟩)

/-- The block of 128 columns from `128 k` of a row. -/
def rowOne {α : Type} (G : S1x7040.Idx → α) (k : ℕ) : S1x128.Idx → α :=
  fun y => G (ix2 ⟨0, by decide⟩ ⟨(128 * k + (y 1).val) % 7040, Nat.mod_lt _ (by decide)⟩)

/-- Slot `s` of the codes scratch. -/
def slotOf {α : Type} (L : S2x256x7040.Idx → α) (s : ℕ) : S1x256x7040.Idx → α :=
  fun y => L (ix3 ⟨s % 2, Nat.mod_lt _ (by decide)⟩ (y 1) (y 2))

/-- `V` where `P` holds and `H` elsewhere. -/
def mix {ι α : Type} (P : ι → Prop) [DecidablePred P] (V H : ι → α) : ι → α := fun y => if P y then V y else H y

/-- The rows below `r0`, and the first `k` column blocks of the 32 rows from `r0`. -/
abbrev done (r0 k : ℕ) : S256x7040.Idx → Prop := fun y => (y 0).val < r0 ∨ ((y 0).val < r0 + 32 ∧ (y 1).val < 128 * k)
/-- The same in slot `s` of the codes scratch. -/
abbrev doneIn (s r0 k : ℕ) : S2x256x7040.Idx → Prop :=
  fun y => (y 0).val = s ∧ ((y 1).val < r0 ∨ ((y 1).val < r0 + 32 ∧ (y 2).val < 128 * k))

/-- The sum of the two operands, in bf16. -/
def hV (X R : S256x7040.Idx → Elt F .bf16) : S256x7040.Idx → Elt F .bf16 :=
  fun y => k0_pay23 (F := F) (rowBlk X (32 * ((y 0).val / 32)) ((y 1).val / 128)) (rowBlk R (32 * ((y 0).val / 32)) ((y 1).val / 128))
    (ix2 ⟨(y 0).val % 32, Nat.mod_lt _ (by decide)⟩ ⟨(y 1).val % 128, Nat.mod_lt _ (by decide)⟩)

/-- The running sums of the squares of 32 rows after `k` column blocks. -/
def sqAcc (X R : S256x7040.Idx → Elt F .bf16) (r0 : ℕ) : ℕ → FVec F S32x128 .f32
  | 0 => k0_pay21 (F := F)
  | k + 1 => k0_pay24 (F := F) (sqAcc X R r0 k) (rowBlk X r0 k) (rowBlk R r0 k)

/-- The codes. -/
def cV (X R : S256x7040.Idx → Elt F .bf16) (G : S1x7040.Idx → Elt F .bf16) (v0 : Elt F .f32) : S256x7040.Idx → Elt F .fp8e4m3 :=
  fun y => k0_pay25 (F := F) v0 (sqAcc X R (32 * ((y 0).val / 32)) 55)
    (rowBlk X (32 * ((y 0).val / 32)) ((y 1).val / 128)) (rowBlk R (32 * ((y 0).val / 32)) ((y 1).val / 128)) (rowOne G ((y 1).val / 128))
    (ix2 ⟨(y 0).val % 32, Nat.mod_lt _ (by decide)⟩ ⟨(y 1).val % 128, Nat.mod_lt _ (by decide)⟩)

/-- The codes as contents of either slot of the scratch. -/
def cL (X R : S256x7040.Idx → Elt F .bf16) (G : S1x7040.Idx → Elt F .bf16) (v0 : Elt F .f32) : S2x256x7040.Idx → Elt F .fp8e4m3 :=
  fun y => cV X R G v0 (ix2 (y 1) (y 2))

theorem window_row {α : Type} (X : S256x7040.Idx → α) {r0 k : ℕ} (hr : r0 + 32 ≤ 256) (hk : k < 55)
    (inb : ∀ a, (![r0, 128 * k] : Fin 2 → ℕ) a + S32x128.size a ≤ S256x7040.size a) :
    VecWindow.window X ![r0, 128 * k] S32x128.size inb = rowBlk X r0 k := by
  funext y
  refine congrArg X (funext fun a => Fin.ext ?_)
  have h0 : (y 0).val < 32 := (y 0).isLt
  have h1 : (y 1).val < 128 := (y 1).isLt
  match a with
  | ⟨0, _⟩ => show r0 + 1 * (y 0).val = (r0 + (y 0).val) % 256; omega
  | ⟨1, _⟩ => show 128 * k + 1 * (y 1).val = (128 * k + (y 1).val) % 7040; omega

theorem window_one {α : Type} (G : S1x7040.Idx → α) {k : ℕ} (hk : k < 55)
    (inb : ∀ a, (![0, 128 * k] : Fin 2 → ℕ) a + S1x128.size a ≤ S1x7040.size a) :
    VecWindow.window G ![0, 128 * k] S1x128.size inb = rowOne G k := by
  funext y
  refine congrArg G (funext fun a => Fin.ext ?_)
  have h0 : (y 0).val < 1 := (y 0).isLt
  have h1 : (y 1).val < 128 := (y 1).isLt
  match a with
  | ⟨0, _⟩ => show 0 + 1 * (y 0).val = 0; omega
  | ⟨1, _⟩ => show 128 * k + 1 * (y 1).val = (128 * k + (y 1).val) % 7040; omega

theorem window_slot {α : Type} (L : S2x256x7040.Idx → α) {s : ℕ} (hs : s < 2)
    (inb : ∀ a, (![s, 0, 0] : Fin 3 → ℕ) a + S1x256x7040.size a ≤ S2x256x7040.size a) :
    VecWindow.window L ![s, 0, 0] S1x256x7040.size inb = slotOf L s := by
  funext y
  refine congrArg L (funext fun a => Fin.ext ?_)
  have h0 : (y 0).val < 1 := (y 0).isLt
  match a with
  | ⟨0, _⟩ => show s + 1 * (y 0).val = s % 2; omega
  | ⟨1, _⟩ => show 0 + 1 * (y 1).val = (y 1).val; omega
  | ⟨2, _⟩ => show 0 + 1 * (y 2).val = (y 2).val; omega

/-- Putting a column block of the final contents extends the part written. -/
theorem put_mix {α : Type} (V H : S256x7040.Idx → α) {r0 k : ℕ} (hr : r0 + 32 ≤ 256) (hk : k < 55) (w : S32x128.Idx → α)
    (hw : w = rowBlk V r0 k) :
    VecWindow.put (mix (done r0 k) V H) ![r0, 128 * k] S32x128.size w = mix (done r0 (k + 1)) V H := by
  subst hw
  funext y
  have h0 : (y 0).val < 256 := (y 0).isLt
  have h1 : (y 1).val < 7040 := (y 1).isLt
  unfold VecWindow.put
  split
  · rename_i h
    have ha : r0 ≤ (y 0).val ∧ (y 0).val < r0 + 32 := h 0
    have hb : 128 * k ≤ (y 1).val ∧ (y 1).val < 128 * k + 128 := h 1
    have hd : done r0 (k + 1) y := Or.inr ⟨by omega, by omega⟩
    rw [mix, if_pos hd]
    refine congrArg V (funext fun a => Fin.ext ?_)
    match a with
    | ⟨0, _⟩ => show (r0 + ((y 0).val - r0)) % 256 = (y 0).val; omega
    | ⟨1, _⟩ => show (128 * k + ((y 1).val - 128 * k)) % 7040 = (y 1).val; omega
  · rename_i h
    have hiff : done r0 k y ↔ done r0 (k + 1) y := by
      have hn : ¬ ((r0 ≤ (y 0).val ∧ (y 0).val < r0 + 32) ∧ (128 * k ≤ (y 1).val ∧ (y 1).val < 128 * k + 128)) :=
        fun hc => h (Fin.forall_fin_two.mpr ⟨hc.1, hc.2⟩)
      show (_ ∨ _) ↔ (_ ∨ _); omega
    unfold mix; simp only [hiff]

/-- The same in one slot of the scratch. -/
theorem put_mixIn {α : Type} (V : S256x7040.Idx → α) (L : S2x256x7040.Idx → α) {s r0 k : ℕ} (hs : s < 2) (hr : r0 + 32 ≤ 256) (hk : k < 55)
    (w : S1x32x128.Idx → α) (hw : ∀ z : S1x32x128.Idx, w z = rowBlk V r0 k (ix2 (z 1) (z 2))) :
    VecWindow.put (mix (doneIn s r0 k) (fun y => V (ix2 (y 1) (y 2))) L) ![s, r0, 128 * k] S1x32x128.size w
      = mix (doneIn s r0 (k + 1)) (fun y => V (ix2 (y 1) (y 2))) L := by
  funext y
  have h0 : (y 1).val < 256 := (y 1).isLt
  have h1 : (y 2).val < 7040 := (y 2).isLt
  unfold VecWindow.put
  split
  · rename_i h
    have hc : s ≤ (y 0).val ∧ (y 0).val < s + 1 := h 0
    have ha : r0 ≤ (y 1).val ∧ (y 1).val < r0 + 32 := h 1
    have hb : 128 * k ≤ (y 2).val ∧ (y 2).val < 128 * k + 128 := h 2
    have hd : doneIn s r0 (k + 1) y := ⟨by omega, Or.inr ⟨by omega, by omega⟩⟩
    rw [mix, if_pos hd]
    refine (hw _).trans (congrArg V (funext fun a => Fin.ext ?_))
    match a with
    | ⟨0, _⟩ => show (r0 + ((y 1).val - r0)) % 256 = (y 1).val; omega
    | ⟨1, _⟩ => show (128 * k + ((y 2).val - 128 * k)) % 7040 = (y 2).val; omega
  · rename_i h
    have hiff : doneIn s r0 k y ↔ doneIn s r0 (k + 1) y := by
      have hn : ¬ ((s ≤ (y 0).val ∧ (y 0).val < s + 1) ∧ (r0 ≤ (y 1).val ∧ (y 1).val < r0 + 32) ∧ (128 * k ≤ (y 2).val ∧ (y 2).val < 128 * k + 128)) :=
        fun hc => h fun a => match a with
          | ⟨0, _⟩ => hc.1
          | ⟨1, _⟩ => hc.2.1
          | ⟨2, _⟩ => hc.2.2
      show (_ ∧ (_ ∨ _)) ↔ (_ ∧ (_ ∨ _)); omega
    unfold mix; simp only [hiff]

/-- A block of the sum is the printed sum of the blocks. -/
theorem hV_blk (X R : S256x7040.Idx → Elt F .bf16) {r0 k : ℕ} (hr : Grp r0) (hk : k < 55) :
    k0_pay23 (F := F) (rowBlk X r0 k) (rowBlk R r0 k) = rowBlk (hV X R) r0 k := by
  funext y
  have h0 : (y 0).val < 32 := (y 0).isLt
  have h1 : (y 1).val < 128 := (y 1).isLt
  obtain ⟨hr1, hr2⟩ := hr
  have e1 : 32 * ((r0 + (y 0).val) % 256 / 32) = r0 := by omega
  have e2 : (128 * k + (y 1).val) % 7040 / 128 = k := by omega
  have e3 : (r0 + (y 0).val) % 256 % 32 = (y 0).val := by omega
  have e4 : (128 * k + (y 1).val) % 7040 % 128 = (y 1).val := by omega
  show _ = k0_pay23 (F := F) (rowBlk X (32 * ((r0 + (y 0).val) % 256 / 32)) ((128 * k + (y 1).val) % 7040 / 128)) (rowBlk R (32 * ((r0 + (y 0).val) % 256 / 32)) ((128 * k + (y 1).val) % 7040 / 128)) _
  rw [e1, e2]
  refine congrArg _ (funext fun a => Fin.ext ?_)
  match a with
  | ⟨0, _⟩ => exact e3.symm
  | ⟨1, _⟩ => exact e4.symm

/-- A block of the codes is the printed code of the blocks. -/
theorem cV_blk (X R : S256x7040.Idx → Elt F .bf16) (G : S1x7040.Idx → Elt F .bf16) (v0 : Elt F .f32) {r0 k : ℕ} (hr : Grp r0) (hk : k < 55) :
    k0_pay25 (F := F) v0 (sqAcc X R r0 55) (rowBlk X r0 k) (rowBlk R r0 k) (rowOne G k) = rowBlk (cV X R G v0) r0 k := by
  funext y
  have h0 : (y 0).val < 32 := (y 0).isLt
  have h1 : (y 1).val < 128 := (y 1).isLt
  obtain ⟨hr1, hr2⟩ := hr
  have e1 : 32 * ((r0 + (y 0).val) % 256 / 32) = r0 := by omega
  have e2 : (128 * k + (y 1).val) % 7040 / 128 = k := by omega
  have e3 : (r0 + (y 0).val) % 256 % 32 = (y 0).val := by omega
  have e4 : (128 * k + (y 1).val) % 7040 % 128 = (y 1).val := by omega
  show _ = k0_pay25 (F := F) v0 (sqAcc X R (32 * ((r0 + (y 0).val) % 256 / 32)) 55) (rowBlk X (32 * ((r0 + (y 0).val) % 256 / 32)) ((128 * k + (y 1).val) % 7040 / 128)) (rowBlk R (32 * ((r0 + (y 0).val) % 256 / 32)) ((128 * k + (y 1).val) % 7040 / 128)) (rowOne G ((128 * k + (y 1).val) % 7040 / 128)) _
  rw [e1, e2]
  refine congrArg _ (funext fun a => Fin.ext ?_)
  match a with
  | ⟨0, _⟩ => exact e3.symm
  | ⟨1, _⟩ => exact e4.symm

/-- The codes stored in the scratch are those stored in the window, under a leading axis of size one. -/
theorem pay26_eq (v0 : Elt F .f32) (s : FVec F S32x128 .f32) (a b : Vec F S32x128 .bf16) (g : Vec F S1x128 .bf16) (z : S1x32x128.Idx) :
    k0_pay26 (F := F) v0 s a b g z = k0_pay25 (F := F) v0 s a b g (ix2 (z 1) (z 2)) := by
  have hz : z = ix3 (0 : Fin 1) (z 1) (z 2) := by
    refine (eq_ix3 z).trans ?_
    have h0 : z 0 = (0 : Fin 1) := Fin.ext (by have : (z 0).val < 1 := (z 0).isLt; show (z 0).val = 0; omega)
    exact congrArg (fun q => ix3 q (z 1) (z 2)) h0
  rw [hz]
  exact shapeCast_ab_1ab_apply (k0_pay25 (F := F) v0 s a b g) shapeCasts_S32x128_S1x32x128 0 (z 1) (z 2)

/-- The block of 512 columns from `n0` of a row; its index is a column of that block. -/
def rowPart {α : Type} (v : S1x1920.Idx → α) (n0 : ℕ) : S1x512.Idx → α :=
  fun y => v (ix2 ⟨0, by decide⟩ ⟨(n0 + (y 1).val) % 1920, Nat.mod_lt _ (by decide)⟩)
/-- The last 384 columns of a row. -/
def rowLast {α : Type} (v : S1x1920.Idx → α) : S1x384.Idx → α :=
  fun y => v (ix2 ⟨0, by decide⟩ ⟨(1536 + (y 1).val) % 1920, Nat.mod_lt _ (by decide)⟩)
/-- The 512 rows of the weight from `n0`. -/
def wPart {α : Type} (W : S1920x7040.Idx → α) (n0 : ℕ) : S512x7040.Idx → α :=
  fun y => W (ix2 ⟨(n0 + (y 0).val) % 1920, Nat.mod_lt _ (by decide)⟩ (y 1))
/-- The last 384 rows of the weight. -/
def wLast {α : Type} (W : S1920x7040.Idx → α) : S384x7040.Idx → α :=
  fun y => W (ix2 ⟨(1536 + (y 0).val) % 1920, Nat.mod_lt _ (by decide)⟩ (y 1))

/-- The result of the product: by blocks of 512 columns below column 1536, one block of 384 from there. -/
def yV (T : S1x256x7040.Idx → Elt F .fp8e4m3) (W : S1920x7040.Idx → Elt F .fp8e4m3) (S : S1x1920.Idx → Elt F .f32) (B : S1x1920.Idx → Elt F .bf16)
    (v0 : Elt F .f32) : S256x1920.Idx → Elt F .bf16 :=
  fun y => if (y 1).val < 1536 then
      k0_pay64 (F := F) v0 T (wPart W (512 * ((y 1).val / 512))) (rowPart S (512 * ((y 1).val / 512))) (rowPart B (512 * ((y 1).val / 512)))
        (ix2 (y 0) ⟨(y 1).val % 512, Nat.mod_lt _ (by decide)⟩)
    else k0_pay103 (F := F) v0 T (wLast W) (rowLast S) (rowLast B) (ix2 (y 0) ⟨((y 1).val - 1536) % 384, Nat.mod_lt _ (by decide)⟩)

theorem window_part {α : Type} (v : S1x1920.Idx → α) {n0 : ℕ} (hn : n0 + 512 ≤ 1920)
    (inb : ∀ a, (![0, n0] : Fin 2 → ℕ) a + S1x512.size a ≤ S1x1920.size a) : VecWindow.window v ![0, n0] S1x512.size inb = rowPart v n0 := by
  funext y
  refine congrArg v (funext fun a => Fin.ext ?_)
  have h0 : (y 0).val < 1 := (y 0).isLt
  have h1 : (y 1).val < 512 := (y 1).isLt
  match a with
  | ⟨0, _⟩ => show 0 + 1 * (y 0).val = 0; omega
  | ⟨1, _⟩ => show n0 + 1 * (y 1).val = (n0 + (y 1).val) % 1920; omega
theorem window_last {α : Type} (v : S1x1920.Idx → α)
    (inb : ∀ a, (![0, 1536] : Fin 2 → ℕ) a + S1x384.size a ≤ S1x1920.size a) : VecWindow.window v ![0, 1536] S1x384.size inb = rowLast v := by
  funext y
  refine congrArg v (funext fun a => Fin.ext ?_)
  have h0 : (y 0).val < 1 := (y 0).isLt
  have h1 : (y 1).val < 384 := (y 1).isLt
  match a with
  | ⟨0, _⟩ => show 0 + 1 * (y 0).val = 0; omega
  | ⟨1, _⟩ => show 1536 + 1 * (y 1).val = (1536 + (y 1).val) % 1920; omega
theorem window_wPart {α : Type} (W : S1920x7040.Idx → α) {n0 : ℕ} (hn : n0 + 512 ≤ 1920)
    (inb : ∀ a, (![n0, 0] : Fin 2 → ℕ) a + S512x7040.size a ≤ S1920x7040.size a) : VecWindow.window W ![n0, 0] S512x7040.size inb = wPart W n0 := by
  funext y
  refine congrArg W (funext fun a => Fin.ext ?_)
  have h0 : (y 0).val < 512 := (y 0).isLt
  match a with
  | ⟨0, _⟩ => show n0 + 1 * (y 0).val = (n0 + (y 0).val) % 1920; omega
  | ⟨1, _⟩ => show 0 + 1 * (y 1).val = (y 1).val; omega
theorem window_wLast {α : Type} (W : S1920x7040.Idx → α)
    (inb : ∀ a, (![1536, 0] : Fin 2 → ℕ) a + S384x7040.size a ≤ S1920x7040.size a) : VecWindow.window W ![1536, 0] S384x7040.size inb = wLast W := by
  funext y
  refine congrArg W (funext fun a => Fin.ext ?_)
  have h0 : (y 0).val < 384 := (y 0).isLt
  match a with
  | ⟨0, _⟩ => show 1536 + 1 * (y 0).val = (1536 + (y 0).val) % 1920; omega
  | ⟨1, _⟩ => show 0 + 1 * (y 1).val = (y 1).val; omega

/-- The first `n` columns of the product's result. -/
abbrev yDone (n : ℕ) : S256x1920.Idx → Prop := fun y => (y 1).val < n

/-- Putting a block of 512 columns of the result extends the part written. -/
theorem put_y512 (T : S1x256x7040.Idx → Elt F .fp8e4m3) (W : S1920x7040.Idx → Elt F .fp8e4m3) (S : S1x1920.Idx → Elt F .f32) (B : S1x1920.Idx → Elt F .bf16)
    (v0 : Elt F .f32) (Y : S256x1920.Idx → Elt F .bf16) {n0 : ℕ} (h5 : n0 % 512 = 0) (hn : n0 + 512 ≤ 1536) :
    VecWindow.put (mix (yDone n0) (yV T W S B v0) Y) ![0, n0] S256x512.size (k0_pay64 (F := F) v0 T (wPart W n0) (rowPart S n0) (rowPart B n0))
      = mix (yDone (n0 + 512)) (yV T W S B v0) Y := by
  funext y
  have h0 : (y 0).val < 256 := (y 0).isLt
  have h1 : (y 1).val < 1920 := (y 1).isLt
  unfold VecWindow.put
  split
  · rename_i h
    have hb : n0 ≤ (y 1).val ∧ (y 1).val < n0 + 512 := h 1
    have hd : yDone (n0 + 512) y := hb.2
    rw [mix, if_pos hd, yV, if_pos (show (y 1).val < 1536 by omega), show 512 * ((y 1).val / 512) = n0 by omega]
    refine congrArg _ (funext fun a => Fin.ext ?_)
    match a with
    | ⟨0, _⟩ => show (y 0).val - 0 = (y 0).val; omega
    | ⟨1, _⟩ => show (y 1).val - n0 = (y 1).val % 512; omega
  · rename_i h
    have hiff : yDone n0 y ↔ yDone (n0 + 512) y := by
      have hn : ¬ ((0 ≤ (y 0).val ∧ (y 0).val < 0 + 256) ∧ (n0 ≤ (y 1).val ∧ (y 1).val < n0 + 512)) :=
        fun hc => h (Fin.forall_fin_two.mpr ⟨hc.1, hc.2⟩)
      show _ < _ ↔ _ < _; omega
    unfold mix; simp only [hiff]

/-- Putting the last block completes the result. -/
theorem put_y384 (T : S1x256x7040.Idx → Elt F .fp8e4m3) (W : S1920x7040.Idx → Elt F .fp8e4m3) (S : S1x1920.Idx → Elt F .f32) (B : S1x1920.Idx → Elt F .bf16)
    (v0 : Elt F .f32) (Y : S256x1920.Idx → Elt F .bf16) :
    VecWindow.put (mix (yDone 1536) (yV T W S B v0) Y) ![0, 1536] S256x384.size (k0_pay103 (F := F) v0 T (wLast W) (rowLast S) (rowLast B))
      = yV T W S B v0 := by
  funext y
  have h0 : (y 0).val < 256 := (y 0).isLt
  have h1 : (y 1).val < 1920 := (y 1).isLt
  unfold VecWindow.put
  split
  · rename_i h
    have hb : 1536 ≤ (y 1).val ∧ (y 1).val < 1536 + 384 := h 1
    rw [yV, if_neg (show ¬ (y 1).val < 1536 by omega)]
    refine congrArg _ (funext fun a => Fin.ext ?_)
    match a with
    | ⟨0, _⟩ => show (y 0).val - 0 = (y 0).val; omega
    | ⟨1, _⟩ => show (y 1).val - 1536 = ((y 1).val - 1536) % 384; omega
  · rename_i h
    have hd : yDone 1536 y := by
      have hn : ¬ ((0 ≤ (y 0).val ∧ (y 0).val < 0 + 256) ∧ (1536 ≤ (y 1).val ∧ (y 1).val < 1536 + 384)) :=
        fun hc => h (Fin.forall_fin_two.mpr ⟨hc.1, hc.2⟩)
      show _ < _; omega
    rw [mix, if_pos hd]

/-! ## The steps -/

section Steps

/-- A memref held, whole, at the representative of the function it reads. -/
abbrev At (c : Dev nD) {sp : Space} {s : Shape} {e : EltTy} (m : Memref sig .tc sp s e) (x : s.Idx → Elt F e) : sProp 𝕄 :=
  m.view.loc (c : Thread nD τ) ↦[m.view.set]{fullShare} m.view.rep x

variable (𝒱 : Variants) (c : Dev nD) (bd : Option 𝒱.V)
variable (i : grid0.Coords)
  (arg1 : Memref sig .tc .vmem S256x7040 .bf16) (arg2 : Memref sig .tc .vmem S256x7040 .bf16) (arg3 : Memref sig .tc .vmem S1x7040 .bf16)
  (arg5 : Memref sig .tc .vmem S1x1920 .f32) (arg7 : Memref sig .tc .vmem S1x1920 .bf16)
  (arg8 : Memref sig .tc .vmem S256x1920 .bf16) (harg8 : arg8.IsWhole)
  (arg9 : Memref sig .tc .vmem S256x7040 .bf16) (harg9 : arg9.IsWhole)
  (arg10 : Memref sig .tc .vmem S256x7040 .fp8e4m3) (harg10 : arg10.IsWhole)
  (arg11 : Memref sig .tc .vmem S1920x7040 .fp8e4m3)
  (arg12 : Memref sig .tc .vmem S2x256x7040 .fp8e4m3) (harg12 : arg12.IsWhole) (v0 : Elt F .f32)
variable (X R H : S256x7040.Idx → Elt F .bf16) (G : S1x7040.Idx → Elt F .bf16) (C : S256x7040.Idx → Elt F .fp8e4m3) (L : S2x256x7040.Idx → Elt F .fp8e4m3)

/-- One column block of the first loop. -/
theorem sq_trip {r0 : ℕ} (hr : Grp r0) (k : Fin loop55.trips) (acc : FVec F S32x128 .f32) :
    iprop(At c arg1 X ∗ At c arg2 R ∗ At c arg9 (mix (done r0 k.val) (hV X R) H))
      ⊢ wp frame (wpE (defs₀ (F := F)) 𝒱 (c : Thread nD τ) bd) Set.univ (sqBody arg1 arg2 arg9 harg9 r0 hr k acc)
          (fun acc' => iprop(⌜acc' = k0_pay24 (F := F) acc (rowBlk X r0 k.val) (rowBlk R r0 k.val)⌝ ∗ At c arg1 X ∗ At c arg2 R ∗ At c arg9 (mix (done r0 (k.val + 1)) (hV X R) H))) := by
  have hk : k.val < 55 := lt_of_lt_of_eq k.isLt loop55_trips
  have e1 : (![r0, col k] : Fin 2 → ℕ) = ![r0, 128 * k.val] := by rw [col_eq]
  have e2 : ∀ a, (![r0, 128 * k.val] : Fin 2 → ℕ) a + S32x128.size a ≤ S256x7040.size a := e1 ▸ inbRow hr k
  unfold sqBody
  iintro ⟨H1, H2, H9⟩
  sl_exec
  sl_step
  rw [View.readAt_rep_unit arg1.view X (inbRow hr k) e1 e2, View.readAt_rep_unit arg2.view R (inbRow hr k) e1 e2, window_row X hr.2 hk, window_row R hr.2 hk]
  isplitr
  · ipureintro; rfl
  isplitl [H1]; · iexact H1
  isplitl [H2]; · iexact H2
  iapply (pointsTo_rep_of_read (c : Thread nD τ) arg9 _ fullShare (mix (done r0 (k.val + 1)) (hV X R) H)
    ((View.read_writes_rep_unit arg9.view _ (inbRow hr k) _ e1).trans (put_mix (hV X R) H hr.2 hk _ (hV_blk X R hr hk))))
  iexact H9

/-- The first loop over a group: it stores the group's sums and returns the running sums of the squares. -/
theorem sq_loop {r0 : ℕ} (hr : Grp r0) :
    iprop(At c arg1 X ∗ At c arg2 R ∗ At c arg9 (mix (done r0 0) (hV X R) H))
      ⊢ wp frame (wpE (defs₀ (F := F)) 𝒱 (c : Thread nD τ) bd) Set.univ (Scf.Loop.for loop55 loop55_ok (k0_pay21 (F := F)) (sqBody arg1 arg2 arg9 harg9 r0 hr))
          (fun s => iprop(⌜s = sqAcc X R r0 55⌝ ∗ At c arg1 X ∗ At c arg2 R ∗ At c arg9 (mix (done r0 55) (hV X R) H))) := by
  iintro ⟨H1, H2, H9⟩
  iapply (Scf.wp_for frame (wpE (defs₀ (F := F)) 𝒱 (c : Thread nD τ) bd) Set.univ _ _ _ loop55_ok (k0_pay21 (F := F)) (sqBody arg1 arg2 arg9 harg9 r0 hr)
    (fun k s => iprop(⌜s = sqAcc X R r0 k⌝ ∗ At c arg1 X ∗ At c arg2 R ∗ At c arg9 (mix (done r0 k) (hV X R) H))) ?step)
  case step =>
    intro k acc
    iintro ⟨%hs, H1, H2, H9⟩
    iapply (wp_wand_r Idealize.ShloMosaic.frame (wpE (defs₀ (F := F)) 𝒱 (c : Thread nD τ) bd) Set.univ)
    isplitl [H1 H2 H9]
    · iapply (sq_trip 𝒱 c bd arg1 arg2 arg9 harg9 X R H hr k acc)
      isplitl [H1]; · iexact H1
      isplitl [H2]; · iexact H2
      iexact H9
    · iintro %a ⟨%ha, H1, H2, H9⟩
      isplitr
      · ipureintro; rw [ha, hs]; rfl
      isplitl [H1]; · iexact H1
      isplitl [H2]; · iexact H2
      iexact H9
  isplitl [H1 H2 H9]
  · isplitr
    · ipureintro; rfl
    isplitl [H1]; · iexact H1
    isplitl [H2]; · iexact H2
    iexact H9
  · iintro %acc H
    rw [show Scf.trips 0#32 (Scalar.addi 0#32 55#32) 1#32 = 55 from loop55_trips]
    iexact H

/-- One column block of the second loop. -/
theorem code_trip {r0 : ℕ} (hr : Grp r0) (k : Fin loop55.trips) (u : Unit) :
    iprop(At c arg1 X ∗ At c arg2 R ∗ At c arg3 G ∗ At c arg10 (mix (done r0 k.val) (cV X R G v0) C) ∗ At c arg12 (mix (doneIn (wslot i) r0 k.val) (cL X R G v0) L))
      ⊢ wp frame (wpE (defs₀ (F := F)) 𝒱 (c : Thread nD τ) bd) Set.univ (codeBody i arg1 arg2 arg3 arg10 harg10 arg12 harg12 v0 r0 hr (sqAcc X R r0 55) k u)
          (fun _ => iprop(At c arg1 X ∗ At c arg2 R ∗ At c arg3 G ∗ At c arg10 (mix (done r0 (k.val + 1)) (cV X R G v0) C) ∗ At c arg12 (mix (doneIn (wslot i) r0 (k.val + 1)) (cL X R G v0) L))) := by
  have hk : k.val < 55 := lt_of_lt_of_eq k.isLt loop55_trips
  have hw : wslot i < 2 := by rw [wslot_eq]; omega
  have e1 : (![r0, col k] : Fin 2 → ℕ) = ![r0, 128 * k.val] := by rw [col_eq]
  have e2 : ∀ a, (![r0, 128 * k.val] : Fin 2 → ℕ) a + S32x128.size a ≤ S256x7040.size a := e1 ▸ inbRow hr k
  have e3 : (![0, col k] : Fin 2 → ℕ) = ![0, 128 * k.val] := by rw [col_eq]
  have e4 : ∀ a, (![0, 128 * k.val] : Fin 2 → ℕ) a + S1x128.size a ≤ S1x7040.size a := e3 ▸ inbGamma k
  have e5 : (![wslot i, r0, col k] : Fin 3 → ℕ) = ![wslot i, r0, 128 * k.val] := by rw [col_eq]
  unfold codeBody
  iintro ⟨H1, H2, H3, H10, H12⟩
  sl_exec
  sl_step
  rw [View.readAt_rep_unit arg1.view X (inbRow hr k) e1 e2, View.readAt_rep_unit arg2.view R (inbRow hr k) e1 e2, View.readAt_rep_unit arg3.view G (inbGamma k) e3 e4,
    window_row X hr.2 hk, window_row R hr.2 hk, window_one G hk]
  isplitl [H1]; · iexact H1
  isplitl [H2]; · iexact H2
  isplitl [H3]; · iexact H3
  isplitl [H10]
  · iapply (pointsTo_rep_of_read (c : Thread nD τ) arg10 _ fullShare (mix (done r0 (k.val + 1)) (cV X R G v0) C)
      ((View.read_writes_rep_unit arg10.view _ (inbRow hr k) _ e1).trans (put_mix (cV X R G v0) C hr.2 hk _ (cV_blk X R G v0 hr hk))))
    iexact H10
  · iapply (pointsTo_rep_of_read (c : Thread nD τ) arg12 _ fullShare (mix (doneIn (wslot i) r0 (k.val + 1)) (cL X R G v0) L)
      ((View.read_writes_rep_unit arg12.view _ (inbLhs hr i k) _ e5).trans (put_mixIn (cV X R G v0) L hw hr.2 hk _
        (fun z => (pay26_eq v0 _ _ _ _ z).trans (congrFun (cV_blk X R G v0 hr hk) _)))))
    iexact H12

/-- The second loop over a group: it stores the group's codes. -/
theorem code_loop {r0 : ℕ} (hr : Grp r0) :
    iprop(At c arg1 X ∗ At c arg2 R ∗ At c arg3 G ∗ At c arg10 (mix (done r0 0) (cV X R G v0) C) ∗ At c arg12 (mix (doneIn (wslot i) r0 0) (cL X R G v0) L))
      ⊢ wp frame (wpE (defs₀ (F := F)) 𝒱 (c : Thread nD τ) bd) Set.univ (Scf.Loop.for loop55 loop55_ok ⟨⟩ (codeBody i arg1 arg2 arg3 arg10 harg10 arg12 harg12 v0 r0 hr (sqAcc X R r0 55)))
          (fun _ => iprop(At c arg1 X ∗ At c arg2 R ∗ At c arg3 G ∗ At c arg10 (mix (done r0 55) (cV X R G v0) C) ∗ At c arg12 (mix (doneIn (wslot i) r0 55) (cL X R G v0) L))) := by
  iintro H
  iapply (Scf.wp_for frame (wpE (defs₀ (F := F)) 𝒱 (c : Thread nD τ) bd) Set.univ _ _ _ loop55_ok PUnit.unit (codeBody i arg1 arg2 arg3 arg10 harg10 arg12 harg12 v0 r0 hr (sqAcc X R r0 55))
    (fun k _ => iprop(At c arg1 X ∗ At c arg2 R ∗ At c arg3 G ∗ At c arg10 (mix (done r0 k) (cV X R G v0) C) ∗ At c arg12 (mix (doneIn (wslot i) r0 k) (cL X R G v0) L)))
    (fun k u => code_trip 𝒱 c bd i arg1 arg2 arg3 arg10 harg10 arg12 harg12 v0 X R G C L hr k u))
  isplitl [H]
  · iexact H
  · iintro %acc H
    rw [show Scf.trips 0#32 (Scalar.addi 0#32 55#32) 1#32 = 55 from loop55_trips]
    iexact H

theorem done_next {α : Type} (V H : S256x7040.Idx → α) (r0 : ℕ) : mix (done r0 55) V H = mix (done (r0 + 32) 0) V H := by
  funext y
  have h1 : (y 1).val < 7040 := (y 1).isLt
  have hiff : done r0 55 y ↔ done (r0 + 32) 0 y := by show (_ ∨ _) ↔ (_ ∨ _); omega
  unfold mix; simp only [hiff]
theorem doneIn_next {α : Type} (V H : S2x256x7040.Idx → α) (s r0 : ℕ) : mix (doneIn s r0 55) V H = mix (doneIn s (r0 + 32) 0) V H := by
  funext y
  have h1 : (y 2).val < 7040 := (y 2).isLt
  have hiff : doneIn s r0 55 y ↔ doneIn s (r0 + 32) 0 y := by show (_ ∧ (_ ∨ _)) ↔ (_ ∧ (_ ∨ _)); omega
  unfold mix; simp only [hiff]

/-- What the quantisation of a tile holds when the rows below `r0` are done. -/
abbrev QInv (r0 : ℕ) : sProp 𝕄 :=
  iprop(At c arg1 X ∗ At c arg2 R ∗ At c arg3 G ∗ At c arg9 (mix (done r0 0) (hV X R) H) ∗ At c arg10 (mix (done r0 0) (cV X R G v0) C)
    ∗ At c arg12 (mix (doneIn (wslot i) r0 0) (cL X R G v0) L))

/-- The quantisation of one group of rows. -/
theorem quant_spec {r0 : ℕ} (hr : Grp r0) :
    QInv c i arg1 arg2 arg3 arg9 arg10 arg12 v0 X R H G C L r0
      ⊢ wp frame (wpE (defs₀ (F := F)) 𝒱 (c : Thread nD τ) bd) Set.univ (quant i arg1 arg2 arg3 arg9 harg9 arg10 harg10 arg12 harg12 v0 r0 hr)
          (fun _ => QInv c i arg1 arg2 arg3 arg9 arg10 arg12 v0 X R H G C L (r0 + 32)) := by
  unfold quant
  iintro ⟨H1, H2, H3, H9, H10, H12⟩
  rw [wp_bind]
  iapply (wp_wand_r Idealize.ShloMosaic.frame (wpE (defs₀ (F := F)) 𝒱 (c : Thread nD τ) bd) Set.univ)
  isplitl [H1 H2 H9]
  · iapply (sq_loop 𝒱 c bd arg1 arg2 arg9 harg9 X R H hr)
    isplitl [H1]; · iexact H1
    isplitl [H2]; · iexact H2
    iexact H9
  · iintro %s ⟨%hs, H1, H2, H9⟩
    subst hs
    iapply (wp_wand_r Idealize.ShloMosaic.frame (wpE (defs₀ (F := F)) 𝒱 (c : Thread nD τ) bd) Set.univ)
    isplitl [H1 H2 H3 H10 H12]
    · iapply (code_loop 𝒱 c bd i arg1 arg2 arg3 arg10 harg10 arg12 harg12 v0 X R G C L hr)
      isplitl [H1]; · iexact H1
      isplitl [H2]; · iexact H2
      isplitl [H3]; · iexact H3
      isplitl [H10]; · iexact H10
      iexact H12
    · iintro %u ⟨H1, H2, H3, H10, H12⟩
      rw [done_next, done_next, doneIn_next]
      isplitl [H1]; · iexact H1
      isplitl [H2]; · iexact H2
      isplitl [H3]; · iexact H3
      isplitl [H9]; · iexact H9
      isplitl [H10]; · iexact H10
      iexact H12

variable (W : S1920x7040.Idx → Elt F .fp8e4m3) (S : S1x1920.Idx → Elt F .f32) (B : S1x1920.Idx → Elt F .bf16) (Y : S256x1920.Idx → Elt F .bf16)
  (LL : S2x256x7040.Idx → Elt F .fp8e4m3)

/-- What the products of a point read, and the result's window at `Z`. -/
abbrev YInv (Z : S256x1920.Idx → Elt F .bf16) : sProp 𝕄 :=
  iprop(At c arg5 S ∗ At c arg7 B ∗ At c arg11 W ∗ At c arg12 LL ∗ At c arg8 Z)

/-- The product with one block of 512 weight rows. -/
theorem mult512_spec {n0 : ℕ} (h5 : n0 % 512 = 0) (hn : n0 + 512 ≤ 1536) (hw : ∀ a, (![n0, 0] : Fin 2 → ℕ) a + S512x7040.size a ≤ S1920x7040.size a)
    (hs : ∀ a, (![0, n0] : Fin 2 → ℕ) a + S1x512.size a ≤ S1x1920.size a)
    (hy : ∀ a, (![0, n0] : Fin 2 → ℕ) a + S256x512.size a ≤ S256x1920.size a)
    (hp : (Rect.unit (s := S256x1920) ![0, n0] S256x512.size hy).PackedRows (EltTy.packing .bf16)) :
    YInv c arg5 arg7 arg8 arg11 arg12 W S B LL (mix (yDone n0) (yV (slotOf LL (rslot i)) W S B v0) Y)
      ⊢ wp frame (wpE (defs₀ (F := F)) 𝒱 (c : Thread nD τ) bd) Set.univ (mult512 i arg5 arg7 arg8 harg8 arg11 arg12 v0 n0 hw hs hy hp)
          (fun _ => YInv c arg5 arg7 arg8 arg11 arg12 W S B LL (mix (yDone (n0 + 512)) (yV (slotOf LL (rslot i)) W S B v0) Y)) := by
  have hr : rslot i < 2 := by rw [rslot_eq]; omega
  unfold mult512
  iintro ⟨H5, H7, H11, H12, H8⟩
  sl_exec
  sl_step
  rw [View.readAt_rep_unit arg12.view LL (inbPrev i) rfl (inbPrev i), View.readAt_rep_unit arg11.view W hw rfl hw, View.readAt_rep_unit arg5.view S hs rfl hs,
    View.readAt_rep_unit arg7.view B hs rfl hs, window_slot LL hr, window_wPart W (by omega), window_part S (by omega), window_part B (by omega)]
  isplitl [H5]; · iexact H5
  isplitl [H7]; · iexact H7
  isplitl [H11]; · iexact H11
  isplitl [H12]; · iexact H12
  iapply (pointsTo_rep_of_read (c : Thread nD τ) arg8 _ fullShare (mix (yDone (n0 + 512)) (yV (slotOf LL (rslot i)) W S B v0) Y)
    ((View.read_writes_rep_unit arg8.view _ hy _ rfl).trans (put_y512 _ W S B v0 Y h5 hn)))
  iexact H8

/-- The product with the last 384 weight rows. -/
theorem mult384_spec :
    YInv c arg5 arg7 arg8 arg11 arg12 W S B LL (mix (yDone 1536) (yV (slotOf LL (rslot i)) W S B v0) Y)
      ⊢ wp frame (wpE (defs₀ (F := F)) 𝒱 (c : Thread nD τ) bd) Set.univ (mult384 i arg5 arg7 arg8 harg8 arg11 arg12 v0)
          (fun _ => YInv c arg5 arg7 arg8 arg11 arg12 W S B LL (yV (slotOf LL (rslot i)) W S B v0)) := by
  have hr : rslot i < 2 := by rw [rslot_eq]; omega
  unfold mult384
  iintro ⟨H5, H7, H11, H12, H8⟩
  sl_exec
  sl_step
  rw [View.readAt_rep_unit arg12.view LL (inbPrev i) rfl (inbPrev i), View.readAt_rep_unit arg11.view W inb_S1920x7040_S384x7040_1536_0 rfl inb_S1920x7040_S384x7040_1536_0,
    View.readAt_rep_unit arg5.view S inb_S1x1920_S1x384_0_1536 rfl inb_S1x1920_S1x384_0_1536,
    View.readAt_rep_unit arg7.view B inb_S1x1920_S1x384_0_1536 rfl inb_S1x1920_S1x384_0_1536, window_slot LL hr, window_wLast W, window_last S, window_last B]
  isplitl [H5]; · iexact H5
  isplitl [H7]; · iexact H7
  isplitl [H11]; · iexact H11
  isplitl [H12]; · iexact H12
  iapply (pointsTo_rep_of_read (c : Thread nD τ) arg8 _ fullShare (yV (slotOf LL (rslot i)) W S B v0)
    ((View.read_writes_rep_unit arg8.view _ inb_S256x1920_S256x384_0_1536 _ rfl).trans (put_y384 _ W S B v0 Y)))
  iexact H8

end Steps

end Cert.KernelIdeal.Hand

end
-- ==== Proof.KernelIdealPhase.lean ====
/-
  The kernel's body at a point, in its three cases: the first point (start the weight's copy, quantise tile 0), a point in
  the middle (the products of the previous tile with a tile quantised between them; point 1 first waits for the weight),
  the last point (the products of the last tile).
-/
module

public import proofs.«01_k».proof.Proof.KernelIdealStep

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI Idealize.SL.BI.BIBase Idealize.SL.BI.Laws Idealize.SL.ProofMode Idealize.SL.Sem
open scoped Idealize.SL.BI

variable {F : FTy → Type} [FloatOps F] [Named F]

local notation "𝕄" => MT nD τ sig Unit (Elt F) ℕ (Pipeline.UD sig nD τ) ℕ

/-- The weight in HBM, the weight's scratch, the codes' scratch. -/
abbrev hbmW : Memref sig .tc .hbm S1920x7040 .fp8e4m3 := Memref.whole main_arg3
abbrev scW : Memref sig .tc .vmem S1920x7040 .fp8e4m3 := Memref.whole cc0_scratch0
abbrev scL : Memref sig .tc .vmem S2x256x7040 .fp8e4m3 := Memref.whole cc0_scratch1

section Seq

variable (c : Dev nD)

/-- The weakest precondition of a program of the body, every mask open. -/
abbrev Wp {α : Type} (p : Prog (TpuEff nD τ sig (Elt F) Λ₀ .tc) α) (Q : α → sProp 𝕄) : sProp 𝕄 :=
  wp frame (wpE (defs₀ (F := F)) Variants.none (c : Thread nD τ) none) Set.univ p Q

theorem wp_seq {α β : Type} {p : Prog (TpuEff nD τ sig (Elt F) Λ₀ .tc) α} {q : Prog (TpuEff nD τ sig (Elt F) Λ₀ .tc) β} {P Q : sProp 𝕄} {R : β → sProp 𝕄}
    (h1 : P ⊢ Wp c p (fun _ => Q)) (h2 : Q ⊢ Wp c q R) : P ⊢ Wp c (p >>= fun _ => q) R := by
  unfold Wp
  rw [wp_bind]
  iintro H
  iapply (wp_wand_r Idealize.ShloMosaic.frame (wpE (defs₀ (F := F)) Variants.none (c : Thread nD τ) none) Set.univ)
  isplitl [H]
  · iapply h1; iexact H
  · iintro %_ H; iapply h2; iexact H

theorem wp_keep {α : Type} {p : Prog (TpuEff nD τ sig (Elt F) Λ₀ .tc) α} {P Q P' Q' T : sProp 𝕄} (h1 : P ⊢ Wp c p (fun _ => Q))
    (h2 : P' ⊢ iprop(P ∗ T)) (h3 : iprop(Q ∗ T) ⊢ Q') : P' ⊢ Wp c p (fun _ => Q') := by
  unfold Wp
  iintro H
  ihave H := h2 $$ H
  icases H with ⟨H, HT⟩
  iapply (wp_wand_r Idealize.ShloMosaic.frame (wpE (defs₀ (F := F)) Variants.none (c : Thread nD τ) none) Set.univ)
  isplitl [H]
  · iapply h1; iexact H
  · iintro %_ H
    iapply h3
    isplitl [H]; · iexact H
    iexact HT

/-- Eight groups quantised one after the other. -/
theorem quants {q : ∀ r0, Grp r0 → Prog (TpuEff nD τ sig (Elt F) Λ₀ .tc) Unit} {I : ℕ → sProp 𝕄}
    (hq : ∀ r0 (hr : Grp r0), I r0 ⊢ Wp c (q r0 hr) (fun _ => I (r0 + 32))) :
    I 0 ⊢ Wp c (do q 0 grp0; q 32 grp1; q 64 grp2; q 96 grp3; q 128 grp4; q 160 grp5; q 192 grp6; q 224 grp7) (fun _ => I 256) :=
  wp_seq c (hq 0 grp0) (wp_seq c (hq 32 grp1) (wp_seq c (hq 64 grp2) (wp_seq c (hq 96 grp3) (wp_seq c (hq 128 grp4) (wp_seq c (hq 160 grp5)
    (wp_seq c (hq 192 grp6) (hq 224 grp7)))))))

end Seq

/-! ## The weight's copy -/

section Copy

variable (c : Dev nD)

/-- What the weight's array holds, as a function of an index. -/
def wOf (f : Buf (Elt F) ((c : Thread nD τ).loc main_arg3)) : S1920x7040.Idx → Elt F .fp8e4m3 := hbmW.view.read (Elt F) f

/-- The copy in flight: it delivers the scratch written whole with the weight, and the weight's array back. -/
abbrev InFlight (f : Buf (Elt F) ((c : Thread nD τ).loc main_arg3)) : sProp 𝕄 :=
  iprop(∃ fd : Buf (Elt F) (scW.view.loc (c : Thread nD τ)),
    Transfers.Flight countersEmb (c : Thread nD τ) (SemLoc.dma 14) default 422400
      iprop((scW.view.loc (c : Thread nD τ) ↦[scW.view.set]{fullShare} scW.view.writes (Elt F) fd [⟨Rect.whole S1920x7040, ReadAs.same.apply (hbmW.view.read (Elt F) f)⟩])
        ∗ (hbmW.view.loc (c : Thread nD τ) ↦[hbmW.view.set]{fullShare} f))
    ∗ (hbmW.view.loc (c : Thread nD τ) ↦[Finset.univ \ hbmW.view.set]{fullShare} f))

theorem copy_start (W : Waits sig Unit) (f : Buf (Elt F) ((c : Thread nD τ).loc main_arg3)) :
    iprop((hbmW.view.loc (c : Thread nD τ) ↦{fullShare} f) ∗ (∃ fd, scW.view.loc (c : Thread nD τ) ↦[scW.view.set]{fullShare} fd)
        ∗ semVal ((c : Thread nD τ), SemLoc.dma 14) 0 ∗ owes (c : Thread nD τ) 0 W)
      ⊢ Wp c (Prog.lift (.enqueueDma hbmW (.here scW) (.dma cc0_scratch2.sem) (Memref.isWhole_whole _).wordExact (Memref.isWhole_whole _).wordExact ⟨Or.inl rfl, trivial⟩))
          (fun _ => iprop(InFlight c f ∗ ∃ W', owes (c : Thread nD τ) 0 W')) := by
  unfold Wp
  iintro ⟨H1, ⟨%fd, H2⟩, H3, H4⟩
  sl_exec
  sl_step
  isplitl [H3 H1]
  · iexists fd
    isplitl [H3]; · iexact H3
    iexact H1
  · iexists _; iexact H4

theorem copy_wait (W : Waits sig Unit) (f : Buf (Elt F) ((c : Thread nD τ).loc main_arg3)) :
    iprop(InFlight c f ∗ owes (c : Thread nD τ) 0 W)
      ⊢ Wp c (Prog.lift (.waitDma2 cc0_scratch2.sem hbmW scW (Memref.isWhole_whole _).wordExact (Memref.isWhole_whole _).wordExact))
          (fun _ => iprop((hbmW.view.loc (c : Thread nD τ) ↦{fullShare} f) ∗ At c scW (wOf c f) ∗ semVal ((c : Thread nD τ), SemLoc.dma 14) 0
            ∗ ∃ W', owes (c : Thread nD τ) 0 W')) := by
  unfold Wp
  iintro ⟨⟨%fd, H3, H1⟩, H4⟩
  sl_exec
  sl_step
  isplitl [H1]; · iexact H1
  isplitl [H3_dst]
  · iapply (pointsTo_rep_of_read (c : Thread nD τ) scW _ fullShare (wOf c f) (View.read_writes_whole ..))
    iexact H3_dst
  isplitl [H3]; · iexact H3
  iexists _; iexact H4

end Copy

/-! ## The cases of the body -/

section Cases

variable (c : Dev nD) (i : grid0.Coords)
  (arg1 : Memref sig .tc .vmem S256x7040 .bf16) (arg2 : Memref sig .tc .vmem S256x7040 .bf16) (arg3 : Memref sig .tc .vmem S1x7040 .bf16)
  (arg5 : Memref sig .tc .vmem S1x1920 .f32) (arg6 : Memref sig .tc .smem S1x1 .f32) (arg7 : Memref sig .tc .vmem S1x1920 .bf16)
  (arg8 : Memref sig .tc .vmem S256x1920 .bf16) (harg8 : arg8.IsWhole)
  (arg9 : Memref sig .tc .vmem S256x7040 .bf16) (harg9 : arg9.IsWhole)
  (arg10 : Memref sig .tc .vmem S256x7040 .fp8e4m3) (harg10 : arg10.IsWhole)
variable (X R H : S256x7040.Idx → Elt F .bf16) (G : S1x7040.Idx → Elt F .bf16) (C : S256x7040.Idx → Elt F .fp8e4m3) (L : S2x256x7040.Idx → Elt F .fp8e4m3)
variable (W : S1920x7040.Idx → Elt F .fp8e4m3) (S : S1x1920.Idx → Elt F .f32) (Sc : S1x1.Idx → Elt F .f32) (B : S1x1920.Idx → Elt F .bf16) (Y : S256x1920.Idx → Elt F .bf16)
  (v0 : Elt F .f32)

theorem mix_none {ι α : Type} {P : ι → Prop} [DecidablePred P] (h : ∀ y, ¬ P y) (V H : ι → α) : mix P V H = H :=
  funext fun y => if_neg (h y)
theorem mix_all {ι α : Type} {P : ι → Prop} [DecidablePred P] (h : ∀ y, P y) (V H : ι → α) : mix P V H = V :=
  funext fun y => if_pos (h y)
theorem done_start {α : Type} (V H : S256x7040.Idx → α) : mix (done 0 0) V H = H :=
  mix_none (fun y => by show ¬ (_ ∨ _); omega) V H
theorem done_end {α : Type} (V H : S256x7040.Idx → α) : mix (done 256 0) V H = V :=
  mix_all (fun y => by have h : (y 0).val < 256 := (y 0).isLt; show (_ ∨ _); omega) V H
theorem doneIn_start {α : Type} (V H : S2x256x7040.Idx → α) (s : ℕ) : mix (doneIn s 0 0) V H = H :=
  mix_none (fun y => by show ¬ (_ ∧ (_ ∨ _)); omega) V H
theorem yDone_start {α : Type} (V H : S256x1920.Idx → α) : mix (yDone 0) V H = H :=
  mix_none (fun y => by show ¬ (_ < _); omega) V H

/-- The slot multiplied is not the one the quantisation writes. -/
theorem slotOf_mix {α : Type} (V L : S2x256x7040.Idx → α) (r0 : ℕ) : slotOf (mix (doneIn (wslot i) r0 0) V L) (rslot i) = slotOf L (rslot i) := by
  have hw := wslot_eq i
  have hr := rslot_eq i
  funext y
  refine if_neg ?_
  show ¬ ((rslot i % 2) = _ ∧ _)
  omega

/-- The codes' scratch after the quantisation of a tile. -/
abbrev afterL : S2x256x7040.Idx → Elt F .fp8e4m3 := mix (doneIn (wslot i) 256 0) (cL X R G v0) L

/-- What a point in the middle holds when the rows below `r0` are quantised and the result's window is at `Z`. -/
abbrev MInv (r0 : ℕ) (Z : S256x1920.Idx → Elt F .bf16) : sProp 𝕄 :=
  iprop(QInv c i arg1 arg2 arg3 arg9 arg10 scL v0 X R H G C L r0 ∗ At c arg5 S ∗ At c arg7 B ∗ At c scW W ∗ At c arg8 Z)

theorem mid_quant {Z : S256x1920.Idx → Elt F .bf16} (r0 : ℕ) (hr : Grp r0) :
    MInv c i arg1 arg2 arg3 arg5 arg7 arg8 arg9 arg10 X R H G C L W S B v0 r0 Z
      ⊢ Wp c (quant i arg1 arg2 arg3 arg9 harg9 arg10 harg10 scL (Memref.isWhole_whole _) v0 r0 hr)
          (fun _ => MInv c i arg1 arg2 arg3 arg5 arg7 arg8 arg9 arg10 X R H G C L W S B v0 (r0 + 32) Z) :=
  wp_keep c (quant_spec Variants.none c none i arg1 arg2 arg3 arg9 harg9 arg10 harg10 scL (Memref.isWhole_whole _) v0 X R H G C L hr) .rfl .rfl

theorem mid_mult {p : Prog (TpuEff nD τ sig (Elt F) Λ₀ .tc) Unit} {Z Z' : S256x1920.Idx → Elt F .bf16} (r0 : ℕ)
    (h : YInv c arg5 arg7 arg8 scW scL W S B (mix (doneIn (wslot i) r0 0) (cL X R G v0) L) Z
      ⊢ Wp c p (fun _ => YInv c arg5 arg7 arg8 scW scL W S B (mix (doneIn (wslot i) r0 0) (cL X R G v0) L) Z')) :
    MInv c i arg1 arg2 arg3 arg5 arg7 arg8 arg9 arg10 X R H G C L W S B v0 r0 Z
      ⊢ Wp c p (fun _ => MInv c i arg1 arg2 arg3 arg5 arg7 arg8 arg9 arg10 X R H G C L W S B v0 r0 Z') :=
  wp_keep c (T := iprop(At c arg1 X ∗ At c arg2 R ∗ At c arg3 G ∗ At c arg9 (mix (done r0 0) (hV X R) H) ∗ At c arg10 (mix (done r0 0) (cV X R G v0) C))) h
    (by
      iintro ⟨⟨H1, H2, H3, H9, H10, H12⟩, H5, H7, H11, H8⟩
      isplitl [H5 H7 H11 H12 H8]
      · isplitl [H5]; · iexact H5
        isplitl [H7]; · iexact H7
        isplitl [H11]; · iexact H11
        isplitl [H12]; · iexact H12
        iexact H8
      isplitl [H1]; · iexact H1
      isplitl [H2]; · iexact H2
      isplitl [H3]; · iexact H3
      isplitl [H9]; · iexact H9
      iexact H10)
    (by
      iintro ⟨⟨H5, H7, H11, H12, H8⟩, H1, H2, H3, H9, H10⟩
      isplitl [H1 H2 H3 H9 H10 H12]
      · isplitl [H1]; · iexact H1
        isplitl [H2]; · iexact H2
        isplitl [H3]; · iexact H3
        isplitl [H9]; · iexact H9
        isplitl [H10]; · iexact H10
        iexact H12
      isplitl [H5]; · iexact H5
      isplitl [H7]; · iexact H7
      isplitl [H11]; · iexact H11
      iexact H8)

/-- The result's tile a point computes. -/
abbrev yNew : S256x1920.Idx → Elt F .bf16 := yV (slotOf L (rslot i)) W S B v0

theorem mid_m512 {n0 : ℕ} (h5 : n0 % 512 = 0) (hn : n0 + 512 ≤ 1536) (hw : ∀ a, (![n0, 0] : Fin 2 → ℕ) a + S512x7040.size a ≤ S1920x7040.size a)
    (hs : ∀ a, (![0, n0] : Fin 2 → ℕ) a + S1x512.size a ≤ S1x1920.size a)
    (hy : ∀ a, (![0, n0] : Fin 2 → ℕ) a + S256x512.size a ≤ S256x1920.size a)
    (hp : (Rect.unit (s := S256x1920) ![0, n0] S256x512.size hy).PackedRows (EltTy.packing .bf16)) (r0 : ℕ) :
    MInv c i arg1 arg2 arg3 arg5 arg7 arg8 arg9 arg10 X R H G C L W S B v0 r0 (mix (yDone n0) (yNew i L W S B v0) Y)
      ⊢ Wp c (mult512 i arg5 arg7 arg8 harg8 scW scL v0 n0 hw hs hy hp)
          (fun _ => MInv c i arg1 arg2 arg3 arg5 arg7 arg8 arg9 arg10 X R H G C L W S B v0 r0 (mix (yDone (n0 + 512)) (yNew i L W S B v0) Y)) :=
  mid_mult c i arg1 arg2 arg3 arg5 arg7 arg8 arg9 arg10 X R H G C L W S B v0 r0 (by
    have h := mult512_spec Variants.none c none i arg5 arg7 arg8 harg8 scW scL v0 W S B Y (mix (doneIn (wslot i) r0 0) (cL X R G v0) L) h5 hn hw hs hy hp
    rw [slotOf_mix] at h
    exact h)

theorem mid_m384 (r0 : ℕ) :
    MInv c i arg1 arg2 arg3 arg5 arg7 arg8 arg9 arg10 X R H G C L W S B v0 r0 (mix (yDone 1536) (yNew i L W S B v0) Y)
      ⊢ Wp c (mult384 i arg5 arg7 arg8 harg8 scW scL v0)
          (fun _ => MInv c i arg1 arg2 arg3 arg5 arg7 arg8 arg9 arg10 X R H G C L W S B v0 r0 (yNew i L W S B v0)) :=
  mid_mult c i arg1 arg2 arg3 arg5 arg7 arg8 arg9 arg10 X R H G C L W S B v0 r0 (by
    have h := mult384_spec Variants.none c none i arg5 arg7 arg8 harg8 scW scL v0 W S B Y (mix (doneIn (wslot i) r0 0) (cL X R G v0) L)
    rw [slotOf_mix] at h
    exact h)

/-- The middle phase. -/
theorem middle_spec :
    MInv c i arg1 arg2 arg3 arg5 arg7 arg8 arg9 arg10 X R H G C L W S B v0 0 Y
      ⊢ Wp c (phaseMiddle i arg5 arg7 arg8 harg8 scW scL (quant i arg1 arg2 arg3 arg9 harg9 arg10 harg10 scL (Memref.isWhole_whole _) v0) v0)
          (fun _ => MInv c i arg1 arg2 arg3 arg5 arg7 arg8 arg9 arg10 X R H G C L W S B v0 256 (yNew i L W S B v0)) := by
  have hq : ∀ Z r0 (hr : Grp r0), _ := fun Z r0 hr => mid_quant c i arg1 arg2 arg3 arg5 arg7 arg8 arg9 harg9 arg10 harg10 X R H G C L W S B v0 (Z := Z) r0 hr
  have hm : ∀ n0 h5 hn hw hs hy hp r0, _ := fun n0 h5 hn hw hs hy hp r0 =>
    mid_m512 c i arg1 arg2 arg3 arg5 arg7 arg8 harg8 arg9 arg10 X R H G C L W S B Y v0 (n0 := n0) h5 hn hw hs hy hp r0
  have hm0 := hm 0 rfl (by omega) inb_S1920x7040_S512x7040_0_0 inb_S1x1920_S1x512_0_0 inb_S256x1920_S256x512_0_0 packedbf16_S256x1920_S256x512_0_0 0
  rw [yDone_start] at hm0
  unfold phaseMiddle
  exact wp_seq c hm0 <| wp_seq c (hq _ 0 grp0) <| wp_seq c (hq _ 32 grp1)
    <| wp_seq c (hm 512 rfl (by omega) _ _ _ _ 64) <| wp_seq c (hq _ 64 grp2) <| wp_seq c (hq _ 96 grp3)
    <| wp_seq c (hm 1024 rfl (by omega) _ _ _ _ 128) <| wp_seq c (hq _ 128 grp4) <| wp_seq c (hq _ 160 grp5)
    <| wp_seq c (mid_m384 c i arg1 arg2 arg3 arg5 arg7 arg8 harg8 arg9 arg10 X R H G C L W S B Y v0 192) <| wp_seq c (hq _ 192 grp6) (hq _ 224 grp7)

/-- The last phase. -/
theorem last_spec :
    YInv c arg5 arg7 arg8 scW scL W S B L Y ⊢ Wp c (phaseLast i arg5 arg7 arg8 harg8 scW scL v0)
      (fun _ => YInv c arg5 arg7 arg8 scW scL W S B L (yNew i L W S B v0)) := by
  have hm : ∀ n0 h5 hn hw hs hy hp, _ := fun n0 h5 hn hw hs hy hp => mult512_spec Variants.none c none i arg5 arg7 arg8 harg8 scW scL v0 W S B Y L (n0 := n0) h5 hn hw hs hy hp
  have hm0 := hm 0 rfl (by omega) inb_S1920x7040_S512x7040_0_0 inb_S1x1920_S1x512_0_0 inb_S256x1920_S256x512_0_0 packedbf16_S256x1920_S256x512_0_0
  rw [yDone_start] at hm0
  unfold phaseLast
  exact wp_seq c hm0 <| wp_seq c (hm 512 rfl (by omega) _ _ _ _) <| wp_seq c (hm 1024 rfl (by omega) _ _ _ _)
    (mult384_spec Variants.none c none i arg5 arg7 arg8 harg8 scW scL v0 W S B Y L)

/-- The first phase: the copy started, then the tile quantised. -/
theorem first_spec (V : Waits sig Unit) (f : Buf (Elt F) ((c : Thread nD τ).loc main_arg3)) :
    iprop(((hbmW.view.loc (c : Thread nD τ) ↦{fullShare} f) ∗ (∃ fd, scW.view.loc (c : Thread nD τ) ↦[scW.view.set]{fullShare} fd)
        ∗ semVal ((c : Thread nD τ), SemLoc.dma 14) 0 ∗ owes (c : Thread nD τ) 0 V) ∗ QInv c i arg1 arg2 arg3 arg9 arg10 scL v0 X R H G C L 0)
      ⊢ Wp c (phaseFirst hbmW (Memref.isWhole_whole _) scW (Memref.isWhole_whole _) cc0_scratch2 (quant i arg1 arg2 arg3 arg9 harg9 arg10 harg10 scL (Memref.isWhole_whole _) v0))
          (fun _ => iprop(QInv c i arg1 arg2 arg3 arg9 arg10 scL v0 X R H G C L 256 ∗ (InFlight c f ∗ ∃ W', owes (c : Thread nD τ) 0 W'))) := by
  unfold phaseFirst
  refine wp_seq c (wp_keep c (copy_start c V f) .rfl (Q' := iprop(QInv c i arg1 arg2 arg3 arg9 arg10 scL v0 X R H G C L 0 ∗ (InFlight c f ∗ ∃ W', owes (c : Thread nD τ) 0 W'))) ?_)
    (wp_keep c (quants c fun r0 hr => quant_spec Variants.none c none i arg1 arg2 arg3 arg9 harg9 arg10 harg10 scL (Memref.isWhole_whole _) v0 X R H G C L hr) .rfl .rfl)
  iintro ⟨H1, H2⟩
  isplitl [H2]; · iexact H2
  iexact H1

/-- The scale read off its scalar window. -/
abbrev scOf : Elt F .f32 := Sc (ix2 (0 : Fin 1) (0 : Fin 1))

theorem scale_spec {k : Elt F .f32 → Prog (TpuEff nD τ sig (Elt F) Λ₀ .tc) Unit} {P : sProp 𝕄} {Q : Unit → sProp 𝕄}
    (h : iprop(P ∗ At c arg6 Sc) ⊢ Wp c (k (scOf Sc)) Q) :
    iprop(P ∗ At c arg6 Sc) ⊢ Wp c (smemLoad arg6 (Rect.unit (s := S1x1) ![0, 0] S1x1.size inb_S1x1_S1x1_0_0) numel1_S1x1 rfl >>= k) Q := by
  unfold Wp at *
  rw [wp_bind]
  iintro ⟨HP, H6⟩
  iapply (wp_wand_r Idealize.ShloMosaic.frame (wpE (defs₀ (F := F)) Variants.none (c : Thread nD τ) none) Set.univ (Q := fun v => iprop(⌜v = scOf Sc⌝ ∗ At c arg6 Sc)))
  isplitl [H6]
  · sl_exec
    sl_step
    rw [View.readAt_rep_unit arg6.view Sc inb_S1x1_S1x1_0_0 rfl inb_S1x1_S1x1_0_0]
    isplitr
    · ipureintro
      exact congrArg Sc (funext fun a => by fin_cases a <;> rfl)
    · iexact H6
  · iintro %v ⟨%hv, H6⟩
    subst hv
    iapply h
    isplitl [HP]; · iexact HP
    iexact H6

/-! ### Which phases a point runs -/

theorem cond1_iff : ∀ i : grid0.Coords, k0_cond1 i = 1#1 ↔ (i 0).val = 0 := by decide +kernel
theorem cond2_iff : ∀ i : grid0.Coords, cond2 i = 1#1 ↔ (i 0).val = 1 := by decide +kernel
theorem cond3_iff : ∀ i : grid0.Coords, k0_cond3 i = 1#1 ↔ 0 < (i 0).val ∧ (i 0).val < 48 := by decide +kernel
theorem cond4_iff : ∀ i : grid0.Coords, k0_cond4 i = 1#1 ↔ (i 0).val = 48 := by decide +kernel

section Eqs

variable (arg4 : Memref sig .tc .hbm S1920x7040 .fp8e4m3) (harg4 : arg4.IsWhole) (arg11 : Memref sig .tc .vmem S1920x7040 .fp8e4m3) (harg11 : arg11.IsWhole)
  (arg12 : Memref sig .tc .vmem S2x256x7040 .fp8e4m3) (harg12 : arg12.IsWhole) (arg13 : DmaSems sig S_)

/-- The first point's body. -/
theorem body_first_eq (hi : (i 0).val = 0) :
    body (F := F) i arg1 arg2 arg3 arg4 harg4 arg5 arg6 arg7 arg8 harg8 arg9 harg9 arg10 harg10 arg11 harg11 arg12 harg12 arg13
      = smemLoad arg6 (Rect.unit (s := S1x1) ![0, 0] S1x1.size inb_S1x1_S1x1_0_0) numel1_S1x1 rfl >>= fun v0 =>
          phaseFirst arg4 harg4 arg11 harg11 arg13 (quant i arg1 arg2 arg3 arg9 harg9 arg10 harg10 arg12 harg12 v0) := by
  have h1 : k0_cond1 i = 1#1 := (cond1_iff i).2 hi
  have h2 : ¬ cond2 i = 1#1 := fun h => by have := (cond2_iff i).1 h; omega
  have h3 : ¬ k0_cond3 i = 1#1 := fun h => by have := (cond3_iff i).1 h; omega
  have h4 : ¬ k0_cond4 i = 1#1 := fun h => by have := (cond4_iff i).1 h; omega
  unfold body
  refine congrArg _ (funext fun v0 => ?_)
  simp only [if_pos h1, if_neg h2, if_neg h3, if_neg h4, bind_pure_unit]

/-- The second point's body. -/
theorem body_second_eq (hi : (i 0).val = 1) :
    body (F := F) i arg1 arg2 arg3 arg4 harg4 arg5 arg6 arg7 arg8 harg8 arg9 harg9 arg10 harg10 arg11 harg11 arg12 harg12 arg13
      = smemLoad arg6 (Rect.unit (s := S1x1) ![0, 0] S1x1.size inb_S1x1_S1x1_0_0) numel1_S1x1 rfl >>= fun v0 =>
          (Prog.lift (.waitDma2 arg13.sem arg4 arg11 harg4.wordExact harg11.wordExact) : Prog (TpuEff nD τ sig (Elt F) Λ₀ .tc) Unit) >>= fun _ =>
          phaseMiddle i arg5 arg7 arg8 harg8 arg11 arg12 (quant i arg1 arg2 arg3 arg9 harg9 arg10 harg10 arg12 harg12 v0) v0 := by
  have h1 : ¬ k0_cond1 i = 1#1 := fun h => by have := (cond1_iff i).1 h; omega
  have h2 : cond2 i = 1#1 := (cond2_iff i).2 hi
  have h3 : k0_cond3 i = 1#1 := (cond3_iff i).2 (by omega)
  have h4 : ¬ k0_cond4 i = 1#1 := fun h => by have := (cond4_iff i).1 h; omega
  unfold body
  refine congrArg _ (funext fun v0 => ?_)
  simp only [if_neg h1, if_pos h2, if_pos h3, if_neg h4, bind_pure_unit]

/-- A later middle point's body. -/
theorem body_middle_eq (hi : 1 < (i 0).val) (hi' : (i 0).val < 48) :
    body (F := F) i arg1 arg2 arg3 arg4 harg4 arg5 arg6 arg7 arg8 harg8 arg9 harg9 arg10 harg10 arg11 harg11 arg12 harg12 arg13
      = smemLoad arg6 (Rect.unit (s := S1x1) ![0, 0] S1x1.size inb_S1x1_S1x1_0_0) numel1_S1x1 rfl >>= fun v0 =>
          phaseMiddle i arg5 arg7 arg8 harg8 arg11 arg12 (quant i arg1 arg2 arg3 arg9 harg9 arg10 harg10 arg12 harg12 v0) v0 := by
  have h1 : ¬ k0_cond1 i = 1#1 := fun h => by have := (cond1_iff i).1 h; omega
  have h2 : ¬ cond2 i = 1#1 := fun h => by have := (cond2_iff i).1 h; omega
  have h3 : k0_cond3 i = 1#1 := (cond3_iff i).2 (by omega)
  have h4 : ¬ k0_cond4 i = 1#1 := fun h => by have := (cond4_iff i).1 h; omega
  unfold body
  refine congrArg _ (funext fun v0 => ?_)
  simp only [if_neg h1, if_neg h2, if_pos h3, if_neg h4, bind_pure_unit]

/-- The last point's body. -/
theorem body_last_eq (hi : (i 0).val = 48) :
    body (F := F) i arg1 arg2 arg3 arg4 harg4 arg5 arg6 arg7 arg8 harg8 arg9 harg9 arg10 harg10 arg11 harg11 arg12 harg12 arg13
      = smemLoad arg6 (Rect.unit (s := S1x1) ![0, 0] S1x1.size inb_S1x1_S1x1_0_0) numel1_S1x1 rfl >>= fun v0 =>
          phaseLast i arg5 arg7 arg8 harg8 arg11 arg12 v0 := by
  have h1 : ¬ k0_cond1 i = 1#1 := fun h => by have := (cond1_iff i).1 h; omega
  have h2 : ¬ cond2 i = 1#1 := fun h => by have := (cond2_iff i).1 h; omega
  have h3 : ¬ k0_cond3 i = 1#1 := fun h => by have := (cond3_iff i).1 h; omega
  have h4 : k0_cond4 i = 1#1 := (cond4_iff i).2 (by omega)
  unfold body
  refine congrArg _ (funext fun v0 => ?_)
  simp only [if_neg h1, if_neg h2, if_neg h3, if_pos h4, bind_pure_unit]

end Eqs

/-- The body over the kernel's own arrays. -/
abbrev bodyHere : Prog (TpuEff nD τ sig (Elt F) Λ₀ .tc) Unit :=
  body i arg1 arg2 arg3 hbmW (Memref.isWhole_whole _) arg5 arg6 arg7 arg8 harg8 arg9 harg9 arg10 harg10 scW (Memref.isWhole_whole _) scL (Memref.isWhole_whole _) cc0_scratch2

/-- What every point reads and gives back. -/
abbrev Ins : sProp 𝕄 := iprop(At c arg1 X ∗ At c arg2 R ∗ At c arg3 G ∗ At c arg5 S ∗ At c arg6 Sc ∗ At c arg7 B)

/-- The reads of a point with the scale's window at the end, and back. -/
theorem ins_out (T : sProp 𝕄) : iprop(Ins c arg1 arg2 arg3 arg5 arg6 arg7 X R G S Sc B ∗ T)
    ⊢ iprop((At c arg1 X ∗ At c arg2 R ∗ At c arg3 G ∗ At c arg5 S ∗ At c arg7 B ∗ T) ∗ At c arg6 Sc) := by
  iintro ⟨⟨H1, H2, H3, H5, H6, H7⟩, HT⟩
  isplitr [H6]
  · isplitl [H1]; · iexact H1
    isplitl [H2]; · iexact H2
    isplitl [H3]; · iexact H3
    isplitl [H5]; · iexact H5
    isplitl [H7]; · iexact H7
    iexact HT
  · iexact H6
theorem ins_in (T : sProp 𝕄) : iprop((At c arg1 X ∗ At c arg2 R ∗ At c arg3 G ∗ At c arg5 S ∗ At c arg7 B ∗ T) ∗ At c arg6 Sc)
    ⊢ iprop(Ins c arg1 arg2 arg3 arg5 arg6 arg7 X R G S Sc B ∗ T) := by
  iintro ⟨⟨H1, H2, H3, H5, H7, HT⟩, H6⟩
  isplitr [HT]
  · isplitl [H1]; · iexact H1
    isplitl [H2]; · iexact H2
    isplitl [H3]; · iexact H3
    isplitl [H5]; · iexact H5
    isplitl [H6]; · iexact H6
    iexact H7
  · iexact HT

/-- The scale read at the head of a point whose remainder runs from the point's reads. -/
theorem scale_head {k : Elt F .f32 → Prog (TpuEff nD τ sig (Elt F) Λ₀ .tc) Unit} {T : sProp 𝕄} {Q : Unit → sProp 𝕄}
    (h : iprop(Ins c arg1 arg2 arg3 arg5 arg6 arg7 X R G S Sc B ∗ T) ⊢ Wp c (k (scOf Sc)) Q) :
    iprop(Ins c arg1 arg2 arg3 arg5 arg6 arg7 X R G S Sc B ∗ T)
      ⊢ Wp c (smemLoad arg6 (Rect.unit (s := S1x1) ![0, 0] S1x1.size inb_S1x1_S1x1_0_0) numel1_S1x1 rfl >>= k) Q :=
  (ins_out c arg1 arg2 arg3 arg5 arg6 arg7 X R G S Sc B T).trans (scale_spec c arg6 Sc ((ins_in c arg1 arg2 arg3 arg5 arg6 arg7 X R G S Sc B T).trans h))

theorem body_first (hi : (i 0).val = 0) (V : Waits sig Unit) (f : Buf (Elt F) ((c : Thread nD τ).loc main_arg3)) :
    iprop(Ins c arg1 arg2 arg3 arg5 arg6 arg7 X R G S Sc B ∗ At c arg8 Y ∗ At c arg9 H ∗ At c arg10 C ∗ At c scL L
        ∗ (hbmW.view.loc (c : Thread nD τ) ↦{fullShare} f) ∗ (∃ fd, scW.view.loc (c : Thread nD τ) ↦[scW.view.set]{fullShare} fd)
        ∗ semVal ((c : Thread nD τ), SemLoc.dma 14) 0 ∗ owes (c : Thread nD τ) 0 V)
      ⊢ Wp c (bodyHere i arg1 arg2 arg3 arg5 arg6 arg7 arg8 harg8 arg9 harg9 arg10 harg10)
          (fun _ => iprop(Ins c arg1 arg2 arg3 arg5 arg6 arg7 X R G S Sc B ∗ At c arg8 Y ∗ At c arg9 (hV X R) ∗ At c arg10 (cV X R G (scOf Sc))
            ∗ At c scL (afterL i X R G L (scOf Sc)) ∗ InFlight c f ∗ ∃ W', owes (c : Thread nD τ) 0 W')) := by
  unfold bodyHere
  rw [body_first_eq (hi := hi)]
  have hs := first_spec c i arg1 arg2 arg3 arg9 harg9 arg10 harg10 X R H G C L (scOf Sc) V f
  unfold QInv at hs
  rw [done_start, done_start, doneIn_start, done_end, done_end] at hs
  refine scale_head c arg1 arg2 arg3 arg5 arg6 arg7 X R G S Sc B (wp_keep c hs (T := iprop(At c arg5 S ∗ At c arg6 Sc ∗ At c arg7 B ∗ At c arg8 Y)) ?_ ?_)
  · iintro ⟨⟨H1, H2, H3, H5, H6, H7⟩, H8, H9, H10, H12, HF⟩
    isplitl [HF H1 H2 H3 H9 H10 H12]
    · isplitl [HF]; · iexact HF
      isplitl [H1]; · iexact H1
      isplitl [H2]; · iexact H2
      isplitl [H3]; · iexact H3
      isplitl [H9]; · iexact H9
      isplitl [H10]; · iexact H10
      iexact H12
    isplitl [H5]; · iexact H5
    isplitl [H6]; · iexact H6
    isplitl [H7]; · iexact H7
    iexact H8
  · iintro ⟨⟨⟨H1, H2, H3, H9, H10, H12⟩, HF⟩, H5, H6, H7, H8⟩
    isplitl [H1 H2 H3 H5 H6 H7]
    · isplitl [H1]; · iexact H1
      isplitl [H2]; · iexact H2
      isplitl [H3]; · iexact H3
      isplitl [H5]; · iexact H5
      isplitl [H6]; · iexact H6
      iexact H7
    isplitl [H8]; · iexact H8
    isplitl [H9]; · iexact H9
    isplitl [H10]; · iexact H10
    isplitl [H12]; · iexact H12
    iexact HF

/-- The phase of a middle point between its reads and its results. -/
theorem middle_here (v0 : Elt F .f32) :
    iprop((Ins c arg1 arg2 arg3 arg5 arg6 arg7 X R G S Sc B) ∗ At c arg8 Y ∗ At c arg9 H ∗ At c arg10 C ∗ At c scL L ∗ At c scW W)
      ⊢ Wp c (phaseMiddle i arg5 arg7 arg8 harg8 scW scL (quant i arg1 arg2 arg3 arg9 harg9 arg10 harg10 scL (Memref.isWhole_whole _) v0) v0)
          (fun _ => iprop(Ins c arg1 arg2 arg3 arg5 arg6 arg7 X R G S Sc B ∗ At c arg8 (yNew i L W S B v0) ∗ At c arg9 (hV X R) ∗ At c arg10 (cV X R G v0)
            ∗ At c scL (afterL i X R G L v0) ∗ At c scW W)) := by
  have hs := middle_spec c i arg1 arg2 arg3 arg5 arg7 arg8 harg8 arg9 harg9 arg10 harg10 X R H G C L W S B Y v0
  unfold MInv QInv at hs
  rw [done_start, done_start, doneIn_start, done_end, done_end] at hs
  refine wp_keep c hs (T := At c arg6 Sc) ?_ ?_
  · iintro ⟨⟨H1, H2, H3, H5, H6, H7⟩, H8, H9, H10, H12, H11⟩
    isplitr [H6]
    · isplitl [H1 H2 H3 H9 H10 H12]
      · isplitl [H1]; · iexact H1
        isplitl [H2]; · iexact H2
        isplitl [H3]; · iexact H3
        isplitl [H9]; · iexact H9
        isplitl [H10]; · iexact H10
        iexact H12
      isplitl [H5]; · iexact H5
      isplitl [H7]; · iexact H7
      isplitl [H11]; · iexact H11
      iexact H8
    · iexact H6
  · iintro ⟨⟨⟨H1, H2, H3, H9, H10, H12⟩, H5, H7, H11, H8⟩, H6⟩
    isplitl [H1 H2 H3 H5 H6 H7]
    · isplitl [H1]; · iexact H1
      isplitl [H2]; · iexact H2
      isplitl [H3]; · iexact H3
      isplitl [H5]; · iexact H5
      isplitl [H6]; · iexact H6
      iexact H7
    isplitl [H8]; · iexact H8
    isplitl [H9]; · iexact H9
    isplitl [H10]; · iexact H10
    isplitl [H12]; · iexact H12
    iexact H11

theorem body_middle (hi : 1 < (i 0).val) (hi' : (i 0).val < 48) :
    iprop(Ins c arg1 arg2 arg3 arg5 arg6 arg7 X R G S Sc B ∗ At c arg8 Y ∗ At c arg9 H ∗ At c arg10 C ∗ At c scL L ∗ At c scW W)
      ⊢ Wp c (bodyHere i arg1 arg2 arg3 arg5 arg6 arg7 arg8 harg8 arg9 harg9 arg10 harg10)
          (fun _ => iprop(Ins c arg1 arg2 arg3 arg5 arg6 arg7 X R G S Sc B ∗ At c arg8 (yNew i L W S B (scOf Sc)) ∗ At c arg9 (hV X R) ∗ At c arg10 (cV X R G (scOf Sc))
            ∗ At c scL (afterL i X R G L (scOf Sc)) ∗ At c scW W)) := by
  unfold bodyHere
  rw [body_middle_eq (hi := hi) (hi' := hi')]
  exact scale_head c arg1 arg2 arg3 arg5 arg6 arg7 X R G S Sc B (middle_here c i arg1 arg2 arg3 arg5 arg6 arg7 arg8 harg8 arg9 harg9 arg10 harg10 X R H G C L W S Sc B Y (scOf Sc))

theorem body_second (hi : (i 0).val = 1) (V : Waits sig Unit) (f : Buf (Elt F) ((c : Thread nD τ).loc main_arg3)) :
    iprop(Ins c arg1 arg2 arg3 arg5 arg6 arg7 X R G S Sc B ∗ At c arg8 Y ∗ At c arg9 H ∗ At c arg10 C ∗ At c scL L ∗ InFlight c f ∗ owes (c : Thread nD τ) 0 V)
      ⊢ Wp c (bodyHere i arg1 arg2 arg3 arg5 arg6 arg7 arg8 harg8 arg9 harg9 arg10 harg10)
          (fun _ => iprop((Ins c arg1 arg2 arg3 arg5 arg6 arg7 X R G S Sc B ∗ At c arg8 (yNew i L (wOf c f) S B (scOf Sc)) ∗ At c arg9 (hV X R) ∗ At c arg10 (cV X R G (scOf Sc))
            ∗ At c scL (afterL i X R G L (scOf Sc)) ∗ At c scW (wOf c f))
            ∗ (hbmW.view.loc (c : Thread nD τ) ↦{fullShare} f) ∗ semVal ((c : Thread nD τ), SemLoc.dma 14) 0 ∗ ∃ W', owes (c : Thread nD τ) 0 W')) := by
  unfold bodyHere
  rw [body_second_eq (hi := hi)]
  refine scale_head c arg1 arg2 arg3 arg5 arg6 arg7 X R G S Sc B (wp_seq c (wp_keep c (copy_wait c V f)
    (T := iprop(Ins c arg1 arg2 arg3 arg5 arg6 arg7 X R G S Sc B ∗ At c arg8 Y ∗ At c arg9 H ∗ At c arg10 C ∗ At c scL L)) ?_ .rfl)
    (wp_keep c (middle_here c i arg1 arg2 arg3 arg5 arg6 arg7 arg8 harg8 arg9 harg9 arg10 harg10 X R H G C L (wOf c f) S Sc B Y (scOf Sc)) ?_ .rfl))
  · iintro ⟨HI, H8, H9, H10, H12, HF⟩
    isplitl [HF]; · iexact HF
    isplitl [HI]; · iexact HI
    isplitl [H8]; · iexact H8
    isplitl [H9]; · iexact H9
    isplitl [H10]; · iexact H10
    iexact H12
  · iintro ⟨⟨Hf, HW, Hs, Ho⟩, HI, H8, H9, H10, H12⟩
    isplitl [HI H8 H9 H10 H12 HW]
    · isplitl [HI]; · iexact HI
      isplitl [H8]; · iexact H8
      isplitl [H9]; · iexact H9
      isplitl [H10]; · iexact H10
      isplitl [H12]; · iexact H12
      iexact HW
    isplitl [Hf]; · iexact Hf
    isplitl [Hs]; · iexact Hs
    iexact Ho

theorem body_last (hi : (i 0).val = 48) :
    iprop(Ins c arg1 arg2 arg3 arg5 arg6 arg7 X R G S Sc B ∗ At c arg8 Y ∗ At c scL L ∗ At c scW W)
      ⊢ Wp c (bodyHere i arg1 arg2 arg3 arg5 arg6 arg7 arg8 harg8 arg9 harg9 arg10 harg10)
          (fun _ => iprop(Ins c arg1 arg2 arg3 arg5 arg6 arg7 X R G S Sc B ∗ At c arg8 (yNew i L W S B (scOf Sc)) ∗ At c scL L ∗ At c scW W)) := by
  unfold bodyHere
  rw [body_last_eq (hi := hi)]
  refine scale_head c arg1 arg2 arg3 arg5 arg6 arg7 X R G S Sc B (wp_keep c (last_spec c i arg5 arg7 arg8 harg8 L W S B Y (scOf Sc))
    (T := iprop(At c arg1 X ∗ At c arg2 R ∗ At c arg3 G ∗ At c arg6 Sc)) ?_ ?_)
  · iintro ⟨⟨H1, H2, H3, H5, H6, H7⟩, H8, H12, H11⟩
    isplitl [H5 H7 H8 H12 H11]
    · isplitl [H5]; · iexact H5
      isplitl [H7]; · iexact H7
      isplitl [H11]; · iexact H11
      isplitl [H12]; · iexact H12
      iexact H8
    isplitl [H1]; · iexact H1
    isplitl [H2]; · iexact H2
    isplitl [H3]; · iexact H3
    iexact H6
  · iintro ⟨⟨H5, H7, H11, H12, H8⟩, H1, H2, H3, H6⟩
    isplitl [H1 H2 H3 H5 H6 H7]
    · isplitl [H1]; · iexact H1
      isplitl [H2]; · iexact H2
      isplitl [H3]; · iexact H3
      isplitl [H5]; · iexact H5
      isplitl [H6]; · iexact H6
      iexact H7
    isplitl [H8]; · iexact H8
    isplitl [H12]; · iexact H12
    iexact H11

end Cases

end Cert.KernelIdeal.Hand

end
-- ==== Proof.KernelIdealFrame.lean ====
/-
  The run of the whole program: what the kernel's own buffers hold between two points, what the body leaves in each
  window, the body's obligation at every point, and the run that follows: every argument array unchanged and every
  counter at zero.
-/
module

public import proofs.«01_k».proof.Proof.KernelIdealPhase
public import proofs.«01_k».proof.Proof.Gen.KernelIdeal.Frame
public import Idealize.ShloMosaic.Lib.Pipeline.TableIdle
public import Idealize.ShloMosaic.Lib.Pipeline.FrameBody

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI Idealize.SL.BI.BIBase Idealize.SL.BI.Laws Idealize.SL.ProofMode Idealize.SL.Sem
open Idealize.ShloMosaic.Pipeline (Dat Cfg Window BodyObligation)
open scoped Idealize.SL.BI

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The program around the region -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The one buffer the kernel reads by its own copy. -/
def H0 : Finset (Ref sig .tc) := {main_arg3}
theorem H0_sub : H0 ⊆ Pipeline.restRefs sig spec0 := by decide

/-- The kernel's own cell. -/
abbrev osem0 : Fin 1 → SemLoc sig := fun j => (![SemLoc.dma 14]) j
theorem ownSemFacts0 : Pipeline.OwnSemFacts spec0 osem0 := by decide

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  intro b hb
  rw [H0, Finset.mem_singleton] at hb
  subst hb
  simp only [hostOps1, List.mem_cons, List.mem_nil_iff, or_false] at hop
  rcases hop with rfl | rfl | rfl
  all_goals
    simp only [StableHlo.reshape_bufs, Finset.mem_insert, Finset.mem_singleton, not_or]
    exact ⟨StableHlo.devRef_ne_of_ne (by decide), StableHlo.devRef_ne_of_ne (by decide)⟩

/-! ## The tiles -/

/-- A point by its number. -/
def pt (n : ℕ) : Fin cfg0.N := ⟨min n 48, by rw [show cfg0.N = 49 from N_0]; omega⟩

theorem pt_val (t : Fin cfg0.N) : pt t.val = t := Fin.ext (by
  have h : t.val < 49 := t.isLt.trans_eq N_0
  show min t.val 48 = t.val
  omega)

theorem coords_val (t : Fin cfg0.N) : (grid0.coords t 0).val = t.val :=
  (by decide +kernel : ∀ t : Fin grid0.N, (grid0.coords t 0).val = t.val) t

abbrev xB (c : Dev nD) (t : Fin cfg0.N) : S256x7040.Idx → Elt F .bf16 := iblk m c 0 t
abbrev rB (c : Dev nD) (t : Fin cfg0.N) : S256x7040.Idx → Elt F .bf16 := iblk m c 1 t
abbrev gB (c : Dev nD) (t : Fin cfg0.N) : S1x7040.Idx → Elt F .bf16 := iblk m c 2 t
abbrev sB (c : Dev nD) (t : Fin cfg0.N) : S1x1920.Idx → Elt F .f32 := iblk m c 3 t
abbrev scB (c : Dev nD) (t : Fin cfg0.N) : S1x1.Idx → Elt F .f32 := iblk m c 4 t
abbrev bB (c : Dev nD) (t : Fin cfg0.N) : S1x1920.Idx → Elt F .bf16 := iblk m c 5 t

/-- The sums and the codes of the tile of a point. -/
def hT (c : Dev nD) (t : Fin cfg0.N) : S256x7040.Idx → Elt F .bf16 := hV (xB m c t) (rB m c t)
def cT (c : Dev nD) (t : Fin cfg0.N) : S256x7040.Idx → Elt F .fp8e4m3 := cV (xB m c t) (rB m c t) (gB m c t) (scOf (scB m c t))
/-- The codes of the tile of a point as one slot of the scratch. -/
def cS (c : Dev nD) (t : Fin cfg0.N) : S1x256x7040.Idx → Elt F .fp8e4m3 := fun y => cT m c t (ix2 (y 1) (y 2))
/-- The weight. -/
def wAll (c : Dev nD) : S1920x7040.Idx → Elt F .fp8e4m3 := wOf c (V m c main_arg3)
/-- The result's tile of a point: the tile before it, multiplied. -/
def yT (c : Dev nD) (t : Fin cfg0.N) : S256x1920.Idx → Elt F .bf16 :=
  yV (cS m c (pt (t.val - 1))) (wAll m c) (sB m c t) (bB m c t) (scOf (scB m c t))

theorem slotOf_after (i : grid0.Coords) (X R : S256x7040.Idx → Elt F .bf16) (G : S1x7040.Idx → Elt F .bf16) (L : S2x256x7040.Idx → Elt F .fp8e4m3) (v0 : Elt F .f32) :
    slotOf (afterL i X R G L v0) (wslot i) = fun y => cV X R G v0 (ix2 (y 1) (y 2)) := by
  have hw := wslot_eq i
  funext y
  refine if_pos ?_
  have h : (y 1).val < 256 := (y 1).isLt
  show (wslot i % 2 = wslot i ∧ ((y 1).val < 256 ∨ _))
  exact ⟨by omega, Or.inl h⟩

/-! ## The proof data -/

/-- The codes' scratch before point `n`: the slot the point multiplies holds the codes of the tile before. -/
def lInv (c : Dev nD) (n : ℕ) : sProp 𝕄 :=
  iprop(∃ L, ⌜n ≤ 48 → slotOf L ((n + 1) % 2) = cS m c (pt (n - 1))⌝ ∗ At c scL L)

/-- What the kernel's own buffers hold before point `n`. -/
def Phi (c : Dev nD) (n : ℕ) : sProp 𝕄 :=
  if n = 0 then Pipeline.ΦD osem0 spec0 H0 (V m) c
  else if n = 1 then iprop((∃ r, prngReg c r) ∗ InFlight c (V m c main_arg3) ∗ lInv m c 1)
  else iprop((∃ r, prngReg c r) ∗ semVal ((c : Thread nD τ), SemLoc.dma 14) 0 ∗ (hbmW.view.loc (c : Thread nD τ) ↦{fullShare} V m c main_arg3)
    ∗ At c scW (wAll m c) ∗ lInv m c n)

theorem Phi_zero (c : Dev nD) : Phi m c 0 = Pipeline.ΦD osem0 spec0 H0 (V m) c := if_pos rfl
theorem Phi_one (c : Dev nD) : Phi m c 1 = iprop((∃ r, prngReg c r) ∗ InFlight c (V m c main_arg3) ∗ lInv m c 1) := rfl
theorem Phi_later (c : Dev nD) {n : ℕ} (h : 1 < n) : Phi m c n = iprop((∃ r, prngReg c r) ∗ semVal ((c : Thread nD τ), SemLoc.dma 14) 0
    ∗ (hbmW.view.loc (c : Thread nD τ) ↦{fullShare} V m c main_arg3) ∗ At c scW (wAll m c) ∗ lInv m c n) :=
  (if_neg (by omega)).trans (if_neg (by omega))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yT m c t
    | ⟨7, _⟩ => hT m c (pt (min t.val 47))
    | ⟨8, _⟩ => cT m c (pt (min t.val 47))
  Φ n := Phi m c n.val
  q _ := fullShare
  owed _ := 0

theorem A_eq (c : Dev nD) (w : Fin cfg0.W) : (dats m 0 c).A w = V m c (Pipeline.arrRef spec0 w) := by dsimp only [dats]
theorem after0_6 (c : Dev nD) (t : Fin cfg0.N) : (dats m 0 c).after 6 t = yT m c t := by dsimp only [dats]
theorem after0_7 (c : Dev nD) (t : Fin cfg0.N) : (dats m 0 c).after 7 t = hT m c (pt (min t.val 47)) := by dsimp only [dats]
theorem after0_8 (c : Dev nD) (t : Fin cfg0.N) : (dats m 0 c).after 8 t = cT m c (pt (min t.val 47)) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => rfl) t d).trans rfl

theorem idle6 (t : Fin cfg0.N) : cfg0.idle 6 (cfg0.grid.coords t) = decide (t.val = 0) :=
  (by decide +kernel : ∀ t : Fin grid0.N, idle0 6 (grid0.coords t) = decide (t.val = 0)) t
theorem idle7 (t : Fin cfg0.N) : cfg0.idle 7 (cfg0.grid.coords t) = decide (t.val = 48) :=
  (by decide +kernel : ∀ t : Fin grid0.N, idle0 7 (grid0.coords t) = decide (t.val = 48)) t
theorem idle8 (t : Fin cfg0.N) : cfg0.idle 8 (cfg0.grid.coords t) = decide (t.val = 48) :=
  (by decide +kernel : ∀ t : Fin grid0.N, idle0 8 (grid0.coords t) = decide (t.val = 48)) t
theorem flush6 (t : Fin cfg0.N) : (cfg0.win 6).flush t = decide (t.val ≠ 0) :=
  (by decide +kernel : ∀ t : Fin grid0.N, win0_6.flush t = decide (t.val ≠ 0)) t
theorem flush7 (t : Fin cfg0.N) : (cfg0.win 7).flush t = decide (t.val ≠ 47) :=
  (by decide +kernel : ∀ t : Fin grid0.N, win0_7.flush t = decide (t.val ≠ 47)) t
theorem flush8 (t : Fin cfg0.N) : (cfg0.win 8).flush t = decide (t.val ≠ 47) :=
  (by decide +kernel : ∀ t : Fin grid0.N, win0_8.flush t = decide (t.val ≠ 47)) t

/-! ## The body's obligation -/

theorem owns_rep (c : Dev nD) {sp : Space} {s : Shape} {e : EltTy} (a : Memref sig .tc sp s e) (X : s.Idx → Elt F e) :
    owns (c : Thread nD τ) a fullShare X = At c a X := owns_eq_rep _ _ _ _

section Obligation

variable (c : Dev nD) (t : Fin cfg0.N)

/-- The buffers of the three results at a point. -/
abbrev a8 : Memref sig .tc .vmem S256x1920 .bf16 := win0_6.stage (cfg0.slots t 6)
abbrev a9 : Memref sig .tc .vmem S256x7040 .bf16 := win0_7.stage (cfg0.slots t 7)
abbrev a10 : Memref sig .tc .vmem S256x7040 .fp8e4m3 := win0_8.stage (cfg0.slots t 8)

/-- The six windows read at a point, at their blocks. -/
abbrev insAt : sProp 𝕄 :=
  Ins c (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (xB m c t) (rB m c t) (gB m c t) (sB m c t) (scB m c t) (bB m c t)

abbrev bodyT : Prog (TpuEff nD τ sig (Elt F) Λ₀ .tc) Unit :=
  bodyHere (grid0.coords t) (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (a8 t) (hstage0_6 ((cfg0.slots t 6).cast nbuf0_6)) (a9 t) (hstage0_7 ((cfg0.slots t 7).cast nbuf0_7))
    (a10 t) (hstage0_8 ((cfg0.slots t 8).cast nbuf0_8))

theorem bodyAt_eq : bodyAt0 (F := F) t = bodyT t := body_eq _ _ _ _ _ _ _ _ _ _ _ _ _ _ _ _ _ _ _ _ _ _ _ _ _ _

def bodyPre : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (a8 t) fullShare ((dats m 0 c).before 6 t d))
    ∗ (∃ d, owns (c : Thread nD τ) (a9 t) fullShare ((dats m 0 c).before 7 t d))
    ∗ (∃ d, owns (c : Thread nD τ) (a10 t) fullShare ((dats m 0 c).before 8 t d)))

def bodyPost : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (dats m 0 c).leavesExact 6 t ∗ (dats m 0 c).leavesExact 7 t ∗ (dats m 0 c).leavesExact 8 t)

theorem pre_open : bodyPre m c t ⊢ iprop(Phi m c t.val ∗ (∃ W, owes (c : Thread nD τ) 0 W) ∗ insAt m c t
    ∗ (∃ d, At c (a8 t) ((dats m 0 c).before 6 t d)) ∗ (∃ d, At c (a9 t) ((dats m 0 c).before 7 t d)) ∗ (∃ d, At c (a10 t) ((dats m 0 c).before 8 t d))) := by
  unfold bodyPre
  simp only [before0_0, before0_1, before0_2, before0_3, before0_4, before0_5, owns_rep]
  unfold Dat.owesAt Pipeline.owesWithin
  rw [show (dats m 0 c).owed t.castSucc = 0 from rfl, show (dats m 0 c).Φ t.castSucc = Phi m c t.val from rfl]
  iintro ⟨HP, ⟨%W, -, HW⟩, ⟨%d0, H0⟩, ⟨%d1, H1⟩, ⟨%d2, H2⟩, ⟨%d3, H3⟩, ⟨%d4, H4⟩, ⟨%d5, H5⟩, H6, H7, H8⟩
  isplitl [HP]; · iexact HP
  isplitl [HW]; · iexists W; iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  iexact H8

theorem post_close : iprop(Phi m c (t.val + 1) ∗ (∃ W, owes (c : Thread nD τ) 0 W) ∗ insAt m c t
    ∗ (dats m 0 c).leavesExact 6 t ∗ (dats m 0 c).leavesExact 7 t ∗ (dats m 0 c).leavesExact 8 t) ⊢ bodyPost m c t := by
  unfold bodyPost
  simp only [owns_rep]
  unfold Dat.owesAt Pipeline.owesWithin
  rw [show (dats m 0 c).owed t.succ = 0 from rfl, show (dats m 0 c).Φ t.succ = Phi m c (t.val + 1) from rfl]
  iintro ⟨HP, ⟨%W, HW⟩, ⟨H0, H1, H2, H3, H4, H5⟩, H6, H7, H8⟩
  isplitl [HP]; · iexact HP
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem leaves6 (h : t.val ≠ 0) : (dats m 0 c).leavesExact 6 t = At c (a8 t) (yT m c t) := by
  unfold Dat.leavesExact
  rw [idle6, decide_eq_false h]
  exact owns_rep _ _ _
theorem leaves6_first (h : t.val = 0) : (dats m 0 c).leavesExact 6 t = iprop(∃ d, At c (a8 t) ((dats m 0 c).before 6 t d)) := by
  rw [Dat.leavesExact_idle _ 6 t (by rw [idle6, decide_eq_true h]) (by rw [flush6, decide_eq_false (not_not.2 h)])]
  simp only [owns_rep]
theorem leaves7 : (dats m 0 c).leavesExact 7 t = At c (a9 t) (hT m c (pt (min t.val 47))) := by
  unfold Dat.leavesExact
  rw [idle7]
  by_cases h : t.val = 48
  · rw [decide_eq_true h, flush7, decide_eq_true (by omega)]
    exact owns_rep _ _ _
  · rw [decide_eq_false h]
    exact owns_rep _ _ _
theorem leaves8 : (dats m 0 c).leavesExact 8 t = At c (a10 t) (cT m c (pt (min t.val 47))) := by
  unfold Dat.leavesExact
  rw [idle8]
  by_cases h : t.val = 48
  · rw [decide_eq_true h, flush8, decide_eq_true (by omega)]
    exact owns_rep _ _ _
  · rw [decide_eq_false h]
    exact owns_rep _ _ _

theorem tile_of_lt (h : t.val < 48) : pt (min t.val 47) = t := by
  rw [show min t.val 47 = t.val by omega, pt_val]

/-- At the last point the two windows not written hold what the point before left. -/
theorem before7_last (h : t.val = 48) (d) : (dats m 0 c).before 7 t d = hT m c (pt (min t.val 47)) := by
  rw [Dat.before_of_pos _ 7 t (by omega) rfl, flush7, decide_eq_false (by show ¬ (t.val - 1 ≠ 47); omega), if_neg Bool.false_ne_true]
  unfold Dat.left
  rw [idle7, decide_eq_false (by show ¬ (t.val - 1 = 48); omega)]
  show hT m c (pt (min (t.val - 1) 47)) = _
  rw [show min (t.val - 1) 47 = min t.val 47 by omega]
theorem before8_last (h : t.val = 48) (d) : (dats m 0 c).before 8 t d = cT m c (pt (min t.val 47)) := by
  rw [Dat.before_of_pos _ 8 t (by omega) rfl, flush8, decide_eq_false (by show ¬ (t.val - 1 ≠ 47); omega), if_neg Bool.false_ne_true]
  unfold Dat.left
  rw [idle8, decide_eq_false (by show ¬ (t.val - 1 = 48); omega)]
  show cT m c (pt (min (t.val - 1) 47)) = _
  rw [show min (t.val - 1) 47 = min t.val 47 by omega]

/-- The codes' scratch after a point that writes it. -/
theorem lInv_after (h : t.val < 48) (L : S2x256x7040.Idx → Elt F .fp8e4m3) :
    At c scL (afterL (grid0.coords t) (xB m c t) (rB m c t) (gB m c t) L (scOf (scB m c t))) ⊢ lInv m c (t.val + 1) := by
  unfold lInv
  iintro H
  iexists _
  isplitr; swap; · iexact H
  ipureintro
  intro _
  have hw : wslot (grid0.coords t) = t.val % 2 := (wslot_eq _).trans (by rw [coords_val])
  rw [show (t.val + 1 + 1) % 2 = wslot (grid0.coords t) by omega, slotOf_after, show t.val + 1 - 1 = t.val from rfl, pt_val]
  rfl

/-- The result's tile written at a point. -/
theorem yNew_eq (h : 0 < t.val) (L : S2x256x7040.Idx → Elt F .fp8e4m3) (hL : t.val ≤ 48 → slotOf L ((t.val + 1) % 2) = cS m c (pt (t.val - 1))) :
    yNew (grid0.coords t) L (wAll m c) (sB m c t) (bB m c t) (scOf (scB m c t)) = yT m c t := by
  have hw : rslot (grid0.coords t) = (t.val + 1) % 2 := (rslot_eq _).trans (by rw [coords_val])
  have ht : t.val < 49 := t.isLt.trans_eq N_0
  unfold yNew yT
  rw [hw, hL (by omega)]

theorem whole_at (r : Ref sig .tc) (f : Buf (Elt F) ((c : Thread nD τ).loc r)) :
    iprop(((c : Thread nD τ).loc r) ↦{fullShare} f : sProp 𝕄) = At c (Memref.whole r) f := by
  rw [← owns_rep, owns_whole]

/-- What the kernel's own buffers hold before the first point, each by itself. -/
theorem phiD_eq : Pipeline.ΦD osem0 spec0 H0 (V m) c
    = (iprop(((∃ f, ((c : Thread nD τ).loc cc0_scratch0) ↦{fullShare} f) ∗ (∃ f, ((c : Thread nD τ).loc cc0_scratch1) ↦{fullShare} f)) ∗ (∃ r, prngReg c r)
      ∗ semVal ((c : Thread nD τ), SemLoc.dma 14) 0 ∗ (hbmW.view.loc (c : Thread nD τ) ↦{fullShare} V m c main_arg3)) : sProp 𝕄) := by
  rw [Pipeline.ΦD_eq, scopedRest0_eq, Pipeline.ownSems0_eq_of_list c osem0 [0] (by decide) (by decide),
    show H0 = {main_arg3} from rfl, BI.bigSep_eq_bigSepL_of_eq [main_arg3] (by decide) (by decide)]
  rfl

theorem phi0_open : Phi m c 0 ⊢ iprop((∃ r, prngReg c r) ∗ (∃ L, At c scL L) ∗ (hbmW.view.loc (c : Thread nD τ) ↦{fullShare} V m c main_arg3)
    ∗ (∃ fd, scW.view.loc (c : Thread nD τ) ↦[scW.view.set]{fullShare} fd) ∗ semVal ((c : Thread nD τ), SemLoc.dma 14) 0) := by
  rw [Phi_zero, phiD_eq]
  simp only [whole_at]
  iintro ⟨⟨⟨%f0, H0⟩, H1⟩, Hg, Hs, Hh⟩
  isplitl [Hg]; · iexact Hg
  isplitl [H1]; · iexact H1
  isplitl [Hh]; · iexact Hh
  isplitl [H0]; · iexists _; iexact H0
  iexact Hs

theorem phi_end (n : ℕ) (h : 1 < n) : Phi m c n ⊢ Pipeline.ΦD osem0 spec0 H0 (V m) c := by
  rw [Phi_later m c h, phiD_eq]
  simp only [whole_at]
  unfold lInv
  iintro ⟨Hg, Hs, Hh, HW, ⟨%L, -, HL⟩⟩
  isplitl [HW HL]
  · isplitl [HW]; · iexists _; iexact HW
    iexists _; iexact HL
  isplitl [Hg]; · iexact Hg
  isplitl [Hs]; · iexact Hs
  iexact Hh

/-- The obligation at a point, from the body's triple over what its buffers hold. -/
theorem sound_of (h : iprop(Phi m c t.val ∗ (∃ W, owes (c : Thread nD τ) 0 W) ∗ insAt m c t
      ∗ (∃ d, At c (a8 t) ((dats m 0 c).before 6 t d)) ∗ (∃ d, At c (a9 t) ((dats m 0 c).before 7 t d)) ∗ (∃ d, At c (a10 t) ((dats m 0 c).before 8 t d)))
      ⊢ Wp c (bodyT t) (fun _ => iprop(Phi m c (t.val + 1) ∗ (∃ W, owes (c : Thread nD τ) 0 W) ∗ insAt m c t
        ∗ (dats m 0 c).leavesExact 6 t ∗ (dats m 0 c).leavesExact 7 t ∗ (dats m 0 c).leavesExact 8 t))) :
    bodyPre m c t ⊢ wp frame (wpE (defs₀ (F := F)) Variants.none (c : Thread nD τ) none) Set.univ (bodyAt0 t) (fun _ => bodyPost m c t) := by
  rw [bodyAt_eq]
  iintro H
  ihave H := (pre_open m c t) $$ H
  iapply (wp_wand_r Idealize.ShloMosaic.frame (wpE (defs₀ (F := F)) Variants.none (c : Thread nD τ) none) Set.univ)
  isplitl [H]
  · iapply h; iexact H
  · iintro %_ H
    iapply (post_close m c t); iexact H

theorem sound_first (h : t.val = 0) : bodyPre m c t ⊢ wp frame (wpE (defs₀ (F := F)) Variants.none (c : Thread nD τ) none) Set.univ (bodyAt0 t) (fun _ => bodyPost m c t) := by
  refine sound_of m c t ?_
  rw [leaves6_first m c t h, leaves7, leaves8, tile_of_lt t (by omega)]
  have hl := lInv_after m c t (by omega)
  have hc : (grid0.coords t 0).val = 0 := by rw [coords_val, h]
  rw [h] at hl ⊢
  rw [Phi_one]
  iintro ⟨HP, ⟨%W, HV⟩, HI, ⟨%d8, H8⟩, ⟨%d9, H9⟩, ⟨%d10, H10⟩⟩
  ihave HP := (phi0_open m c) $$ HP
  icases HP with ⟨Hg, ⟨%L, HL⟩, Hh, HW, Hs⟩
  iapply (wp_keep c (body_first c (grid0.coords t) _ _ _ _ _ _ (a8 t) (hstage0_6 ((cfg0.slots t 6).cast nbuf0_6)) (a9 t) (hstage0_7 ((cfg0.slots t 7).cast nbuf0_7))
    (a10 t) (hstage0_8 ((cfg0.slots t 8).cast nbuf0_8)) (xB m c t) (rB m c t) ((dats m 0 c).before 7 t d9) (gB m c t) ((dats m 0 c).before 8 t d10) L
    (sB m c t) (scB m c t) (bB m c t) ((dats m 0 c).before 6 t d8) hc W (V m c main_arg3)) (T := iprop(∃ r, prngReg c r)) .rfl ?_)
  swap
  · isplitr [Hg]; swap; · iexact Hg
    isplitl [HI]; · iexact HI
    isplitl [H8]; · iexact H8
    isplitl [H9]; · iexact H9
    isplitl [H10]; · iexact H10
    isplitl [HL]; · iexact HL
    isplitl [Hh]; · iexact Hh
    isplitl [HW]; · iexact HW
    isplitl [Hs]; · iexact Hs
    iexact HV
  · iintro ⟨⟨HI, H8, H9, H10, HL, HF, HV⟩, Hg⟩
    isplitl [Hg HF HL]
    · isplitl [Hg]; · iexact Hg
      isplitl [HF]; · iexact HF
      iapply (hl L); iexact HL
    isplitl [HV]; · iexact HV
    isplitl [HI]; · iexact HI
    isplitl [H8]; · iexists _; iexact H8
    isplitl [H9]; · iexact H9
    iexact H10

theorem sound_second (h : t.val = 1) : bodyPre m c t ⊢ wp frame (wpE (defs₀ (F := F)) Variants.none (c : Thread nD τ) none) Set.univ (bodyAt0 t) (fun _ => bodyPost m c t) := by
  refine sound_of m c t ?_
  rw [leaves6 m c t (by omega), leaves7, leaves8, tile_of_lt t (by omega), Phi_later m c (n := t.val + 1) (by omega)]
  have hl := lInv_after m c t (by omega)
  have hy := yNew_eq m c t (by omega)
  have hc : (grid0.coords t 0).val = 1 := by rw [coords_val, h]
  rw [show Phi m c t.val = Phi m c 1 by rw [h], Phi_one, show lInv m c 1 = lInv m c t.val by rw [h]]
  rw [show lInv m c t.val = iprop(∃ L, ⌜t.val ≤ 48 → slotOf L ((t.val + 1) % 2) = cS m c (pt (t.val - 1))⌝ ∗ At c scL L) from rfl]
  iintro ⟨⟨Hg, HF, ⟨%L, %hL, HL⟩⟩, ⟨%W, HV⟩, HI, ⟨%d8, H8⟩, ⟨%d9, H9⟩, ⟨%d10, H10⟩⟩
  rw [← hy L hL]
  iapply (wp_keep c (body_second c (grid0.coords t) _ _ _ _ _ _ (a8 t) (hstage0_6 ((cfg0.slots t 6).cast nbuf0_6)) (a9 t) (hstage0_7 ((cfg0.slots t 7).cast nbuf0_7))
    (a10 t) (hstage0_8 ((cfg0.slots t 8).cast nbuf0_8)) (xB m c t) (rB m c t) ((dats m 0 c).before 7 t d9) (gB m c t) ((dats m 0 c).before 8 t d10) L
    (sB m c t) (scB m c t) (bB m c t) ((dats m 0 c).before 6 t d8) hc W (V m c main_arg3)) (T := iprop(∃ r, prngReg c r)) .rfl ?_)
  swap
  · isplitr [Hg]; swap; · iexact Hg
    isplitl [HI]; · iexact HI
    isplitl [H8]; · iexact H8
    isplitl [H9]; · iexact H9
    isplitl [H10]; · iexact H10
    isplitl [HL]; · iexact HL
    isplitl [HF]; · iexact HF
    iexact HV
  · iintro ⟨⟨⟨HI, H8, H9, H10, HL, HW⟩, Hh, Hs, HV⟩, Hg⟩
    isplitl [Hg Hs Hh HW HL]
    · isplitl [Hg]; · iexact Hg
      isplitl [Hs]; · iexact Hs
      isplitl [Hh]; · iexact Hh
      isplitl [HW]; · iexact HW
      iapply (hl L); iexact HL
    isplitl [HV]; · iexact HV
    isplitl [HI]; · iexact HI
    isplitl [H8]; · iexact H8
    isplitl [H9]; · iexact H9
    iexact H10

theorem sound_middle (h : 1 < t.val) (h' : t.val < 48) : bodyPre m c t ⊢ wp frame (wpE (defs₀ (F := F)) Variants.none (c : Thread nD τ) none) Set.univ (bodyAt0 t) (fun _ => bodyPost m c t) := by
  refine sound_of m c t ?_
  rw [leaves6 m c t (by omega), leaves7, leaves8, tile_of_lt t h', Phi_later m c h, Phi_later m c (n := t.val + 1) (by omega)]
  have hl := lInv_after m c t h'
  have hy := yNew_eq m c t (by omega)
  have hc : 1 < (grid0.coords t 0).val := by rw [coords_val]; exact h
  have hc' : (grid0.coords t 0).val < 48 := by rw [coords_val]; exact h'
  rw [show lInv m c t.val = iprop(∃ L, ⌜t.val ≤ 48 → slotOf L ((t.val + 1) % 2) = cS m c (pt (t.val - 1))⌝ ∗ At c scL L) from rfl]
  iintro ⟨⟨Hg, Hs, Hh, HW, ⟨%L, %hL, HL⟩⟩, HV, HI, ⟨%d8, H8⟩, ⟨%d9, H9⟩, ⟨%d10, H10⟩⟩
  rw [← hy L hL]
  iapply (wp_keep c (body_middle c (grid0.coords t) _ _ _ _ _ _ (a8 t) (hstage0_6 ((cfg0.slots t 6).cast nbuf0_6)) (a9 t) (hstage0_7 ((cfg0.slots t 7).cast nbuf0_7))
    (a10 t) (hstage0_8 ((cfg0.slots t 8).cast nbuf0_8)) (xB m c t) (rB m c t) ((dats m 0 c).before 7 t d9) (gB m c t) ((dats m 0 c).before 8 t d10) L (wAll m c)
    (sB m c t) (scB m c t) (bB m c t) ((dats m 0 c).before 6 t d8) hc hc')
    (T := iprop((∃ r, prngReg c r) ∗ semVal ((c : Thread nD τ), SemLoc.dma 14) 0 ∗ (hbmW.view.loc (c : Thread nD τ) ↦{fullShare} V m c main_arg3) ∗ (∃ W, owes (c : Thread nD τ) 0 W))) .rfl ?_)
  swap
  · isplitl [HI H8 H9 H10 HL HW]
    · isplitl [HI]; · iexact HI
      isplitl [H8]; · iexact H8
      isplitl [H9]; · iexact H9
      isplitl [H10]; · iexact H10
      isplitl [HL]; · iexact HL
      iexact HW
    isplitl [Hg]; · iexact Hg
    isplitl [Hs]; · iexact Hs
    isplitl [Hh]; · iexact Hh
    iexact HV
  · iintro ⟨⟨HI, H8, H9, H10, HL, HW⟩, Hg, Hs, Hh, HV⟩
    isplitl [Hg Hs Hh HW HL]
    · isplitl [Hg]; · iexact Hg
      isplitl [Hs]; · iexact Hs
      isplitl [Hh]; · iexact Hh
      isplitl [HW]; · iexact HW
      iapply (hl L); iexact HL
    isplitl [HV]; · iexact HV
    isplitl [HI]; · iexact HI
    isplitl [H8]; · iexact H8
    isplitl [H9]; · iexact H9
    iexact H10

theorem sound_last (h : t.val = 48) : bodyPre m c t ⊢ wp frame (wpE (defs₀ (F := F)) Variants.none (c : Thread nD τ) none) Set.univ (bodyAt0 t) (fun _ => bodyPost m c t) := by
  refine sound_of m c t ?_
  rw [leaves6 m c t (by omega), leaves7, leaves8, Phi_later m c (n := t.val) (by omega), Phi_later m c (n := t.val + 1) (by omega)]
  have hy := yNew_eq m c t (by omega)
  have hc : (grid0.coords t 0).val = 48 := by rw [coords_val, h]
  simp only [before7_last m c t h, before8_last m c t h]
  unfold lInv
  iintro ⟨⟨Hg, Hs, Hh, HW, ⟨%L, %hL, HL⟩⟩, HV, HI, ⟨%d8, H8⟩, ⟨%d9, H9⟩, ⟨%d10, H10⟩⟩
  rw [← hy L hL]
  iapply (wp_keep c (body_last c (grid0.coords t) _ _ _ _ _ _ (a8 t) (hstage0_6 ((cfg0.slots t 6).cast nbuf0_6)) (a9 t) (hstage0_7 ((cfg0.slots t 7).cast nbuf0_7))
    (a10 t) (hstage0_8 ((cfg0.slots t 8).cast nbuf0_8)) (xB m c t) (rB m c t) (gB m c t) L (wAll m c)
    (sB m c t) (scB m c t) (bB m c t) ((dats m 0 c).before 6 t d8) hc)
    (T := iprop((∃ r, prngReg c r) ∗ semVal ((c : Thread nD τ), SemLoc.dma 14) 0 ∗ (hbmW.view.loc (c : Thread nD τ) ↦{fullShare} V m c main_arg3) ∗ (∃ W, owes (c : Thread nD τ) 0 W)
      ∗ At c (a9 t) (hT m c (pt (min t.val 47))) ∗ At c (a10 t) (cT m c (pt (min t.val 47))))) .rfl ?_)
  swap
  · isplitl [HI H8 HL HW]
    · isplitl [HI]; · iexact HI
      isplitl [H8]; · iexact H8
      isplitl [HL]; · iexact HL
      iexact HW
    isplitl [Hg]; · iexact Hg
    isplitl [Hs]; · iexact Hs
    isplitl [Hh]; · iexact Hh
    isplitl [HV]; · iexact HV
    isplitl [H9]; · iexact H9
    iexact H10
  · iintro ⟨⟨HI, H8, HL, HW⟩, Hg, Hs, Hh, HV, H9, H10⟩
    isplitl [Hg Hs Hh HW HL]
    · isplitl [Hg]; · iexact Hg
      isplitl [Hs]; · iexact Hs
      isplitl [Hh]; · iexact Hh
      isplitl [HW]; · iexact HW
      iexists L
      isplitr; · ipureintro; intro h'; omega
      iexact HL
    isplitl [HV]; · iexact HV
    isplitl [HI]; · iexact HI
    isplitl [H8]; · iexact H8
    isplitl [H9]; · iexact H9
    iexact H10

theorem sound_body : bodyPre m c t ⊢ wp frame (wpE (defs₀ (F := F)) Variants.none (c : Thread nD τ) none) Set.univ (bodyAt0 t) (fun _ => bodyPost m c t) := by
  have ht : t.val < 49 := t.isLt.trans_eq N_0
  by_cases h0 : t.val = 0
  · exact sound_first m c t h0
  by_cases h1 : t.val = 1
  · exact sound_second m c t h1
  by_cases h2 : t.val = 48
  · exact sound_last m c t h2
  · exact sound_middle m c t (by omega) (by omega)

end Obligation

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : Pipeline.ΦD osem0 spec0 H0 (V m) c ⊢ (dats m 0 c).Φ 0 := by
  rw [show (dats m 0 c).Φ 0 = Phi m c 0 from rfl, Phi_zero]

theorem phi_out (c : Dev nD) : (dats m 0 c).Φ (Fin.last cfg0.N) ⊢ Pipeline.ΦD osem0 spec0 H0 (V m) c :=
  phi_end m c cfg0.N (by rw [show cfg0.N = 49 from N_0]; decide)

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps) (hmain := hmainD m Variants.none) (hA := A_eq m)
    (hin := phi_in m) (hout := phi_out m) (hQ' := fun _ h => h)

/-- What an array that no line after the region writes and no window names ends at: its contents at the launch. -/
theorem W_kept (b : Ref sig .tc) (c : Dev nD) (hb : ∀ op ∈ (hostOps1 : List (HloOp τ sig (Elt F))), Proc.devRef .tc b ∉ op.writes)
    (hw : ∀ w, Pipeline.arrRef spec0 w ≠ b) (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (by simpa only [List.flatten_cons, List.flatten_nil, List.append_nil] using hb),
    Pipeline.withArrays_of_ne _ c (V0 m c) _ b hw]
  exact hV

/-- The lines after the region write the three results only. -/
theorem tail_writes (b : Ref sig .tc) (h : main_v7 ≠ b ∧ main_v8 ≠ b ∧ main_v9 ≠ b) :
    ∀ op ∈ (hostOps1 : List (HloOp τ sig (Elt F))), Proc.devRef .tc b ∉ op.writes := by
  intro op hop
  simp only [hostOps1, List.mem_cons, List.mem_nil_iff, or_false] at hop
  rcases hop with rfl | rfl | rfl <;> simp only [StableHlo.reshape_writes, Finset.mem_singleton]
  · exact StableHlo.devRef_ne_of_ne h.1.symm
  · exact StableHlo.devRef_ne_of_ne h.2.1.symm
  · exact StableHlo.devRef_ne_of_ne h.2.2.symm

/-- An argument array after the run. -/
theorem kept_of {r : PUnit × MemSt nD τ sig (Elt F)} (h : Pipeline.FramePost cfgs (dats m) 0 (Pipeline.afterTail₀ cfgs (dats m) 0 (V0 m) [hostOps1]) r)
    (c : Dev nD) (b : Ref sig .tc) (hr : b ∈ Pipeline.restRefs sig spec0) (h' : main_v7 ≠ b ∧ main_v8 ≠ b ∧ main_v9 ≠ b)
    (hw : ∀ w, Pipeline.arrRef spec0 w ≠ b) (hV : V m c b = m ((c : Thread nD τ).loc b)) :
    r.2.mem ((c.tc : Thread nD τ).loc b) = m ((c.tc : Thread nD τ).loc b) :=
  ((h c).2 b hr).trans (W_kept m b c (tail_writes b h') hw hV)

/-- Every argument array after the run. -/
theorem args_of {r : PUnit × MemSt nD τ sig (Elt F)} (h : Pipeline.FramePost cfgs (dats m) 0 (Pipeline.afterTail₀ cfgs (dats m) 0 (V0 m) [hostOps1]) r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨kept_of m h c _ (Pipeline.mem_restRefs_of _ (by decide) (by decide)) (by decide) (by decide) (V_main_arg0 m c),
    kept_of m h c _ (Pipeline.mem_restRefs_of _ (by decide) (by decide)) (by decide) (by decide) (V_main_arg1 m c),
    kept_of m h c _ (Pipeline.mem_restRefs_of _ (by decide) (by decide)) (by decide) (by decide) (V_main_arg2 m c),
    kept_of m h c _ (Pipeline.mem_restRefs_of _ (by decide) (by decide)) (by decide) (by decide) (V_main_arg3 m c),
    kept_of m h c _ (Pipeline.mem_restRefs_of _ (by decide) (by decide)) (by decide) (by decide) (V_main_arg4 m c),
    kept_of m h c _ (Pipeline.mem_restRefs_of _ (by decide) (by decide)) (by decide) (by decide) (V_main_arg5 m c),
    kept_of m h c _ (Pipeline.mem_restRefs_of _ (by decide) (by decide)) (by decide) (by decide) (V_main_arg6 m c)⟩

/-- The frame: the program ends, every argument array as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_of m h.1 c, h.2⟩) (run_main m ρ)

end Cert.KernelIdeal.Hand

end
-- ==== Proof.KernelIdealValues.lean ====
/-
  The values of one tile at exact numbers: the sum, the codes and the product of the codes with the weight, each at an
  index, as arithmetic on the extended reals.
-/
module

public import proofs.«01_k».proof.Proof.KernelIdealStep
public import Idealize.ShloMosaic.Lib.Pointwise

@[expose] public section

set_option maxRecDepth 65536

noncomputable section

namespace Cert.KernelIdeal.Hand

open Cert.KernelIdeal Cert.KernelIdeal.Gen
open Idealize.ShloMosaic hiding ix2 ix3
open Idealize.ShloMosaic.TcCoe
open Idealize.ShloMosaic.ValueIdx (ix2 ix3)

/-! ## The formulas -/

/-- A value limited to the range of the codes. -/
def clip (v : EReal) : EReal := min (Ideal.ofBits .f32 0x43E00000#32) (max (Ideal.ofBits .f32 0xC3E00000#32) v)

/-- A code: the sum `h` over the root of the mean of its row's squares (`q` their sum), times `g`, over the scale `s`. -/
def code (h q g s : EReal) : EReal :=
  clip (Ideal.div (h * Ideal.rsqrt (q * ((1 / 7040 : ℝ) : EReal) + Ideal.ofBits .f32 0x358637BD#32) * g) s)

theorem code_congr {h h' q q' g g' s : EReal} (eh : h = h') (eq : q = q') (eg : g = g') : code h q g s = code h' q' g' s := by
  rw [eh, eq, eg]

/-- A product's row against a weight's row, times the two scales `v` and `s`, plus `b`. -/
def prod (t w : Fin 7040 → EReal) (v s b : EReal) : EReal := (∑ j : Fin 7040, t j * w j) * (v * s) + b

/-- The kernel's named reciprocal is 1/7040. -/
theorem inv_d : Named.named (F := Ideal) κ "inv_d" (φ := .f32) 0x3914F209#32 = ((1 / 7040 : ℝ) : EReal) :=
  IdealRules.named_const.ideal_named_scalar _ _ _ _ rfl

/-! ## The sum -/

theorem rowBlk_self {α : Type} (X : S256x7040.Idx → α) (y : S256x7040.Idx) :
    rowBlk X (32 * ((y 0).val / 32)) ((y 1).val / 128)
      (ix2 ⟨(y 0).val % 32, Nat.mod_lt _ (by decide)⟩ ⟨(y 1).val % 128, Nat.mod_lt _ (by decide)⟩) = X y := by
  refine congrArg X (funext fun a => Fin.ext ?_)
  have h0 : (y 0).val < 256 := (y 0).isLt
  have h1 : (y 1).val < 7040 := (y 1).isLt
  match a with
  | ⟨0, _⟩ => show (32 * ((y 0).val / 32) + (y 0).val % 32) % 256 = (y 0).val; omega
  | ⟨1, _⟩ => show (128 * ((y 1).val / 128) + (y 1).val % 128) % 7040 = (y 1).val; omega

theorem rowOne_self {α : Type} (G : S1x7040.Idx → α) (a : Fin 1) (j : Fin 7040) :
    rowOne G (j.val / 128) (ix2 a ⟨j.val % 128, Nat.mod_lt _ (by decide)⟩) = G (ix2 0 j) := by
  refine congrArg G (funext fun d => Fin.ext ?_)
  have h1 := j.isLt
  match d with
  | ⟨0, _⟩ => rfl
  | ⟨1, _⟩ => show (128 * (j.val / 128) + j.val % 128) % 7040 = j.val; omega

theorem pay22_apply (a b : Vec Ideal S32x128 .bf16) (j : S32x128.Idx) : k0_pay22 (F := Ideal) a b j = (a j + b j : EReal) := by
  pointwise [k0_pay22]

theorem hV_apply (X R : S256x7040.Idx → Elt Ideal .bf16) (y : S256x7040.Idx) : hV (F := Ideal) X R y = (X y + R y : EReal) := by
  unfold hV k0_pay23
  refine (pay22_apply _ _ _).trans ?_
  rw [rowBlk_self, rowBlk_self]

/-! ## The codes -/

theorem sqAcc_apply (X R : S256x7040.Idx → Elt Ideal .bf16) (r0 : ℕ) (j : S32x128.Idx) : ∀ k : ℕ, sqAcc (F := Ideal) X R r0 k j
    = ∑ i : Fin k, ((rowBlk X r0 i j + rowBlk R r0 i j) * (rowBlk X r0 i j + rowBlk R r0 i j) : EReal)
  | 0 => by
    show k0_pay21 (F := Ideal) j = _
    pointwise [k0_pay21]
    rfl
  | k + 1 => by
    rw [Fin.sum_univ_castSucc]
    show k0_pay24 (F := Ideal) (sqAcc X R r0 k) (rowBlk X r0 k) (rowBlk R r0 k) j = _
    have e : k0_pay24 (F := Ideal) (sqAcc X R r0 k) (rowBlk X r0 k) (rowBlk R r0 k) j
        = (sqAcc (F := Ideal) X R r0 k j + k0_pay22 (F := Ideal) (rowBlk X r0 k) (rowBlk R r0 k) j * k0_pay22 (F := Ideal) (rowBlk X r0 k) (rowBlk R r0 k) j : EReal) := rfl
    rw [e, pay22_apply, sqAcc_apply X R r0 j k]
    rfl

/-- The sum of a row's squares, by columns. -/
def rowSq (X R : S256x7040.Idx → EReal) (r : Fin 256) : EReal := ∑ j : Fin 7040, (X (ix2 r j) + R (ix2 r j)) * (X (ix2 r j) + R (ix2 r j))

theorem sq_row (X R : S256x7040.Idx → Elt Ideal .bf16) (r : Fin 256) :
    (∑ b : Fin 128, sqAcc (F := Ideal) X R (32 * (r.val / 32)) 55 (ix2 ⟨r.val % 32, Nat.mod_lt _ (by decide)⟩ b) : EReal) = rowSq X R r := by
  have hr := r.isLt
  have key : ∀ (Z : S256x7040.Idx → EReal) (i : Fin 55) (b : Fin 128) (h : i.val * 128 + b.val < 7040),
      rowBlk Z (32 * (r.val / 32)) i (ix2 ⟨r.val % 32, Nat.mod_lt _ (by decide)⟩ b) = Z (ix2 r ⟨i.val * 128 + b.val, h⟩) := fun Z i b h => by
    refine congrArg Z (funext fun d => Fin.ext ?_)
    have hi := i.isLt
    have hb := b.isLt
    match d with
    | ⟨0, _⟩ => show (32 * (r.val / 32) + r.val % 32) % 256 = r.val; omega
    | ⟨1, _⟩ => show (128 * i.val + b.val) % 7040 = i.val * 128 + b.val; omega
  refine Eq.trans ?_ (Fin.sum_univ_tiles (N := 7040) 55 128 (by decide) _).symm
  refine (Finset.sum_congr rfl fun b _ => sqAcc_apply X R _ _ 55).trans ?_
  refine Finset.sum_comm.trans ?_
  refine Finset.sum_congr rfl fun i _ => Finset.sum_congr rfl fun b _ => ?_
  have hi := i.isLt
  have hb := b.isLt
  rw [key X i b (by omega), key R i b (by omega)]

theorem pay25_apply (v0 : Elt Ideal .f32) (q : FVec Ideal S32x128 .f32) (a b : Vec Ideal S32x128 .bf16) (g : Vec Ideal S1x128 .bf16) (r : Fin 32) (l : Fin 128) :
    k0_pay25 (F := Ideal) v0 q a b g (ix2 r l) = code (a (ix2 r l) + b (ix2 r l)) (∑ k : Fin 128, q (ix2 r k)) (g (ix2 0 l)) v0 := by
  unfold code clip
  pointwise [k0_pay25, inv_d, ix2_eq_valueIdx]

theorem cV_apply (X R : S256x7040.Idx → Elt Ideal .bf16) (G : S1x7040.Idx → Elt Ideal .bf16) (v0 : Elt Ideal .f32) (r : Fin 256) (j : Fin 7040) :
    cV (F := Ideal) X R G v0 (ix2 r j) = code (X (ix2 r j) + R (ix2 r j)) (rowSq X R r) (G (ix2 0 j)) v0 := by
  unfold cV
  refine (pay25_apply _ _ _ _ _ _ _).trans ?_
  rw [rowBlk_self X (ix2 r j), rowBlk_self R (ix2 r j)]
  exact code_congr rfl (sq_row X R r) (rowOne_self G 0 j)

/-! ## The product -/

theorem pay64_apply (v0 : Elt Ideal .f32) (T : Vec Ideal S1x256x7040 .fp8e4m3) (W : Vec Ideal S512x7040 .fp8e4m3) (s : Vec Ideal S1x512 .f32) (b : Vec Ideal S1x512 .bf16) (r : Fin 256) (n : Fin 512) :
    k0_pay64 (F := Ideal) v0 T W s b (ix2 r n) = prod (fun j => T (ix3 0 r j)) (fun j => W (ix2 n j)) v0 (s (ix2 0 n)) (b (ix2 0 n)) := by
  unfold prod
  pointwise [k0_pay64, ix2_eq_valueIdx, ix3_eq_valueIdx]

theorem pay103_apply (v0 : Elt Ideal .f32) (T : Vec Ideal S1x256x7040 .fp8e4m3) (W : Vec Ideal S384x7040 .fp8e4m3) (s : Vec Ideal S1x384 .f32) (b : Vec Ideal S1x384 .bf16) (r : Fin 256) (n : Fin 384) :
    k0_pay103 (F := Ideal) v0 T W s b (ix2 r n) = prod (fun j => T (ix3 0 r j)) (fun j => W (ix2 n j)) v0 (s (ix2 0 n)) (b (ix2 0 n)) := by
  unfold prod
  pointwise [k0_pay103, ix2_eq_valueIdx, ix3_eq_valueIdx]

theorem yV_apply (T : S1x256x7040.Idx → Elt Ideal .fp8e4m3) (W : S1920x7040.Idx → Elt Ideal .fp8e4m3) (S : S1x1920.Idx → Elt Ideal .f32) (B : S1x1920.Idx → Elt Ideal .bf16)
    (v0 : Elt Ideal .f32) (r : Fin 256) (n : Fin 1920) :
    yV (F := Ideal) T W S B v0 (ix2 r n) = prod (fun j => T (ix3 0 r j)) (fun j => W (ix2 n j)) v0 (S (ix2 0 n)) (B (ix2 0 n)) := by
  have hn := n.isLt
  unfold yV
  by_cases h : n.val < 1536
  · refine (if_pos h).trans ((pay64_apply _ _ _ _ _ _ _).trans ?_)
    have e : (⟨(512 * (n.val / 512) + n.val % 512) % 1920, Nat.mod_lt _ (by decide)⟩ : Fin 1920) = n := Fin.ext (by show (512 * (n.val / 512) + n.val % 512) % 1920 = n.val; omega)
    exact congrArg (fun n' : Fin 1920 => prod (fun j => T (ix3 0 r j)) (fun j => W (ix2 n' j)) v0 (S (ix2 0 n')) (B (ix2 0 n'))) e
  · refine (if_neg h).trans ((pay103_apply _ _ _ _ _ _ _).trans ?_)
    have e : (⟨(1536 + (n.val - 1536) % 384) % 1920, Nat.mod_lt _ (by decide)⟩ : Fin 1920) = n := Fin.ext (by show (1536 + (n.val - 1536) % 384) % 1920 = n.val; omega)
    exact congrArg (fun n' : Fin 1920 => prod (fun j => T (ix3 0 r j)) (fun j => W (ix2 n' j)) v0 (S (ix2 0 n')) (B (ix2 0 n'))) e

end Cert.KernelIdeal.Hand

end
-- ==== Proof.KernelIdealArrays.lean ====
/-
  The kernel's three result arrays at exact numbers, from the tiles the points write back: each an arithmetic expression
  of the arrays the kernel reads, at every index.
-/
module

public import proofs.«01_k».proof.Proof.KernelIdealFrame
public import proofs.«01_k».proof.Proof.KernelIdealValues
public import Idealize.ShloMosaic.Lib.Pipeline.ValueKit
public import Idealize.ShloMosaic.Lib.StableHlo.Run

@[expose] public section

set_option maxRecDepth 65536

noncomputable section

namespace Cert.KernelIdeal.Hand

open Cert.KernelIdeal Cert.KernelIdeal.Gen
open Idealize.ShloMosaic hiding ix0 ix1 ix2 ix3
open Idealize.ShloMosaic.TcCoe
open Idealize.ShloMosaic.ValueIdx (ix0 ix1 ix2 ix3)
open Idealize.SL.Sem Idealize.ShloMosaic.StableHlo
open Idealize.ShloMosaic.Pipeline (Dat Cfg Window)

/-! ## The arrays by formula -/

/-- The sum of the squares of row `i` of `x + r`. -/
def rowSqA (x r : S12288x7040.Idx → EReal) (i : Fin 12288) : EReal :=
  ∑ j : Fin 7040, (x (ix2 i j) + r (ix2 i j)) * (x (ix2 i j) + r (ix2 i j))

/-- The codes, of the operands `x` and `r`, the weight of the norm `g` and the scale `s`. -/
def cA (x r : S12288x7040.Idx → EReal) (g : Fin 7040 → EReal) (s : EReal) : S12288x7040.Idx → EReal :=
  fun i => code (x i + r i) (rowSqA x r (i 0)) (g (i 1)) s

/-- The product of the codes `q` with the weight `w`, scaled by `s` and `ws`, plus `b`. -/
def yA (q : S12288x7040.Idx → EReal) (s : EReal) (w : S1920x7040.Idx → EReal) (ws b : Fin 1920 → EReal) : S12288x1920.Idx → EReal :=
  fun i => prod (fun j => q (ix2 (i 0) j)) (fun j => w (ix2 (i 1) j)) s (ws (i 1)) (b (i 1))

/-! ## The blocks -/

theorem index0 (t : Fin cfg0.N) : win0_0.index t = ![min t.val 47, 0] :=
  (by decide +kernel : ∀ t : Fin grid0.N, win0_0.index t = ![min t.val 47, 0]) t
theorem index1 (t : Fin cfg0.N) : win0_1.index t = ![min t.val 47, 0] :=
  (by decide +kernel : ∀ t : Fin grid0.N, win0_1.index t = ![min t.val 47, 0]) t
theorem index6 (t : Fin cfg0.N) : win0_6.index t = ![t.val - 1, 0] :=
  (by decide +kernel : ∀ t : Fin grid0.N, win0_6.index t = ![t.val - 1, 0]) t
theorem index7 (t : Fin cfg0.N) : win0_7.index t = ![min t.val 47, 0] :=
  (by decide +kernel : ∀ t : Fin grid0.N, win0_7.index t = ![min t.val 47, 0]) t
theorem index8 (t : Fin cfg0.N) : win0_8.index t = ![min t.val 47, 0] :=
  (by decide +kernel : ∀ t : Fin grid0.N, win0_8.index t = ![min t.val 47, 0]) t

/-- Row `a` of tile `k`. -/
def rowOf (k : ℕ) (a : Fin 256) : Fin 12288 := ⟨(256 * k + a.val) % 12288, Nat.mod_lt _ (by decide)⟩

section Blocks

variable {F : FTy → Type} [FloatOps F] [Named F]
variable (m : (ℓ : Loc nD τ sig) → Buf (Elt F) ℓ) (c : Dev nD) (t : Fin cfg0.N)

theorem xB_apply (r : Fin 256) (j : Fin 7040) : xB m c t (ix2 r j) = V m c main_v0 (ix2 (rowOf (min t.val 47) r) j) := by
  show iblk m c 0 t (ix2 r j) = _
  have hr := r.isLt
  unfold iblk
  blk_simp
  refine congrArg (V m c main_v0) (funext fun a => Fin.ext ?_)
  match a with
  | ⟨0, _⟩ => blk_simp; rw [index0 t]; show min t.val 47 * 256 + r.val = (256 * min t.val 47 + r.val) % 12288; omega
  | ⟨1, _⟩ => blk_simp; rw [index0 t]; show 0 * 7040 + j.val = j.val; omega

theorem rB_apply (r : Fin 256) (j : Fin 7040) : rB m c t (ix2 r j) = V m c main_v1 (ix2 (rowOf (min t.val 47) r) j) := by
  show iblk m c 1 t (ix2 r j) = _
  have hr := r.isLt
  unfold iblk
  blk_simp
  refine congrArg (V m c main_v1) (funext fun a => Fin.ext ?_)
  match a with
  | ⟨0, _⟩ => blk_simp; rw [index1 t]; show min t.val 47 * 256 + r.val = (256 * min t.val 47 + r.val) % 12288; omega
  | ⟨1, _⟩ => blk_simp; rw [index1 t]; show 0 * 7040 + j.val = j.val; omega

theorem gB_eq : gB m c t = V m c main_v2 := by
  funext y
  show iblk m c 2 t y = _
  unfold iblk
  blk_simp
  refine congrArg (V m c main_v2) (funext fun a => Fin.ext ?_)
  match a with
  | ⟨0, _⟩ => blk_simp; rfl
  | ⟨1, _⟩ => blk_simp; show 0 * 7040 + (y 1).val = (y 1).val; omega
theorem sB_eq : sB m c t = V m c main_v3 := by
  funext y
  show iblk m c 3 t y = _
  unfold iblk
  blk_simp
  refine congrArg (V m c main_v3) (funext fun a => Fin.ext ?_)
  match a with
  | ⟨0, _⟩ => blk_simp; rfl
  | ⟨1, _⟩ => blk_simp; show 0 * 1920 + (y 1).val = (y 1).val; omega
theorem scB_eq : scB m c t = V m c main_v4 := by
  funext y
  show iblk m c 4 t y = _
  unfold iblk
  blk_simp
  refine congrArg (V m c main_v4) (funext fun a => Fin.ext ?_)
  match a with
  | ⟨0, _⟩ => blk_simp; rfl
  | ⟨1, _⟩ => blk_simp; rfl
theorem bB_eq : bB m c t = V m c main_v5 := by
  funext y
  show iblk m c 5 t y = _
  unfold iblk
  blk_simp
  refine congrArg (V m c main_v5) (funext fun a => Fin.ext ?_)
  match a with
  | ⟨0, _⟩ => blk_simp; rfl
  | ⟨1, _⟩ => blk_simp; show 0 * 1920 + (y 1).val = (y 1).val; omega
theorem wAll_eq : wAll m c = V m c main_arg3 := rfl

end Blocks

/-! ## The arrays -/

variable (m : (ℓ : Loc nD τ sig) → Buf (Elt Ideal) ℓ) (c : Dev nD)

/-- The kernel's operands as it reads them. -/
abbrev xV : S12288x7040.Idx → EReal := V m c main_v0
abbrev rV : S12288x7040.Idx → EReal := V m c main_v1
abbrev gV : Fin 7040 → EReal := fun j => (V m c main_v2 : S1x7040.Idx → EReal) (ix2 0 j)
abbrev wsV : Fin 1920 → EReal := fun n => (V m c main_v3 : S1x1920.Idx → EReal) (ix2 0 n)
abbrev sV : EReal := (V m c main_v4 : S1x1.Idx → EReal) (ix2 0 0)
abbrev bV : Fin 1920 → EReal := fun n => (V m c main_v5 : S1x1920.Idx → EReal) (ix2 0 n)
abbrev wV : S1920x7040.Idx → EReal := V m c main_arg3

theorem hT_apply (t : Fin cfg0.N) (r : Fin 256) (j : Fin 7040) :
    hT m c t (ix2 r j) = xV m c (ix2 (rowOf (min t.val 47) r) j) + rV m c (ix2 (rowOf (min t.val 47) r) j) := by
  refine (hV_apply _ _ _).trans ?_
  rw [xB_apply, rB_apply]

theorem cT_apply (t : Fin cfg0.N) (r : Fin 256) (j : Fin 7040) :
    cT m c t (ix2 r j) = cA (xV m c) (rV m c) (gV m c) (sV m c) (ix2 (rowOf (min t.val 47) r) j) := by
  refine (cV_apply _ _ _ _ _ _).trans ?_
  rw [gB_eq, scB_eq]
  refine code_congr ?_ ?_ rfl
  · rw [xB_apply, rB_apply]
  · unfold rowSq rowSqA
    refine Finset.sum_congr rfl fun j _ => ?_
    rw [xB_apply, rB_apply]

theorem yT_apply (t : Fin cfg0.N) (ht : t.val ≠ 0) (r : Fin 256) (n : Fin 1920) :
    yT m c t (ix2 r n) = yA (cA (xV m c) (rV m c) (gV m c) (sV m c)) (sV m c) (wV m c) (wsV m c) (bV m c) (ix2 (rowOf (t.val - 1) r) n) := by
  refine (yV_apply _ _ _ _ _ _ _).trans ?_
  rw [sB_eq, scB_eq, bB_eq, wAll_eq]
  have h49 : t.val < 49 := t.isLt.trans_eq N_0
  have e : (fun j => cS m c (pt (t.val - 1)) (ix3 0 r j)) = fun j => cA (xV m c) (rV m c) (gV m c) (sV m c) (ix2 (rowOf (t.val - 1) r) j) := by
    funext j
    refine (cT_apply m c _ r j).trans ?_
    have e' : min (pt (t.val - 1)).val 47 = t.val - 1 := by show min (min (t.val - 1) 48) 47 = t.val - 1; omega
    rw [e']
  rw [e]
  rfl

theorem arr7 : (dats m 0 c).arrAt 7 cfg0.N = fun i => xV m c i + rV m c i := by
  refine (dats m 0 c).arrAt_eq_of_covers 7 _ (by decide +kernel) fun t hf y => ?_
  blk_simp
  rw [after0_7]
  have h49 : t.val < 49 := t.isLt.trans_eq N_0
  have h0 : (y 0).val < 256 := (y 0).isLt
  have h1 : (y 1).val < 7040 := (y 1).isLt
  have e : ((cfg0.win 7).blk t).view.emb y = ix2 (rowOf (min t.val 47) (y 0)) (y 1) := by
    funext a
    apply Fin.ext
    match a with
    | ⟨0, _⟩ => blk_simp; rw [index7 t]; show min t.val 47 * 256 + (y 0).val = (256 * min t.val 47 + (y 0).val) % 12288; omega
    | ⟨1, _⟩ => blk_simp; rw [index7 t]; show 0 * 7040 + (y 1).val = (y 1).val; omega
  rw [e]
  have e' : min (pt (min t.val 47)).val 47 = min t.val 47 := by show min (min (min t.val 47) 48) 47 = min t.val 47; omega
  have h := hT_apply m c (pt (min t.val 47)) (y 0) (y 1)
  rw [e'] at h
  exact (congrArg (hT m c (pt (min t.val 47))) (ValueIdx.eq_ix2 y)).trans h

theorem arr8 : (dats m 0 c).arrAt 8 cfg0.N = cA (xV m c) (rV m c) (gV m c) (sV m c) := by
  refine (dats m 0 c).arrAt_eq_of_covers 8 _ (by decide +kernel) fun t hf y => ?_
  blk_simp
  rw [after0_8]
  have h49 : t.val < 49 := t.isLt.trans_eq N_0
  have h0 : (y 0).val < 256 := (y 0).isLt
  have h1 : (y 1).val < 7040 := (y 1).isLt
  have e : ((cfg0.win 8).blk t).view.emb y = ix2 (rowOf (min t.val 47) (y 0)) (y 1) := by
    funext a
    apply Fin.ext
    match a with
    | ⟨0, _⟩ => blk_simp; rw [index8 t]; show min t.val 47 * 256 + (y 0).val = (256 * min t.val 47 + (y 0).val) % 12288; omega
    | ⟨1, _⟩ => blk_simp; rw [index8 t]; show 0 * 7040 + (y 1).val = (y 1).val; omega
  rw [e]
  have e' : min (pt (min t.val 47)).val 47 = min t.val 47 := by show min (min (min t.val 47) 48) 47 = min t.val 47; omega
  have h := cT_apply m c (pt (min t.val 47)) (y 0) (y 1)
  rw [e'] at h
  exact (congrArg (cT m c (pt (min t.val 47))) (ValueIdx.eq_ix2 y)).trans h

theorem arr6 : (dats m 0 c).arrAt 6 cfg0.N = yA (cA (xV m c) (rV m c) (gV m c) (sV m c)) (sV m c) (wV m c) (wsV m c) (bV m c) := by
  refine (dats m 0 c).arrAt_eq_of_covers 6 _ (by decide +kernel) fun t hf y => ?_
  blk_simp
  rw [after0_6]
  have h49 : t.val < 49 := t.isLt.trans_eq N_0
  have h0 : (y 0).val < 256 := (y 0).isLt
  have h1 : (y 1).val < 1920 := (y 1).isLt
  have ht : t.val ≠ 0 := of_decide_eq_true ((flush6 t).symm.trans hf)
  have e : ((cfg0.win 6).blk t).view.emb y = ix2 (rowOf (t.val - 1) (y 0)) (y 1) := by
    funext a
    apply Fin.ext
    match a with
    | ⟨0, _⟩ => blk_simp; rw [index6 t]; show (t.val - 1) * 256 + (y 0).val = (256 * (t.val - 1) + (y 0).val) % 12288; omega
    | ⟨1, _⟩ => blk_simp; rw [index6 t]; show 0 * 1920 + (y 1).val = (y 1).val; omega
  rw [e]
  exact (congrArg (yT m c t) (ValueIdx.eq_ix2 y)).trans (yT_apply m c t ht (y 0) (y 1))

/-! ## The results -/

set_option maxHeartbeats 1400000 in
theorem tail7 (U : Valuation τ sig (Elt Ideal)) : after (List.flatten [hostOps1]) U (Proc.devRef .tc main_v7)
    = shapeCast S4x3072x1920 (U (Proc.devRef .tc main_v6_0) : S12288x1920.Idx → EReal) shapeCasts_S12288x1920_S4x3072x1920 := by
  simp only [hostOps1, List.flatten_cons, List.flatten_nil, List.append_nil, List.cons_append, List.nil_append]
  after_results <;> rfl
set_option maxHeartbeats 1400000 in
theorem tail8 (U : Valuation τ sig (Elt Ideal)) : after (List.flatten [hostOps1]) U (Proc.devRef .tc main_v8)
    = shapeCast S4x3072x7040 (U (Proc.devRef .tc main_v6_1) : S12288x7040.Idx → EReal) shapeCasts_S12288x7040_S4x3072x7040 := by
  simp only [hostOps1, List.flatten_cons, List.flatten_nil, List.append_nil, List.cons_append, List.nil_append]
  after_results <;> rfl
set_option maxHeartbeats 1400000 in
theorem tail9 (U : Valuation τ sig (Elt Ideal)) : after (List.flatten [hostOps1]) U (Proc.devRef .tc main_v9)
    = shapeCast S4x3072x7040 (U (Proc.devRef .tc main_v6_2) : S12288x7040.Idx → EReal) shapeCasts_S12288x7040_S4x3072x7040 := by
  simp only [hostOps1, List.flatten_cons, List.flatten_nil, List.append_nil, List.cons_append, List.nil_append]
  after_results <;> rfl

/-- What the region finds in the arrays it reads: the arguments reshaped. -/
theorem V_main_v0 : (V m c main_v0 : S12288x7040.Idx → EReal) = shapeCast S12288x7040 (m ((c.tc : Thread nD τ).loc main_arg0)) shapeCasts_S4x3072x7040_S12288x7040 := by
  show Gen.V0 m c (Proc.devRef .tc main_v0) = _
  simp only [Gen.V0, Gen.hostOps0, List.flatten_cons, List.flatten_nil, List.append_nil, List.cons_append, List.nil_append]
  after_results_simp <;> rfl
theorem V_main_v1 : (V m c main_v1 : S12288x7040.Idx → EReal) = shapeCast S12288x7040 (m ((c.tc : Thread nD τ).loc main_arg1)) shapeCasts_S4x3072x7040_S12288x7040 := by
  show Gen.V0 m c (Proc.devRef .tc main_v1) = _
  simp only [Gen.V0, Gen.hostOps0, List.flatten_cons, List.flatten_nil, List.append_nil, List.cons_append, List.nil_append]
  after_results_simp <;> rfl
theorem V_main_v2 : (V m c main_v2 : S1x7040.Idx → EReal) = shapeCast S1x7040 (m ((c.tc : Thread nD τ).loc main_arg2)) shapeCasts_S7040_S1x7040 := by
  show Gen.V0 m c (Proc.devRef .tc main_v2) = _
  simp only [Gen.V0, Gen.hostOps0, List.flatten_cons, List.flatten_nil, List.append_nil, List.cons_append, List.nil_append]
  after_results_simp <;> rfl
theorem V_main_v3 : (V m c main_v3 : S1x1920.Idx → EReal) = shapeCast S1x1920 (m ((c.tc : Thread nD τ).loc main_arg4)) shapeCasts_S1920_S1x1920 := by
  show Gen.V0 m c (Proc.devRef .tc main_v3) = _
  simp only [Gen.V0, Gen.hostOps0, List.flatten_cons, List.flatten_nil, List.append_nil, List.cons_append, List.nil_append]
  after_results_simp <;> rfl
theorem V_main_v4 : (V m c main_v4 : S1x1.Idx → EReal) = shapeCast S1x1 (m ((c.tc : Thread nD τ).loc main_arg5)) shapeCasts_S_S1x1 := by
  show Gen.V0 m c (Proc.devRef .tc main_v4) = _
  simp only [Gen.V0, Gen.hostOps0, List.flatten_cons, List.flatten_nil, List.append_nil, List.cons_append, List.nil_append]
  after_results_simp <;> rfl
theorem V_main_v5 : (V m c main_v5 : S1x1920.Idx → EReal) = shapeCast S1x1920 (m ((c.tc : Thread nD τ).loc main_arg6)) shapeCasts_S1920_S1x1920 := by
  show Gen.V0 m c (Proc.devRef .tc main_v5) = _
  simp only [Gen.V0, Gen.hostOps0, List.flatten_cons, List.flatten_nil, List.append_nil, List.cons_append, List.nil_append]
  after_results_simp <;> rfl

/-! ## The results of the arguments -/

/-- An operand with its rows in one axis. -/
abbrev flat (a : S4x3072x7040.Idx → EReal) : S12288x7040.Idx → EReal := shapeCast S12288x7040 a shapeCasts_S4x3072x7040_S12288x7040

/-- The sum. -/
def hRes (a0 a1 : S4x3072x7040.Idx → EReal) : S4x3072x7040.Idx → EReal :=
  shapeCast S4x3072x7040 (fun i => flat a0 i + flat a1 i : S12288x7040.Idx → EReal) shapeCasts_S12288x7040_S4x3072x7040

/-- The codes, with their rows in one axis. -/
def cFlat (a0 a1 : S4x3072x7040.Idx → EReal) (a2 : S7040.Idx → EReal) (a5 : S_.Idx → EReal) : S12288x7040.Idx → EReal :=
  cA (flat a0) (flat a1) (fun j => a2 (ix1 j)) (a5 ix0)

/-- The codes. -/
def cRes (a0 a1 : S4x3072x7040.Idx → EReal) (a2 : S7040.Idx → EReal) (a5 : S_.Idx → EReal) : S4x3072x7040.Idx → EReal :=
  shapeCast S4x3072x7040 (cFlat a0 a1 a2 a5) shapeCasts_S12288x7040_S4x3072x7040

/-- The product, with its rows in one axis. -/
def yFlat (a0 a1 : S4x3072x7040.Idx → EReal) (a2 : S7040.Idx → EReal) (a3 : S1920x7040.Idx → EReal) (a4 : S1920.Idx → EReal) (a5 : S_.Idx → EReal) (a6 : S1920.Idx → EReal) :
    S12288x1920.Idx → EReal :=
  yA (cFlat a0 a1 a2 a5) (a5 ix0) a3 (fun n => a4 (ix1 n)) (fun n => a6 (ix1 n))

/-- The product. -/
def yRes (a0 a1 : S4x3072x7040.Idx → EReal) (a2 : S7040.Idx → EReal) (a3 : S1920x7040.Idx → EReal) (a4 : S1920.Idx → EReal) (a5 : S_.Idx → EReal) (a6 : S1920.Idx → EReal) :
    S4x3072x1920.Idx → EReal :=
  shapeCast S4x3072x1920 (yFlat a0 a1 a2 a3 a4 a5 a6) shapeCasts_S12288x1920_S4x3072x1920

/-- An argument array at the launch. -/
abbrev arg (b : Ref sig .tc) : Buf (Elt Ideal) ((c.tc : Thread nD τ).loc b) := m ((c.tc : Thread nD τ).loc b)

theorem gV_eq : gV m c = fun j => (arg m c main_arg2 : S7040.Idx → EReal) (ix1 j) := by
  funext j
  show (V m c main_v2 : S1x7040.Idx → EReal) (ix2 0 j) = _
  rw [V_main_v2]
  exact ValueIdx.shapeCast_a_1a_apply _ _ 0 j
theorem wsV_eq : wsV m c = fun n => (arg m c main_arg4 : S1920.Idx → EReal) (ix1 n) := by
  funext n
  show (V m c main_v3 : S1x1920.Idx → EReal) (ix2 0 n) = _
  rw [V_main_v3]
  exact ValueIdx.shapeCast_a_1a_apply _ _ 0 n
theorem bV_eq : bV m c = fun n => (arg m c main_arg6 : S1920.Idx → EReal) (ix1 n) := by
  funext n
  show (V m c main_v5 : S1x1920.Idx → EReal) (ix2 0 n) = _
  rw [V_main_v5]
  exact ValueIdx.shapeCast_a_1a_apply _ _ 0 n
theorem sV_eq : sV m c = (arg m c main_arg5 : S_.Idx → EReal) ix0 := by
  show (V m c main_v4 : S1x1.Idx → EReal) (ix2 0 0) = _
  rw [V_main_v4]
  exact congrArg (arg m c main_arg5 : S_.Idx → EReal) (funext fun a => a.elim0)

theorem cA_eq : cA (xV m c) (rV m c) (gV m c) (sV m c) = cFlat (arg m c main_arg0) (arg m c main_arg1) (arg m c main_arg2) (arg m c main_arg5) := by
  rw [gV_eq, sV_eq, xV, rV, V_main_v0, V_main_v1]; rfl

theorem yA_eq : yA (cA (xV m c) (rV m c) (gV m c) (sV m c)) (sV m c) (wV m c) (wsV m c) (bV m c)
    = yFlat (arg m c main_arg0) (arg m c main_arg1) (arg m c main_arg2) (arg m c main_arg3) (arg m c main_arg4) (arg m c main_arg5) (arg m c main_arg6) := by
  rw [cA_eq, sV_eq, wsV_eq, bV_eq, wV, V_main_arg3]; rfl

/-- The buffers when the region is left. -/
abbrev exitV : Valuation τ sig (Elt Ideal) := Pipeline.withArrays spec0 c (V0 m c) fun w => (dats m 0 c).arrAt w cfg0.N

theorem exit6 : exitV m c (Proc.devRef .tc main_v6_0) = (dats m 0 c).arrAt 6 cfg0.N :=
  Pipeline.withArrays_arr spec0 launch0.win.arr_inj c (V0 m c) _ 6
theorem exit7 : exitV m c (Proc.devRef .tc main_v6_1) = (dats m 0 c).arrAt 7 cfg0.N :=
  Pipeline.withArrays_arr spec0 launch0.win.arr_inj c (V0 m c) _ 7
theorem exit8 : exitV m c (Proc.devRef .tc main_v6_2) = (dats m 0 c).arrAt 8 cfg0.N :=
  Pipeline.withArrays_arr spec0 launch0.win.arr_inj c (V0 m c) _ 8

theorem fin7 : Pipeline.afterTail₀ cfgs (dats m) 0 (V0 m) [hostOps1] c main_v7
    = yRes (arg m c main_arg0) (arg m c main_arg1) (arg m c main_arg2) (arg m c main_arg3) (arg m c main_arg4) (arg m c main_arg5) (arg m c main_arg6) :=
  (tail7 (exitV m c)).trans (by rw [exit6, arr6, yA_eq]; rfl)
theorem fin8 : Pipeline.afterTail₀ cfgs (dats m) 0 (V0 m) [hostOps1] c main_v8 = hRes (arg m c main_arg0) (arg m c main_arg1) :=
  (tail8 (exitV m c)).trans (by rw [exit7, arr7, xV, rV, V_main_v0, V_main_v1]; rfl)
theorem fin9 : Pipeline.afterTail₀ cfgs (dats m) 0 (V0 m) [hostOps1] c main_v9
    = cRes (arg m c main_arg0) (arg m c main_arg1) (arg m c main_arg2) (arg m c main_arg5) :=
  (tail9 (exitV m c)).trans (by rw [exit8, arr8, cA_eq]; rfl)

/-- The run at exact numbers: the three results as functions of the arguments, the arguments as launched. -/
theorem run_values (ρ : Dev nD → PrngReg) : θ_run defs (onTc (τ := τ) (main (F := Ideal))) ⟨m, fun _ => 0, ρ⟩ (fun r => ∀ c : Dev nD,
      r.2.mem ((c.tc : Thread nD τ).loc main_v7) = yRes (arg m c main_arg0) (arg m c main_arg1) (arg m c main_arg2) (arg m c main_arg3) (arg m c main_arg4) (arg m c main_arg5) (arg m c main_arg6)
      ∧ r.2.mem ((c.tc : Thread nD τ).loc main_v8) = hRes (arg m c main_arg0) (arg m c main_arg1)
      ∧ r.2.mem ((c.tc : Thread nD τ).loc main_v9) = cRes (arg m c main_arg0) (arg m c main_arg1) (arg m c main_arg2) (arg m c main_arg5)
      ∧ r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4
      ∧ r.2.mem ((c.tc : Thread nD τ).loc main_arg5) = arg m c main_arg5
      ∧ r.2.mem ((c.tc : Thread nD τ).loc main_arg6) = arg m c main_arg6) :=
  (θ_run defs _ _).mono (fun _ h c =>
    ⟨((h.1 c).2 main_v7 (Pipeline.mem_restRefs_of _ (by decide) (by decide))).trans (fin7 m c),
      ((h.1 c).2 main_v8 (Pipeline.mem_restRefs_of _ (by decide) (by decide))).trans (fin8 m c),
      ((h.1 c).2 main_v9 (Pipeline.mem_restRefs_of _ (by decide) (by decide))).trans (fin9 m c), args_of m h.1 c⟩) (run_main m ρ)

end Cert.KernelIdeal.Hand

end
-- ==== Proof.ReferenceIdealValues.lean ====
/-
  The reference's results at exact numbers, as the same functions of the arguments.
-/
module

public import proofs.«01_k».proof.Proof.KernelIdealArrays
public import proofs.«01_k».proof.Proof.Gen.ReferenceIdeal.Run

@[expose] public section

set_option maxRecDepth 65536

noncomputable section

namespace Cert.ReferenceIdeal.Hand

open Cert.ReferenceIdeal Cert.ReferenceIdeal.Gen
open Idealize.ShloMosaic hiding ix0 ix1 ix2 ix3
open Idealize.ShloMosaic.TcCoe
open Idealize.ShloMosaic.ValueIdx (ix0 ix1 ix2 ix3)
open Idealize.SL.Sem Idealize.ShloMosaic.StableHlo
open Cert.KernelIdeal.Hand (clip code prod cA yA rowSqA flat hRes cFlat cRes yFlat yRes)

/-- The reference's divisor, 7040. -/
theorem ofBits_7040 : Ideal.ofBits .f32 0x45DC0000#32 = ((7040 : ℝ) : EReal) := by
  simp [Ideal.ofBits, Ideal.ieee, -EReal.coe_mul]; norm_num

/-- The sum of two operands with their rows in one axis. -/
abbrev sumT (a0 a1 : FVec Ideal S4x3072x7040 .bf16) : FVec Ideal S12288x7040 .f32 :=
  addf (extf .f32 (shapeCast S12288x7040 a0 shapeCasts_S4x3072x7040_S12288x7040) bitsLt_bf16_f32) (extf .f32 (shapeCast S12288x7040 a1 shapeCasts_S4x3072x7040_S12288x7040) bitsLt_bf16_f32)

/-- The codes as the reference computes them, of the sum `h`. -/
abbrev codesT (h : FVec Ideal S12288x7040 .f32) (a2 : FVec Ideal S7040 .bf16) (a5 : FVec Ideal S_ .f32) : FVec Ideal S12288x7040 .fp8e4m3 :=
  Host.convertf .fp8e4m3 (minimumf (broadcastInDim S12288x7040 ![] bcast_S_S12288x7040 (id (constant S_ .f32 0x43E00000#32)))
    (maximumf (broadcastInDim S12288x7040 ![] bcast_S_S12288x7040 (id (constant S_ .f32 0xC3E00000#32)))
      (Host.divf (mulf (mulf h
        (broadcastInDim S12288x7040 ![0, 1] bcast_S12288x1_S12288x7040_0_1 (Host.rsqrt (addf (Host.divf (broadcastInDim S12288x1 ![0] bcast_S12288_S12288x1_0 (Host.reduceAdd (mulf h h) (constant S_ .f32 0x00000000#32) reducesTo_S12288x7040_S12288_d1 h_S_)) (broadcastInDim S12288x1 ![] bcast_S_S12288x1 (constant S_ .f32 0x45DC0000#32))) (broadcastInDim S12288x1 ![] bcast_S_S12288x1 (constant S_ .f32 0x358637BD#32))))))
        (broadcastInDim S12288x7040 ![0, 1] bcast_S1x7040_S12288x7040_0_1 (broadcastInDim S1x7040 ![1] bcast_S7040_S1x7040_1 (extf .f32 a2 bitsLt_bf16_f32)))) (broadcastInDim S12288x7040 ![] bcast_S_S12288x7040 a5))))

theorem sumT_apply (a0 a1 : FVec Ideal S4x3072x7040 .bf16) (i : S12288x7040.Idx) : sumT a0 a1 i = (flat a0 i + flat a1 i : EReal) := rfl

theorem codesT_apply (h : FVec Ideal S12288x7040 .f32) (a2 : FVec Ideal S7040 .bf16) (a5 : FVec Ideal S_ .f32) (r : Fin 12288) (j : Fin 7040) :
    codesT h a2 a5 (ix2 r j) = code (h (ix2 r j)) (∑ k : Fin 7040, h (ix2 r k) * h (ix2 r k)) (a2 (ix1 j)) (a5 ix0) := by
  unfold code clip
  pointwise [ofBits_7040, Ideal.div_coe (by norm_num : (7040 : ℝ) ≠ 0), ix0_eq_valueIdx, ix1_eq_valueIdx, ix2_eq_valueIdx]
  rfl

theorem codesT_eq (a0 a1 : FVec Ideal S4x3072x7040 .bf16) (a2 : FVec Ideal S7040 .bf16) (a5 : FVec Ideal S_ .f32) : codesT (sumT a0 a1) a2 a5 = cFlat a0 a1 a2 a5 := by
  funext i
  obtain ⟨r, j, rfl⟩ : ∃ (r : Fin 12288) (j : Fin 7040), i = ix2 r j := ⟨i 0, i 1, ValueIdx.eq_ix2 i⟩
  exact codesT_apply _ a2 a5 r j

/-! ## The product -/

theorem pay1_apply (q : Vec Ideal S12288x7040 .fp8e4m3) (w : Vec Ideal S1920x7040 .fp8e4m3) (r : Fin 12288) (n : Fin 1920) :
    k0_pay1 (F := Ideal) q w (ix2 r n) = (∑ j : Fin 7040, q (ix2 r j) * w (ix2 n j) : EReal) := by
  pointwise [k0_pay1, ix2_eq_valueIdx]

variable (m : (ℓ : Loc nD τ sig) → Buf (Elt Ideal) ℓ) (c : Dev nD)

/-- An argument array at the launch. -/
abbrev arg (b : Ref sig .tc) : Buf (Elt Ideal) ((c.tc : Thread nD τ).loc b) := m ((c.tc : Thread nD τ).loc b)

theorem out_eq (q : Vec Ideal S12288x7040 .fp8e4m3) (w : Vec Ideal S1920x7040 .fp8e4m3) : out0_2 (F := Ideal) q w = k0_pay1 (F := Ideal) q w := by
  unfold out0_2
  rw [View.canon_cons_unit_lit _ _ _ (by decide), View.ld_unit_lit _ _ (by decide), View.ld_unit_lit _ _ (by decide)]

theorem blk0 (t : Fin cfg0.N) : (iblk m c 0 t : S12288x7040.Idx → EReal) = V m c main_v22 := by
  funext y
  unfold iblk
  blk_simp
  refine congrArg (V m c main_v22) (funext fun a => Fin.ext ?_)
  match a with
  | ⟨0, _⟩ => blk_simp; show 0 * 12288 + (y 0).val = (y 0).val; omega
  | ⟨1, _⟩ => blk_simp; show 0 * 7040 + (y 1).val = (y 1).val; omega
theorem blk1 (t : Fin cfg0.N) : (iblk m c 1 t : S1920x7040.Idx → EReal) = V m c main_arg3 := by
  funext y
  unfold iblk
  blk_simp
  refine congrArg (V m c main_arg3) (funext fun a => Fin.ext ?_)
  match a with
  | ⟨0, _⟩ => blk_simp; show 0 * 1920 + (y 0).val = (y 0).val; omega
  | ⟨1, _⟩ => blk_simp; show 0 * 7040 + (y 1).val = (y 1).val; omega

theorem V_main_v22 : V m c main_v22 = codesT (sumT (arg m c main_arg0) (arg m c main_arg1)) (arg m c main_arg2) (arg m c main_arg5) :=
  (((Pipeline.withArrays_arr spec0 launch0.win.arr_inj c (V0 m c) _ 0).trans (((dats m 0 c).arrAt_in 0 rfl _).trans (A_eq m c 0))).symm).trans (Value.exit_main_v22 m c)

theorem reg_eq : Value.reg_main_v23 m c = k0_pay1 (F := Ideal) (cFlat (arg m c main_arg0) (arg m c main_arg1) (arg m c main_arg2) (arg m c main_arg5)) (arg m c main_arg3) := by
  unfold Value.reg_main_v23
  refine (dats m 0 c).arrAt_eq_of_covers 2 _ (by decide +kernel) fun t hf y => ?_
  blk_simp
  rw [after0_2, out_eq, blk0, blk1, V_main_v22, V_main_arg3, codesT_eq]
  refine congrArg _ (funext fun a => Fin.ext ?_)
  match a with
  | ⟨0, _⟩ => blk_simp; show (y 0).val = 0 * 12288 + (y 0).val; omega
  | ⟨1, _⟩ => blk_simp; show (y 1).val = 0 * 1920 + (y 1).val; omega

/-- The product as the reference finishes it. -/
abbrev prodT (p : FVec Ideal S12288x1920 .f32) (a4 : FVec Ideal S1920 .f32) (a5 : FVec Ideal S_ .f32) (a6 : FVec Ideal S1920 .bf16) : FVec Ideal S12288x1920 .bf16 :=
  truncf .bf16 (addf (mulf p (broadcastInDim S12288x1920 ![0, 1] bcast_S1x1920_S12288x1920_0_1 (broadcastInDim S1x1920 ![1] bcast_S1920_S1x1920_1
      (mulf (broadcastInDim S1920 ![] bcast_S_S1920 a5) a4))))
    (broadcastInDim S12288x1920 ![0, 1] bcast_S1x1920_S12288x1920_0_1 (broadcastInDim S1x1920 ![1] bcast_S1920_S1x1920_1 (extf .f32 a6 bitsLt_bf16_f32)))) bitsLt_bf16_f32

theorem prodT_apply (p : FVec Ideal S12288x1920 .f32) (a4 : FVec Ideal S1920 .f32) (a5 : FVec Ideal S_ .f32) (a6 : FVec Ideal S1920 .bf16) (r : Fin 12288) (n : Fin 1920) :
    prodT p a4 a5 a6 (ix2 r n) = (p (ix2 r n) * (a5 ix0 * a4 (ix1 n)) + a6 (ix1 n) : EReal) := by
  pointwise [ix0_eq_valueIdx, ix1_eq_valueIdx, ix2_eq_valueIdx]

theorem prodT_eq (a0 a1 : FVec Ideal S4x3072x7040 .bf16) (a2 : FVec Ideal S7040 .bf16) (a3 : Vec Ideal S1920x7040 .fp8e4m3) (a4 : FVec Ideal S1920 .f32) (a5 : FVec Ideal S_ .f32) (a6 : FVec Ideal S1920 .bf16) :
    prodT (k0_pay1 (F := Ideal) (cFlat a0 a1 a2 a5) a3) a4 a5 a6 = yFlat a0 a1 a2 a3 a4 a5 a6 := by
  funext i
  obtain ⟨r, n, rfl⟩ : ∃ (r : Fin 12288) (n : Fin 1920), i = ix2 r n := ⟨i 0, i 1, ValueIdx.eq_ix2 i⟩
  refine (prodT_apply _ a4 a5 a6 r n).trans ?_
  rw [pay1_apply]
  rfl

/-! ## The run -/

/-- The reference's run at exact numbers: its results the kernel's functions of the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v34) = yRes (arg m c main_arg0) (arg m c main_arg1) (arg m c main_arg2) (arg m c main_arg3) (arg m c main_arg4) (arg m c main_arg5) (arg m c main_arg6)
      ∧ r.2.mem ((c.tc : Thread nD τ).loc main_v36) = hRes (arg m c main_arg0) (arg m c main_arg1)
      ∧ r.2.mem ((c.tc : Thread nD τ).loc main_v37) = cRes (arg m c main_arg0) (arg m c main_arg1) (arg m c main_arg2) (arg m c main_arg5)
      ∧ r.2.mem ((c.tc : Thread nD τ).loc main_arg5) = arg m c main_arg5
      ∧ r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4
      ∧ r.2.mem ((c.tc : Thread nD τ).loc main_arg5) = arg m c main_arg5
      ∧ r.2.mem ((c.tc : Thread nD τ).loc main_arg6) = arg m c main_arg6) := by
  refine (θ_run defs _ _).mono (fun _ h c => ⟨(h c).1.trans ?_, (h c).2.1.trans ?_, (h c).2.2.1.trans ?_, (h c).2.2.2⟩) (Value.run m ρ)
  · rw [reg_eq]
    exact congrArg (fun z : S12288x1920.Idx → EReal => shapeCast S4x3072x1920 z shapeCasts_S12288x1920_S4x3072x1920) (prodT_eq _ _ _ _ _ _ _)
  · rfl
  · exact congrArg (fun z : S12288x7040.Idx → EReal => shapeCast S4x3072x7040 z shapeCasts_S12288x7040_S4x3072x7040) (codesT_eq _ _ _ _)

end Cert.ReferenceIdeal.Hand

end
-- ==== Proof.lean ====
/- The proof of the claim: the frames of the three programs, the idealization of the kernel, and the equality
    of what the kernel and the reference compute. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KernelFrame
public import proofs.«01_k».proof.Proof.KernelIdealFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealArrays
public import proofs.«01_k».proof.Proof.ReferenceIdealValues
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- At exact numbers the kernel's results and the reference's are the same functions of the arguments: the sum, the codes
    and the product; the fourth result is the scale, an argument, as it was. -/
theorem algebraic : Cert.algebraic_KernelIdeal_ReferenceIdeal := by
  intro m ρ m' ρ' _ hagree
  refine ⟨fun c => Cert.KernelIdeal.Hand.yRes (Cert.KernelIdeal.Hand.arg m c Cert.KernelIdeal.main_arg0)
      (Cert.KernelIdeal.Hand.arg m c Cert.KernelIdeal.main_arg1) (Cert.KernelIdeal.Hand.arg m c Cert.KernelIdeal.main_arg2)
      (Cert.KernelIdeal.Hand.arg m c Cert.KernelIdeal.main_arg3) (Cert.KernelIdeal.Hand.arg m c Cert.KernelIdeal.main_arg4)
      (Cert.KernelIdeal.Hand.arg m c Cert.KernelIdeal.main_arg5) (Cert.KernelIdeal.Hand.arg m c Cert.KernelIdeal.main_arg6),
    fun c => Cert.KernelIdeal.Hand.hRes (Cert.KernelIdeal.Hand.arg m c Cert.KernelIdeal.main_arg0)
      (Cert.KernelIdeal.Hand.arg m c Cert.KernelIdeal.main_arg1),
    fun c => Cert.KernelIdeal.Hand.cRes (Cert.KernelIdeal.Hand.arg m c Cert.KernelIdeal.main_arg0)
      (Cert.KernelIdeal.Hand.arg m c Cert.KernelIdeal.main_arg1) (Cert.KernelIdeal.Hand.arg m c Cert.KernelIdeal.main_arg2)
      (Cert.KernelIdeal.Hand.arg m c Cert.KernelIdeal.main_arg5),
    fun c => Cert.KernelIdeal.Hand.arg m c Cert.KernelIdeal.main_arg5, (θ_run Cert.KernelIdeal.defs _ _).mono (fun r h c => ?_) (Cert.KernelIdeal.Hand.run_values m ρ),
    (θ_run Cert.ReferenceIdeal.defs _ _).mono (fun r h c => ?_) (Cert.ReferenceIdeal.Hand.run_values m' ρ')⟩
  · obtain ⟨h7, h8, h9, h0, h1, h2, h3, h4, h5, h6⟩ := h c
    exact ⟨h7, h8, h9, h5, h0, h1, h2, h3, h4, h5, h6⟩
  · obtain ⟨h7, h8, h9, hs, hargs⟩ := h c
    obtain ⟨e0, e1, e2, e3, e4, e5, e6⟩ := hagree c
    refine ⟨h7.trans ?_, h8.trans ?_, h9.trans ?_, hs.trans e5, hargs⟩
    · dsimp only [Cert.ReferenceIdeal.Hand.arg, Cert.KernelIdeal.Hand.arg]
      rw [e0, e1, e2, e3, e4, e5, e6]
    · dsimp only [Cert.ReferenceIdeal.Hand.arg, Cert.KernelIdeal.Hand.arg]
      rw [e0, e1]
    · dsimp only [Cert.ReferenceIdeal.Hand.arg, Cert.KernelIdeal.Hand.arg]
      rw [e0, e1, e2, e5]

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  IdealRules.named_const.statement Cert.KernelIdeal.κ "inv_d" .f32 0x3914F209#32 ((1 / 7040 : ℝ) : EReal) rfl,
  algebraic⟩

end Cert.Proof

end
